-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsReferenceIdeal (m : (ℓ : Loc Cert.HeadsReferenceIdeal.nD Cert.HeadsReferenceIdeal.τ Cert.HeadsReferenceIdeal.sig) → Buf (Elt Ideal) ℓ) : Prop :=
  True

def Pre_Compact (m : (ℓ : Loc Cert.Compact.nD Cert.Compact.τ Cert.Compact.sig) → Buf (Elt Bits) ℓ) : Prop :=
  True

def Pre_CompactIdeal (m : (ℓ : Loc Cert.CompactIdeal.nD Cert.CompactIdeal.τ Cert.CompactIdeal.sig) → Buf (Elt Ideal) ℓ) : Prop :=
  True

def Pre_CompactIdeal_in_order [hPre_in_order : Cert.Pre_in_order.Facts] (m : (ℓ : Loc Cert.CompactIdeal.nD Cert.CompactIdeal.τ Cert.CompactIdeal.sig) → Buf (Elt Ideal) ℓ) : Prop :=
  ∀ c : Dev Cert.CompactIdeal.nD,
    (Cert.Pre_in_order.fn (F := Ideal) (m ((c.tc : Thread Cert.CompactIdeal.nD Cert.CompactIdeal.τ).loc Cert.CompactIdeal.main_arg0)) (m ((c.tc : Thread Cert.CompactIdeal.nD Cert.CompactIdeal.τ).loc Cert.CompactIdeal.main_arg1))) = (fun _ => 1#1)

def Pre_CompactReferenceIdeal (m : (ℓ : Loc Cert.CompactReferenceIdeal.nD Cert.CompactReferenceIdeal.τ Cert.CompactReferenceIdeal.sig) → Buf (Elt Ideal) ℓ) : Prop :=
  True

def Pre_CompactReferenceIdeal_in_order [hPre_in_order : Cert.Pre_in_order.Facts] (m : (ℓ : Loc Cert.CompactReferenceIdeal.nD Cert.CompactReferenceIdeal.τ Cert.CompactReferenceIdeal.sig) → Buf (Elt Ideal) ℓ) : Prop :=
  ∀ c : Dev Cert.CompactReferenceIdeal.nD,
    (Cert.Pre_in_order.fn (F := Ideal) (m ((c.tc : Thread Cert.CompactReferenceIdeal.nD Cert.CompactReferenceIdeal.τ).loc Cert.CompactReferenceIdeal.main_arg0)) (m ((c.tc : Thread Cert.CompactReferenceIdeal.nD Cert.CompactReferenceIdeal.τ).loc Cert.CompactReferenceIdeal.main_arg1))) = (fun _ => 1#1)

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeReferenceIdeal (m : (ℓ : Loc Cert.DecodeReferenceIdeal.nD Cert.DecodeReferenceIdeal.τ Cert.DecodeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5)
      ∧ r.2.mem ((c.tc : Thread Cert.Heads.nD Cert.Heads.τ).loc Cert.Heads.main_arg6) = m ((c.tc : Thread Cert.Heads.nD Cert.Heads.τ).loc Cert.Heads.main_arg6))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2)
      ∧ r.2.mem ((c.tc : Thread Cert.HeadsReferenceIdeal.nD Cert.HeadsReferenceIdeal.τ).loc Cert.HeadsReferenceIdeal.main_arg3) = m ((c.tc : Thread Cert.HeadsReferenceIdeal.nD Cert.HeadsReferenceIdeal.τ).loc Cert.HeadsReferenceIdeal.main_arg3)
      ∧ r.2.mem ((c.tc : Thread Cert.HeadsReferenceIdeal.nD Cert.HeadsReferenceIdeal.τ).loc Cert.HeadsReferenceIdeal.main_arg4) = m ((c.tc : Thread Cert.HeadsReferenceIdeal.nD Cert.HeadsReferenceIdeal.τ).loc Cert.HeadsReferenceIdeal.main_arg4)
      ∧ r.2.mem ((c.tc : Thread Cert.HeadsReferenceIdeal.nD Cert.HeadsReferenceIdeal.τ).loc Cert.HeadsReferenceIdeal.main_arg5) = m ((c.tc : Thread Cert.HeadsReferenceIdeal.nD Cert.HeadsReferenceIdeal.τ).loc Cert.HeadsReferenceIdeal.main_arg5)
      ∧ r.2.mem ((c.tc : Thread Cert.HeadsReferenceIdeal.nD Cert.HeadsReferenceIdeal.τ).loc Cert.HeadsReferenceIdeal.main_arg6) = m ((c.tc : Thread Cert.HeadsReferenceIdeal.nD Cert.HeadsReferenceIdeal.τ).loc Cert.HeadsReferenceIdeal.main_arg6))
      ∧ r.2.sem = fun _ => 0)

def quiescent_Compact [hCompact : Cert.Compact.Facts] : Prop :=
  ∀ (m : (ℓ : Loc Cert.Compact.nD Cert.Compact.τ Cert.Compact.sig) → Buf (Elt Bits) ℓ) (g : Dev Cert.Compact.nD → PrngReg), Pre_Compact m →
    θ_run (Cert.Compact.defs (F := Bits)) (onTc (τ := Cert.Compact.τ) (Cert.Compact.main (F := Bits))) ⟨m, fun _ => 0, g⟩ (fun r => (∀ c : Dev Cert.Compact.nD,
      r.2.mem ((c.tc : Thread Cert.Compact.nD Cert.Compact.τ).loc Cert.Compact.main_arg0) = m ((c.tc : Thread Cert.Compact.nD Cert.Compact.τ).loc Cert.Compact.main_arg0)
      ∧ r.2.mem ((c.tc : Thread Cert.Compact.nD Cert.Compact.τ).loc Cert.Compact.main_arg1) = m ((c.tc : Thread Cert.Compact.nD Cert.Compact.τ).loc Cert.Compact.main_arg1))
      ∧ r.2.sem = fun _ => 0)

def quiescent_CompactIdeal [hCompactIdeal : Cert.CompactIdeal.Facts] : Prop :=
  ∀ (m : (ℓ : Loc Cert.CompactIdeal.nD Cert.CompactIdeal.τ Cert.CompactIdeal.sig) → Buf (Elt Ideal) ℓ) (g : Dev Cert.CompactIdeal.nD → PrngReg), Pre_CompactIdeal m →
    θ_run (Cert.CompactIdeal.defs (F := Ideal)) (onTc (τ := Cert.CompactIdeal.τ) (Cert.CompactIdeal.main (F := Ideal))) ⟨m, fun _ => 0, g⟩ (fun r => (∀ c : Dev Cert.CompactIdeal.nD,
      r.2.mem ((c.tc : Thread Cert.CompactIdeal.nD Cert.CompactIdeal.τ).loc Cert.CompactIdeal.main_arg0) = m ((c.tc : Thread Cert.CompactIdeal.nD Cert.CompactIdeal.τ).loc Cert.CompactIdeal.main_arg0)
      ∧ r.2.mem ((c.tc : Thread Cert.CompactIdeal.nD Cert.CompactIdeal.τ).loc Cert.CompactIdeal.main_arg1) = m ((c.tc : Thread Cert.CompactIdeal.nD Cert.CompactIdeal.τ).loc Cert.CompactIdeal.main_arg1))
      ∧ r.2.sem = fun _ => 0)

def quiescent_CompactIdeal_pre_in_order [hCompactIdeal : Cert.CompactIdeal.Facts] [hPre_in_order : Cert.Pre_in_order.Facts] : Prop :=
  ∀ (m : (ℓ : Loc Cert.CompactIdeal.nD Cert.CompactIdeal.τ Cert.CompactIdeal.sig) → Buf (Elt Ideal) ℓ) (g : Dev Cert.CompactIdeal.nD → PrngReg), Pre_CompactIdeal_in_order m →
    θ_run (Cert.CompactIdeal.defs (F := Ideal)) (onTc (τ := Cert.CompactIdeal.τ) (Cert.CompactIdeal.main (F := Ideal))) ⟨m, fun _ => 0, g⟩ (fun r => (∀ c : Dev Cert.CompactIdeal.nD,
      r.2.mem ((c.tc : Thread Cert.CompactIdeal.nD Cert.CompactIdeal.τ).loc Cert.CompactIdeal.main_arg0) = m ((c.tc : Thread Cert.CompactIdeal.nD Cert.CompactIdeal.τ).loc Cert.CompactIdeal.main_arg0)
      ∧ r.2.mem ((c.tc : Thread Cert.CompactIdeal.nD Cert.CompactIdeal.τ).loc Cert.CompactIdeal.main_arg1) = m ((c.tc : Thread Cert.CompactIdeal.nD Cert.CompactIdeal.τ).loc Cert.CompactIdeal.main_arg1))
      ∧ r.2.sem = fun _ => 0)

def quiescent_CompactReferenceIdeal [hCompactReferenceIdeal : Cert.CompactReferenceIdeal.Facts] : Prop :=
  ∀ (m : (ℓ : Loc Cert.CompactReferenceIdeal.nD Cert.CompactReferenceIdeal.τ Cert.CompactReferenceIdeal.sig) → Buf (Elt Ideal) ℓ) (g : Dev Cert.CompactReferenceIdeal.nD → PrngReg), Pre_CompactReferenceIdeal m →
    θ_run (Cert.CompactReferenceIdeal.defs (F := Ideal)) (onTc (τ := Cert.CompactReferenceIdeal.τ) (Cert.CompactReferenceIdeal.main (F := Ideal))) ⟨m, fun _ => 0, g⟩ (fun r => (∀ c : Dev Cert.CompactReferenceIdeal.nD,
      r.2.mem ((c.tc : Thread Cert.CompactReferenceIdeal.nD Cert.CompactReferenceIdeal.τ).loc Cert.CompactReferenceIdeal.main_arg0) = m ((c.tc : Thread Cert.CompactReferenceIdeal.nD Cert.CompactReferenceIdeal.τ).loc Cert.CompactReferenceIdeal.main_arg0)
      ∧ r.2.mem ((c.tc : Thread Cert.CompactReferenceIdeal.nD Cert.CompactReferenceIdeal.τ).loc Cert.CompactReferenceIdeal.main_arg1) = m ((c.tc : Thread Cert.CompactReferenceIdeal.nD Cert.CompactReferenceIdeal.τ).loc Cert.CompactReferenceIdeal.main_arg1))
      ∧ r.2.sem = fun _ => 0)

def quiescent_CompactReferenceIdeal_pre_in_order [hCompactReferenceIdeal : Cert.CompactReferenceIdeal.Facts] [hPre_in_order : Cert.Pre_in_order.Facts] : Prop :=
  ∀ (m : (ℓ : Loc Cert.CompactReferenceIdeal.nD Cert.CompactReferenceIdeal.τ Cert.CompactReferenceIdeal.sig) → Buf (Elt Ideal) ℓ) (g : Dev Cert.CompactReferenceIdeal.nD → PrngReg), Pre_CompactReferenceIdeal_in_order m →
    θ_run (Cert.CompactReferenceIdeal.defs (F := Ideal)) (onTc (τ := Cert.CompactReferenceIdeal.τ) (Cert.CompactReferenceIdeal.main (F := Ideal))) ⟨m, fun _ => 0, g⟩ (fun r => (∀ c : Dev Cert.CompactReferenceIdeal.nD,
      r.2.mem ((c.tc : Thread Cert.CompactReferenceIdeal.nD Cert.CompactReferenceIdeal.τ).loc Cert.CompactReferenceIdeal.main_arg0) = m ((c.tc : Thread Cert.CompactReferenceIdeal.nD Cert.CompactReferenceIdeal.τ).loc Cert.CompactReferenceIdeal.main_arg0)
      ∧ r.2.mem ((c.tc : Thread Cert.CompactReferenceIdeal.nD Cert.CompactReferenceIdeal.τ).loc Cert.CompactReferenceIdeal.main_arg1) = m ((c.tc : Thread Cert.CompactReferenceIdeal.nD Cert.CompactReferenceIdeal.τ).loc Cert.CompactReferenceIdeal.main_arg1))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1))
      ∧ r.2.sem = fun _ => 0)

def quiescent_DecodeReferenceIdeal [hDecodeReferenceIdeal : Cert.DecodeReferenceIdeal.Facts] : Prop :=
  ∀ (m : (ℓ : Loc Cert.DecodeReferenceIdeal.nD Cert.DecodeReferenceIdeal.τ Cert.DecodeReferenceIdeal.sig) → Buf (Elt Ideal) ℓ) (g : Dev Cert.DecodeReferenceIdeal.nD → PrngReg), Pre_DecodeReferenceIdeal m →
    θ_run (Cert.DecodeReferenceIdeal.defs (F := Ideal)) (onTc (τ := Cert.DecodeReferenceIdeal.τ) (Cert.DecodeReferenceIdeal.main (F := Ideal))) ⟨m, fun _ => 0, g⟩ (fun r => (∀ c : Dev Cert.DecodeReferenceIdeal.nD,
      r.2.mem ((c.tc : Thread Cert.DecodeReferenceIdeal.nD Cert.DecodeReferenceIdeal.τ).loc Cert.DecodeReferenceIdeal.main_arg0) = m ((c.tc : Thread Cert.DecodeReferenceIdeal.nD Cert.DecodeReferenceIdeal.τ).loc Cert.DecodeReferenceIdeal.main_arg0)
      ∧ r.2.mem ((c.tc : Thread Cert.DecodeReferenceIdeal.nD Cert.DecodeReferenceIdeal.τ).loc Cert.DecodeReferenceIdeal.main_arg1) = m ((c.tc : Thread Cert.DecodeReferenceIdeal.nD Cert.DecodeReferenceIdeal.τ).loc Cert.DecodeReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Heads_HeadsIdeal : Prop :=
  True

def algebraic_HeadsIdeal_HeadsReferenceIdeal [hHeadsIdeal : Cert.HeadsIdeal.Facts] [hHeadsReferenceIdeal : Cert.HeadsReferenceIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsIdeal m →
    (∀ c : Dev Cert.HeadsIdeal.nD,
      m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0)
      ∧ m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)
      ∧ m' ((c.tc : Thread Cert.HeadsReferenceIdeal.nD Cert.HeadsReferenceIdeal.τ).loc Cert.HeadsReferenceIdeal.main_arg2) = m ((c.tc : Thread Cert.HeadsIdeal.nD Cert.HeadsIdeal.τ).loc Cert.HeadsIdeal.main_arg2)
      ∧ m' ((c.tc : Thread Cert.HeadsReferenceIdeal.nD Cert.HeadsReferenceIdeal.τ).loc Cert.HeadsReferenceIdeal.main_arg3) = m ((c.tc : Thread Cert.HeadsIdeal.nD Cert.HeadsIdeal.τ).loc Cert.HeadsIdeal.main_arg3)
      ∧ m' ((c.tc : Thread Cert.HeadsReferenceIdeal.nD Cert.HeadsReferenceIdeal.τ).loc Cert.HeadsReferenceIdeal.main_arg4) = m ((c.tc : Thread Cert.HeadsIdeal.nD Cert.HeadsIdeal.τ).loc Cert.HeadsIdeal.main_arg4)
      ∧ m' ((c.tc : Thread Cert.HeadsReferenceIdeal.nD Cert.HeadsReferenceIdeal.τ).loc Cert.HeadsReferenceIdeal.main_arg5) = m ((c.tc : Thread Cert.HeadsIdeal.nD Cert.HeadsIdeal.τ).loc Cert.HeadsIdeal.main_arg5)
      ∧ m' ((c.tc : Thread Cert.HeadsReferenceIdeal.nD Cert.HeadsReferenceIdeal.τ).loc Cert.HeadsReferenceIdeal.main_arg6) = m ((c.tc : Thread Cert.HeadsIdeal.nD Cert.HeadsIdeal.τ).loc Cert.HeadsIdeal.main_arg6)) →
    ∃ (v0 : (c : Dev Cert.HeadsIdeal.nD) → Buf (Elt Ideal) ((c.tc : Thread Cert.HeadsIdeal.nD Cert.HeadsIdeal.τ).loc Cert.HeadsIdeal.main_v43)) (v1 : (c : Dev Cert.HeadsIdeal.nD) → Buf (Elt Ideal) ((c.tc : Thread Cert.HeadsIdeal.nD Cert.HeadsIdeal.τ).loc Cert.HeadsIdeal.main_v45)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v43) = v0 c
          ∧ r.2.mem ((c.tc : Thread Cert.HeadsIdeal.nD Cert.HeadsIdeal.τ).loc Cert.HeadsIdeal.main_v45) = v1 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v72) = v0 c
          ∧ r.2.mem ((c.tc : Thread Cert.HeadsReferenceIdeal.nD Cert.HeadsReferenceIdeal.τ).loc Cert.HeadsReferenceIdeal.main_v74) = v1 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1)
          ∧ r.2.mem ((c.tc : Thread Cert.HeadsReferenceIdeal.nD Cert.HeadsReferenceIdeal.τ).loc Cert.HeadsReferenceIdeal.main_arg2) = m' ((c.tc : Thread Cert.HeadsReferenceIdeal.nD Cert.HeadsReferenceIdeal.τ).loc Cert.HeadsReferenceIdeal.main_arg2)
          ∧ r.2.mem ((c.tc : Thread Cert.HeadsReferenceIdeal.nD Cert.HeadsReferenceIdeal.τ).loc Cert.HeadsReferenceIdeal.main_arg3) = m' ((c.tc : Thread Cert.HeadsReferenceIdeal.nD Cert.HeadsReferenceIdeal.τ).loc Cert.HeadsReferenceIdeal.main_arg3)
          ∧ r.2.mem ((c.tc : Thread Cert.HeadsReferenceIdeal.nD Cert.HeadsReferenceIdeal.τ).loc Cert.HeadsReferenceIdeal.main_arg4) = m' ((c.tc : Thread Cert.HeadsReferenceIdeal.nD Cert.HeadsReferenceIdeal.τ).loc Cert.HeadsReferenceIdeal.main_arg4)
          ∧ r.2.mem ((c.tc : Thread Cert.HeadsReferenceIdeal.nD Cert.HeadsReferenceIdeal.τ).loc Cert.HeadsReferenceIdeal.main_arg5) = m' ((c.tc : Thread Cert.HeadsReferenceIdeal.nD Cert.HeadsReferenceIdeal.τ).loc Cert.HeadsReferenceIdeal.main_arg5)
          ∧ r.2.mem ((c.tc : Thread Cert.HeadsReferenceIdeal.nD Cert.HeadsReferenceIdeal.τ).loc Cert.HeadsReferenceIdeal.main_arg6) = m' ((c.tc : Thread Cert.HeadsReferenceIdeal.nD Cert.HeadsReferenceIdeal.τ).loc Cert.HeadsReferenceIdeal.main_arg6))

def preserves_Compact_CompactIdeal : Prop :=
  True

def algebraic_CompactIdeal_CompactReferenceIdeal_pre_in_order [hCompactIdeal : Cert.CompactIdeal.Facts] [hCompactReferenceIdeal : Cert.CompactReferenceIdeal.Facts] [hPre_in_order : Cert.Pre_in_order.Facts] : Prop :=
  ∀ (m : (ℓ : Loc Cert.CompactIdeal.nD Cert.CompactIdeal.τ Cert.CompactIdeal.sig) → Buf (Elt Ideal) ℓ) (g : Dev Cert.CompactIdeal.nD → PrngReg)
    (m' : (ℓ : Loc Cert.CompactReferenceIdeal.nD Cert.CompactReferenceIdeal.τ Cert.CompactReferenceIdeal.sig) → Buf (Elt Ideal) ℓ) (g' : Dev Cert.CompactReferenceIdeal.nD → PrngReg), Pre_CompactIdeal_in_order m →
    (∀ c : Dev Cert.CompactIdeal.nD,
      m' ((c.tc : Thread Cert.CompactReferenceIdeal.nD Cert.CompactReferenceIdeal.τ).loc Cert.CompactReferenceIdeal.main_arg0) = m ((c.tc : Thread Cert.CompactIdeal.nD Cert.CompactIdeal.τ).loc Cert.CompactIdeal.main_arg0)
      ∧ m' ((c.tc : Thread Cert.CompactReferenceIdeal.nD Cert.CompactReferenceIdeal.τ).loc Cert.CompactReferenceIdeal.main_arg1) = m ((c.tc : Thread Cert.CompactIdeal.nD Cert.CompactIdeal.τ).loc Cert.CompactIdeal.main_arg1)) →
    ∃ (v0 : (c : Dev Cert.CompactIdeal.nD) → Buf (Elt Ideal) ((c.tc : Thread Cert.CompactIdeal.nD Cert.CompactIdeal.τ).loc Cert.CompactIdeal.main_v5)) (v1 : (c : Dev Cert.CompactIdeal.nD) → Buf (Elt Ideal) ((c.tc : Thread Cert.CompactIdeal.nD Cert.CompactIdeal.τ).loc Cert.CompactIdeal.main_v7)),
      θ_run (Cert.CompactIdeal.defs (F := Ideal)) (onTc (τ := Cert.CompactIdeal.τ) (Cert.CompactIdeal.main (F := Ideal))) ⟨m, fun _ => 0, g⟩ (fun r => ∀ c : Dev Cert.CompactIdeal.nD,
          r.2.mem ((c.tc : Thread Cert.CompactIdeal.nD Cert.CompactIdeal.τ).loc Cert.CompactIdeal.main_v5) = v0 c
          ∧ r.2.mem ((c.tc : Thread Cert.CompactIdeal.nD Cert.CompactIdeal.τ).loc Cert.CompactIdeal.main_v7) = v1 c
          ∧ r.2.mem ((c.tc : Thread Cert.CompactIdeal.nD Cert.CompactIdeal.τ).loc Cert.CompactIdeal.main_arg0) = m ((c.tc : Thread Cert.CompactIdeal.nD Cert.CompactIdeal.τ).loc Cert.CompactIdeal.main_arg0)
          ∧ r.2.mem ((c.tc : Thread Cert.CompactIdeal.nD Cert.CompactIdeal.τ).loc Cert.CompactIdeal.main_arg1) = m ((c.tc : Thread Cert.CompactIdeal.nD Cert.CompactIdeal.τ).loc Cert.CompactIdeal.main_arg1))
      ∧ θ_run (Cert.CompactReferenceIdeal.defs (F := Ideal)) (onTc (τ := Cert.CompactReferenceIdeal.τ) (Cert.CompactReferenceIdeal.main (F := Ideal))) ⟨m', fun _ => 0, g'⟩ (fun r => ∀ c : Dev Cert.CompactReferenceIdeal.nD,
          r.2.mem ((c.tc : Thread Cert.CompactReferenceIdeal.nD Cert.CompactReferenceIdeal.τ).loc Cert.CompactReferenceIdeal.main_v22) = v0 c
          ∧ r.2.mem ((c.tc : Thread Cert.CompactReferenceIdeal.nD Cert.CompactReferenceIdeal.τ).loc Cert.CompactReferenceIdeal.main_v30) = v1 c
          ∧ r.2.mem ((c.tc : Thread Cert.CompactReferenceIdeal.nD Cert.CompactReferenceIdeal.τ).loc Cert.CompactReferenceIdeal.main_arg0) = m' ((c.tc : Thread Cert.CompactReferenceIdeal.nD Cert.CompactReferenceIdeal.τ).loc Cert.CompactReferenceIdeal.main_arg0)
          ∧ r.2.mem ((c.tc : Thread Cert.CompactReferenceIdeal.nD Cert.CompactReferenceIdeal.τ).loc Cert.CompactReferenceIdeal.main_arg1) = m' ((c.tc : Thread Cert.CompactReferenceIdeal.nD Cert.CompactReferenceIdeal.τ).loc Cert.CompactReferenceIdeal.main_arg1))

def preserves_Decode_DecodeIdeal : Prop :=
  True

def algebraic_DecodeIdeal_DecodeReferenceIdeal [hDecodeIdeal : Cert.DecodeIdeal.Facts] [hDecodeReferenceIdeal : Cert.DecodeReferenceIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeReferenceIdeal.nD Cert.DecodeReferenceIdeal.τ Cert.DecodeReferenceIdeal.sig) → Buf (Elt Ideal) ℓ) (g' : Dev Cert.DecodeReferenceIdeal.nD → PrngReg), Pre_DecodeIdeal m →
    (∀ c : Dev Cert.DecodeIdeal.nD,
      m' ((c.tc : Thread Cert.DecodeReferenceIdeal.nD Cert.DecodeReferenceIdeal.τ).loc Cert.DecodeReferenceIdeal.main_arg0) = m ((c.tc : Thread Cert.DecodeIdeal.nD Cert.DecodeIdeal.τ).loc Cert.DecodeIdeal.main_arg0)
      ∧ m' ((c.tc : Thread Cert.DecodeReferenceIdeal.nD Cert.DecodeReferenceIdeal.τ).loc Cert.DecodeReferenceIdeal.main_arg1) = m ((c.tc : Thread Cert.DecodeIdeal.nD Cert.DecodeIdeal.τ).loc Cert.DecodeIdeal.main_arg1)) →
    ∃ (v0 : (c : Dev Cert.DecodeIdeal.nD) → Buf (Elt Ideal) ((c.tc : Thread Cert.DecodeIdeal.nD Cert.DecodeIdeal.τ).loc Cert.DecodeIdeal.main_v101)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v101) = v0 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1))
      ∧ θ_run (Cert.DecodeReferenceIdeal.defs (F := Ideal)) (onTc (τ := Cert.DecodeReferenceIdeal.τ) (Cert.DecodeReferenceIdeal.main (F := Ideal))) ⟨m', fun _ => 0, g'⟩ (fun r => ∀ c : Dev Cert.DecodeReferenceIdeal.nD,
          r.2.mem ((c.tc : Thread Cert.DecodeReferenceIdeal.nD Cert.DecodeReferenceIdeal.τ).loc Cert.DecodeReferenceIdeal.main_v122) = v0 c
          ∧ r.2.mem ((c.tc : Thread Cert.DecodeReferenceIdeal.nD Cert.DecodeReferenceIdeal.τ).loc Cert.DecodeReferenceIdeal.main_arg0) = m' ((c.tc : Thread Cert.DecodeReferenceIdeal.nD Cert.DecodeReferenceIdeal.τ).loc Cert.DecodeReferenceIdeal.main_arg0)
          ∧ r.2.mem ((c.tc : Thread Cert.DecodeReferenceIdeal.nD Cert.DecodeReferenceIdeal.τ).loc Cert.DecodeReferenceIdeal.main_arg1) = m' ((c.tc : Thread Cert.DecodeReferenceIdeal.nD Cert.DecodeReferenceIdeal.τ).loc Cert.DecodeReferenceIdeal.main_arg1))

def Claim : Prop :=
  ∃ (hKernel : Cert.Kernel.Facts) (hKernelIdeal : Cert.KernelIdeal.Facts) (hReferenceIdeal : Cert.ReferenceIdeal.Facts) (hHeads : Cert.Heads.Facts) (hHeadsIdeal : Cert.HeadsIdeal.Facts) (hHeadsReferenceIdeal : Cert.HeadsReferenceIdeal.Facts) (hCompact : Cert.Compact.Facts) (hCompactIdeal : Cert.CompactIdeal.Facts) (hCompactReferenceIdeal : Cert.CompactReferenceIdeal.Facts) (hDecode : Cert.Decode.Facts) (hDecodeIdeal : Cert.DecodeIdeal.Facts) (hDecodeReferenceIdeal : Cert.DecodeReferenceIdeal.Facts) (hPre_in_order : Cert.Pre_in_order.Facts),
    quiescent_Kernel (hKernel := hKernel)
    ∧ quiescent_KernelIdeal (hKernelIdeal := hKernelIdeal)
    ∧ quiescent_ReferenceIdeal (hReferenceIdeal := hReferenceIdeal)
    ∧ quiescent_Heads (hHeads := hHeads)
    ∧ quiescent_HeadsIdeal (hHeadsIdeal := hHeadsIdeal)
    ∧ quiescent_HeadsReferenceIdeal (hHeadsReferenceIdeal := hHeadsReferenceIdeal)
    ∧ quiescent_Compact (hCompact := hCompact)
    ∧ quiescent_CompactIdeal (hCompactIdeal := hCompactIdeal)
    ∧ quiescent_CompactIdeal_pre_in_order (hCompactIdeal := hCompactIdeal) (hPre_in_order := hPre_in_order)
    ∧ quiescent_CompactReferenceIdeal (hCompactReferenceIdeal := hCompactReferenceIdeal)
    ∧ quiescent_CompactReferenceIdeal_pre_in_order (hCompactReferenceIdeal := hCompactReferenceIdeal) (hPre_in_order := hPre_in_order)
    ∧ quiescent_Decode (hDecode := hDecode)
    ∧ quiescent_DecodeIdeal (hDecodeIdeal := hDecodeIdeal)
    ∧ quiescent_DecodeReferenceIdeal (hDecodeReferenceIdeal := hDecodeReferenceIdeal)
    ∧ preserves_Kernel_KernelIdeal
    ∧ algebraic_KernelIdeal_ReferenceIdeal (hKernelIdeal := hKernelIdeal) (hReferenceIdeal := hReferenceIdeal)
    ∧ preserves_Heads_HeadsIdeal
    ∧ algebraic_HeadsIdeal_HeadsReferenceIdeal (hHeadsIdeal := hHeadsIdeal) (hHeadsReferenceIdeal := hHeadsReferenceIdeal)
    ∧ preserves_Compact_CompactIdeal
    ∧ algebraic_CompactIdeal_CompactReferenceIdeal_pre_in_order (hCompactIdeal := hCompactIdeal) (hCompactReferenceIdeal := hCompactReferenceIdeal) (hPre_in_order := hPre_in_order)
    ∧ preserves_Decode_DecodeIdeal
    ∧ algebraic_DecodeIdeal_DecodeReferenceIdeal (hDecodeIdeal := hDecodeIdeal) (hDecodeReferenceIdeal := hDecodeReferenceIdeal)
-- ==== Pre_in_order.lean ====
abbrev S10240x8 : Shape := ⟨2, ![10240, 8]⟩
abbrev S80x1x128 : Shape := ⟨3, ![80, 1, 128]⟩
abbrev S10240x1 : Shape := ⟨2, ![10240, 1]⟩
abbrev S10240 : Shape := ⟨1, ![10240]⟩
abbrev S10239 : Shape := ⟨1, ![10239]⟩
abbrev S_ : Shape := ⟨0, ![]⟩

class Facts : Prop where
  slices_S10240x8_S10240x1_0_6 : S10240x8.Slices ![0, 6] S10240x1
  shapeCasts_S10240x1_S10240 : S10240x1.ShapeCasts S10240
  slices_S10240_S10239_0 : S10240.Slices ![0] S10239
  slices_S10240_S10239_1 : S10240.Slices ![1] S10239
  reducesTo_S10239_S_d0 : S10239.ReducesTo [0] S_
  h_S_ : 0 < S_.numel
  bcast_S_S10240 : S_.BroadcastsInDim S10240 (![] : Fin 0 → Fin S10240.rank)
  reducesTo_S10240_S_d0 : S10240.ReducesTo [0] S_
  bcast_S_S80x1x128 : S_.BroadcastsInDim S80x1x128 (![] : Fin 0 → Fin S80x1x128.rank)
  reducesTo_S80x1x128_S_d0_1_2 : S80x1x128.ReducesTo [0, 1, 2] S_

variable [Facts]

def fn {F : FTy → Type} [FloatOps F] (main_arg0 : FVec F S10240x8 .f32) (main_arg1 : FVec F S80x1x128 .f32) : IVec S_ 1 :=
  let main_v0 : FVec F S10240x1 .f32 := (extractStridedSlice S10240x1 ![0, 6] · slices_S10240x8_S10240x1_0_6) main_arg0
  let main_v1 : FVec F S10240 .f32 := shapeCast S10240 main_v0 shapeCasts_S10240x1_S10240
  let main_v2 : FVec F S10239 .f32 := (extractStridedSlice S10239 ![0] · slices_S10240_S10239_0) main_v1
  let main_v3 : FVec F S10239 .f32 := (extractStridedSlice S10239 ![1] · slices_S10240_S10239_1) main_v1
  let main_v4 : IVec S10239 1 := cmpf .oge main_v2 main_v3
  let main_c : IVec S_ 1 := constantI S_ 1 1#1
  let main_v5 : IVec S_ 1 := (fun x v => Host.reduce IntOp.andi x v reducesTo_S10239_S_d0 h_S_) main_v4 main_c
  let main_cst : FVec F S_ .f32 := constant S_ .f32 0xBF800000#32
  let main_v6 : FVec F S10240 .f32 := broadcastInDim S10240 ![] bcast_S_S10240 main_cst
  let main_v7 : IVec S10240 1 := cmpf .ogt main_v1 main_v6
  let main_c_0 : IVec S_ 1 := constantI S_ 1 1#1
  let main_v8 : IVec S_ 1 := (fun x v => Host.reduce IntOp.andi x v reducesTo_S10240_S_d0 h_S_) main_v7 main_c_0
  let main_v9 : IVec S_ 1 := andi main_v5 main_v8
  let main_cst_1 : FVec F S_ .f32 := constant S_ .f32 0x00000000#32
  let main_v10 : FVec F S80x1x128 .f32 := broadcastInDim S80x1x128 ![] bcast_S_S80x1x128 main_cst_1
  let main_v11 : IVec S80x1x128 1 := cmpf .oeq main_arg1 main_v10
  let main_cst_2 : FVec F S_ .f32 := constant S_ .f32 0x3F800000#32
  let main_v12 : FVec F S80x1x128 .f32 := broadcastInDim S80x1x128 ![] bcast_S_S80x1x128 main_cst_2
  let main_v13 : IVec S80x1x128 1 := cmpf .oeq main_arg1 main_v12
  let main_v14 : IVec S80x1x128 1 := ori main_v11 main_v13
  let main_c_3 : IVec S_ 1 := constantI S_ 1 1#1
  let main_v15 : IVec S_ 1 := (fun x v => Host.reduce IntOp.andi x v reducesTo_S80x1x128_S_d0_1_2 h_S_) main_v14 main_c_3
  let main_v16 : IVec S_ 1 := andi main_v9 main_v15
  main_v16
-- ==== Kernel.lean ====
abbrev S23040x8 : Shape := ⟨2, ![23040, 8]⟩
abbrev S22500x4 : Shape := ⟨2, ![22500, 4]⟩
abbrev S22500 : Shape := ⟨1, ![22500]⟩
abbrev S_ : Shape := ⟨0, ![]⟩
abbrev S540 : Shape := ⟨1, ![540]⟩
abbrev S23040 : Shape := ⟨1, ![23040]⟩
abbrev S1 : Shape := ⟨1, ![1]⟩
abbrev S2 : Shape := ⟨1, ![2]⟩
abbrev S180x1x128 : Shape := ⟨3, ![180, 1, 128]⟩
abbrev S20x1x1152 : Shape := ⟨3, ![20, 1, 1152]⟩
abbrev S23040x1 : Shape := ⟨2, ![23040, 1]⟩
abbrev S180x1x2 : Shape := ⟨3, ![180, 1, 2]⟩
abbrev S128x1 : Shape := ⟨2, ![128, 1]⟩
abbrev S1x1x2 : Shape := ⟨3, ![1, 1, 2]⟩
abbrev S1152x1 : Shape := ⟨2, ![1152, 1]⟩
abbrev S1x1x1152 : Shape := ⟨3, ![1, 1, 1152]⟩
abbrev S1x1152 : Shape := ⟨2, ![1, 1152]⟩
abbrev S128x1152 : Shape := ⟨2, ![128, 1152]⟩
abbrev S1x1x128 : Shape := ⟨3, ![1, 1, 128]⟩
abbrev S1x128 : Shape := ⟨2, ![1, 128]⟩
abbrev S128x128 : Shape := ⟨2, ![128, 128]⟩
abbrev S1x128x1 : Shape := ⟨3, ![1, 128, 1]⟩
abbrev S1x1x1 : Shape := ⟨3, ![1, 1, 1]⟩
abbrev S10240x8 : Shape := ⟨2, ![10240, 8]⟩
abbrev S128x8 : Shape := ⟨2, ![128, 8]⟩

abbrev nBuf : Space → Nat
  | .hbm => 31
  | .vmem => 9
  | .smem => 3
  | _ => 0

abbrev bufTy : (tb : Table) → Fin (tcTables nBuf tb) → BufTy
  | .hbm, ⟨0, _⟩ => ⟨S23040x8, .f32⟩
  | .hbm, ⟨1, _⟩ => ⟨S22500x4, .f32⟩
  | .hbm, ⟨2, _⟩ => ⟨S22500, .f32⟩
  | .hbm, ⟨3, _⟩ => ⟨S22500, .f32⟩
  | .hbm, ⟨4, _⟩ => ⟨S22500, .f32⟩
  | .hbm, ⟨5, _⟩ => ⟨S_, .f32⟩
  | .hbm, ⟨6, _⟩ => ⟨S22500, .f32⟩
  | .hbm, ⟨7, _⟩ => ⟨S22500, .f32⟩
  | .hbm, ⟨8, _⟩ => ⟨S_, .f32⟩
  | .hbm, ⟨9, _⟩ => ⟨S22500, .f32⟩
  | .hbm, ⟨10, _⟩ => ⟨S22500, .f32⟩
  | .hbm, ⟨11, _⟩ => ⟨S_, .f32⟩
  | .hbm, ⟨12, _⟩ => ⟨S540, .f32⟩
  | .hbm, ⟨13, _⟩ => ⟨S23040, .f32⟩
  | .hbm, ⟨14, _⟩ => ⟨S_, .f32⟩
  | .hbm, ⟨15, _⟩ => ⟨S23040x8, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S23040x8, .f32⟩
  | .hbm, ⟨22, _⟩ => ⟨S_, .i32⟩
  | .hbm, ⟨23, _⟩ => ⟨S1, .i32⟩
  | .hbm, ⟨24, _⟩ => ⟨S23040x8, .f32⟩
  | .hbm, ⟨25, _⟩ => ⟨S180x1x128, .f32⟩
  | .hbm, ⟨26, _⟩ => ⟨S20x1x1152, .f32⟩
  | .hbm, ⟨27, _⟩ => ⟨S23040x1, .f32⟩
  | .hbm, ⟨28, _⟩ => ⟨S180x1x2, .f32⟩
  | .hbm, ⟨29, _⟩ => ⟨S180x1x128, .f32⟩
  | .hbm, ⟨30, _⟩ => ⟨S10240x8, .f32⟩
  | .local _ .vmem, ⟨0, _⟩ => ⟨S23040x8, .f32⟩
  | .local _ .vmem, ⟨1, _⟩ => ⟨S180x1x128, .f32⟩
  | .local _ .vmem, ⟨2, _⟩ => ⟨S20x1x1152, .f32⟩
  | .local _ .vmem, ⟨3, _⟩ => ⟨S128x1, .f32⟩
  | .local _ .vmem, ⟨4, _⟩ => ⟨S128x1, .f32⟩
  | .local _ .vmem, ⟨5, _⟩ => ⟨S23040x8, .f32⟩
  | .local _ .vmem, ⟨6, _⟩ => ⟨S180x1x128, .f32⟩
  | .local _ .vmem, ⟨7, _⟩ => ⟨S128x8, .f32⟩
  | .local _ .vmem, ⟨8, _⟩ => ⟨S128x8, .f32⟩
  | .local _ .smem, ⟨0, _⟩ => ⟨S1x1x2, .f32⟩
  | .local _ .smem, ⟨1, _⟩ => ⟨S1x1x2, .f32⟩
  | .local _ .smem, ⟨2, _⟩ => ⟨S180x1x2, .f32⟩
  | _, _ => ⟨S23040x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_stg4_0 : Ref sig .tc := ⟨.smem, 0, rfl⟩
abbrev cc0_stg4_1 : Ref sig .tc := ⟨.smem, 1, rfl⟩
abbrev cc1_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![180], ![false]⟩

def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : Index := Scalar.indexCast v0
  let c4 : Index := 4#32
  ![v1.toNat, 4]
@[reducible] def k0_t1_loop (i : grid0.Coords) : Scf.Loop 32 :=
  let c0_i32_6 : BitVec 32 := 0#32
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let v24 : BitVec 32 := Scalar.subi v22 c0_i32_6
  let c1_i32_7 : BitVec 32 := 1#32
  let v26 : BitVec 32 := Scalar.divsi v24 c1_i32_7
  let v27 : BitVec 32 := Scalar.muli v26 c1_i32_7
  let v28 : BitVec 32 := Scalar.addi c0_i32_6 v27
  let c1_i32_8 : BitVec 32 := 1#32
  ⟨c0_i32_6, v28, c1_i32_8⟩
def k0_off2 (i : grid0.Coords) (k0_t1 : Fin (k0_t1_loop i).trips) : Fin 3 → Nat :=
  let c0_i32_6 : BitVec 32 := 0#32
  let c1_i32_8 : BitVec 32 := 1#32
  let arg6 : BitVec 32 := Scf.iv c0_i32_6 c1_i32_8 k0_t1
  let v86 : Index := Scalar.indexCast arg6
  let c0_35 : Index := 0#32
  let c0_36 : Index := 0#32
  ![v86.toNat, 0, 0]
@[reducible] def k0_t2_loop (i : grid0.Coords) : Scf.Loop 32 :=
  let c0_i32_6 : BitVec 32 := 0#32
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let v24 : BitVec 32 := Scalar.subi v22 c0_i32_6
  let c1_i32_7 : BitVec 32 := 1#32
  let v26 : BitVec 32 := Scalar.divsi v24 c1_i32_7
  let v27 : BitVec 32 := Scalar.muli v26 c1_i32_7
  let v28 : BitVec 32 := Scalar.addi c0_i32_6 v27
  let v25 : BitVec 32 := Scalar.addi c0_i32_6 v24
  let c1_i32_9 : BitVec 32 := 1#32
  ⟨v28, v25, c1_i32_9⟩
def k0_off3 (i : grid0.Coords) (k0_t2 : Fin (k0_t2_loop i).trips) : Fin 3 → Nat :=
  let c0_i32_6 : BitVec 32 := 0#32
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let v24 : BitVec 32 := Scalar.subi v22 c0_i32_6
  let c1_i32_7 : BitVec 32 := 1#32
  let v26 : BitVec 32 := Scalar.divsi v24 c1_i32_7
  let v27 : BitVec 32 := Scalar.muli v26 c1_i32_7
  let v28 : BitVec 32 := Scalar.addi c0_i32_6 v27
  let c1_i32_9 : BitVec 32 := 1#32
  let arg6 : BitVec 32 := Scf.iv v28 c1_i32_9 k0_t2
  let v86 : Index := Scalar.indexCast arg6
  let c0_35 : Index := 0#32
  let c0_36 : Index := 0#32
  ![v86.toNat, 0, 0]
@[reducible] def k0_t3_loop (i : grid0.Coords) : Scf.Loop 32 :=
  let c9_i32_10 : BitVec 32 := 9#32
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let v31 : BitVec 32 := Scalar.muli c9_i32_10 v22
  let v32 : BitVec 32 := Scalar.subi arg0 v31
  let c1_i32_11 : BitVec 32 := 1#32
  let v34 : BitVec 32 := Scalar.divsi v32 c1_i32_11
  let v35 : BitVec 32 := Scalar.muli v34 c1_i32_11
  let v36 : BitVec 32 := Scalar.addi v31 v35
  let c1_i32_12 : BitVec 32 := 1#32
  ⟨v31, v36, c1_i32_12⟩
def k0_off4 (i : grid0.Coords) (k0_t3 : Fin (k0_t3_loop i).trips) : Fin 3 → Nat :=
  let c9_i32_10 : BitVec 32 := 9#32
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let v31 : BitVec 32 := Scalar.muli c9_i32_10 v22
  let c1_i32_12 : BitVec 32 := 1#32
  let arg6 : BitVec 32 := Scf.iv v31 c1_i32_12 k0_t3
  let v86 : Index := Scalar.indexCast arg6
  let c0_35 : Index := 0#32
  let c0_36 : Index := 0#32
  ![v86.toNat, 0, 0]
@[reducible] def k0_t4_loop (i : grid0.Coords) : Scf.Loop 32 :=
  let c9_i32_10 : BitVec 32 := 9#32
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let v31 : BitVec 32 := Scalar.muli c9_i32_10 v22
  let v32 : BitVec 32 := Scalar.subi arg0 v31
  let c1_i32_11 : BitVec 32 := 1#32
  let v34 : BitVec 32 := Scalar.divsi v32 c1_i32_11
  let v35 : BitVec 32 := Scalar.muli v34 c1_i32_11
  let v36 : BitVec 32 := Scalar.addi v31 v35
  let v33 : BitVec 32 := Scalar.addi v31 v32
  let c1_i32_13 : BitVec 32 := 1#32
  ⟨v36, v33, c1_i32_13⟩
def k0_off5 (i : grid0.Coords) (k0_t4 : Fin (k0_t4_loop i).trips) : Fin 3 → Nat :=
  let c9_i32_10 : BitVec 32 := 9#32
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let v31 : BitVec 32 := Scalar.muli c9_i32_10 v22
  let v32 : BitVec 32 := Scalar.subi arg0 v31
  let c1_i32_11 : BitVec 32 := 1#32
  let v34 : BitVec 32 := Scalar.divsi v32 c1_i32_11
  let v35 : BitVec 32 := Scalar.muli v34 c1_i32_11
  let v36 : BitVec 32 := Scalar.addi v31 v35
  let c1_i32_13 : BitVec 32 := 1#32
  let arg6 : BitVec 32 := Scf.iv v36 c1_i32_13 k0_t4
  let v86 : Index := Scalar.indexCast arg6
  let c0_35 : Index := 0#32
  let c0_36 : Index := 0#32
  ![v86.toNat, 0, 0]
def k0_off6 (i : grid0.Coords) : Fin 3 → Nat :=
  let arg0 : BitVec 32 := BitVec.ofNat 32 (i 0).val
  let v39 : Index := Scalar.indexCast arg0
  let c0 : Index := 0#32
  let c0_14 : Index := 0#32
  ![v39.toNat, 0, 0]
@[reducible] def k0_t5_loop (i : grid0.Coords) : Scf.Loop 32 :=
  let arg0 : BitVec 32 := BitVec.ofNat 32 (i 0).val
  let c1_i32_16 : BitVec 32 := 1#32
  let v57 : BitVec 32 := Scalar.addi arg0 c1_i32_16
  let c9_i32_17 : BitVec 32 := 9#32
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let v58 : BitVec 32 := Scalar.muli c9_i32_17 v22
  let c9_i32_18 : BitVec 32 := 9#32
  let v59 : BitVec 32 := Scalar.addi v58 c9_i32_18
  let v60 : BitVec 32 := Scalar.subi v59 v57
  let c1_i32_19 : BitVec 32 := 1#32
  let v62 : BitVec 32 := Scalar.divsi v60 c1_i32_19
  let v63 : BitVec 32 := Scalar.muli v62 c1_i32_19
  let v64 : BitVec 32 := Scalar.addi v57 v63
  let c1_i32_20 : BitVec 32 := 1#32
  ⟨v57, v64, c1_i32_20⟩
def k0_off7 (i : grid0.Coords) (k0_t5 : Fin (k0_t5_loop i).trips) : Fin 3 → Nat :=
  let arg0 : BitVec 32 := BitVec.ofNat 32 (i 0).val
  let c1_i32_16 : BitVec 32 := 1#32
  let v57 : BitVec 32 := Scalar.addi arg0 c1_i32_16
  let c1_i32_20 : BitVec 32 := 1#32
  let arg6 : BitVec 32 := Scf.iv v57 c1_i32_20 k0_t5
  let v86 : Index := Scalar.indexCast arg6
  let c0_35 : Index := 0#32
  let c0_36 : Index := 0#32
  ![v86.toNat, 0, 0]
@[reducible] def k0_t6_loop (i : grid0.Coords) : Scf.Loop 32 :=
  let arg0 : BitVec 32 := BitVec.ofNat 32 (i 0).val
  let c1_i32_16 : BitVec 32 := 1#32
  let v57 : BitVec 32 := Scalar.addi arg0 c1_i32_16
  let c9_i32_17 : BitVec 32 := 9#32
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let v58 : BitVec 32 := Scalar.muli c9_i32_17 v22
  let c9_i32_18 : BitVec 32 := 9#32
  let v59 : BitVec 32 := Scalar.addi v58 c9_i32_18
  let v60 : BitVec 32 := Scalar.subi v59 v57
  let c1_i32_19 : BitVec 32 := 1#32
  let v62 : BitVec 32 := Scalar.divsi v60 c1_i32_19
  let v63 : BitVec 32 := Scalar.muli v62 c1_i32_19
  let v64 : BitVec 32 := Scalar.addi v57 v63
  let v61 : BitVec 32 := Scalar.addi v57 v60
  let c1_i32_21 : BitVec 32 := 1#32
  ⟨v64, v61, c1_i32_21⟩
def k0_off8 (i : grid0.Coords) (k0_t6 : Fin (k0_t6_loop i).trips) : Fin 3 → Nat :=
  let arg0 : BitVec 32 := BitVec.ofNat 32 (i 0).val
  let c1_i32_16 : BitVec 32 := 1#32
  let v57 : BitVec 32 := Scalar.addi arg0 c1_i32_16
  let c9_i32_17 : BitVec 32 := 9#32
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let v58 : BitVec 32 := Scalar.muli c9_i32_17 v22
  let c9_i32_18 : BitVec 32 := 9#32
  let v59 : BitVec 32 := Scalar.addi v58 c9_i32_18
  let v60 : BitVec 32 := Scalar.subi v59 v57
  let c1_i32_19 : BitVec 32 := 1#32
  let v62 : BitVec 32 := Scalar.divsi v60 c1_i32_19
  let v63 : BitVec 32 := Scalar.muli v62 c1_i32_19
  let v64 : BitVec 32 := Scalar.addi v57 v63
  let c1_i32_21 : BitVec 32 := 1#32
  let arg6 : BitVec 32 := Scf.iv v64 c1_i32_21 k0_t6
  let v86 : Index := Scalar.indexCast arg6
  let c0_35 : Index := 0#32
  let c0_36 : Index := 0#32
  ![v86.toNat, 0, 0]
@[reducible] def k0_t7_loop (i : grid0.Coords) : Scf.Loop 32 :=
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let c1_i32_22 : BitVec 32 := 1#32
  let v67 : BitVec 32 := Scalar.addi v22 c1_i32_22
  let c20_i32 : BitVec 32 := 20#32
  let v68 : BitVec 32 := Scalar.subi c20_i32 v67
  let c1_i32_23 : BitVec 32 := 1#32
  let v70 : BitVec 32 := Scalar.divsi v68 c1_i32_23
  let v71 : BitVec 32 := Scalar.muli v70 c1_i32_23
  let v72 : BitVec 32 := Scalar.addi v67 v71
  let c1_i32_24 : BitVec 32 := 1#32
  ⟨v67, v72, c1_i32_24⟩
def k0_off9 (i : grid0.Coords) (k0_t7 : Fin (k0_t7_loop i).trips) : Fin 3 → Nat :=
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let c1_i32_22 : BitVec 32 := 1#32
  let v67 : BitVec 32 := Scalar.addi v22 c1_i32_22
  let c1_i32_24 : BitVec 32 := 1#32
  let arg6 : BitVec 32 := Scf.iv v67 c1_i32_24 k0_t7
  let v86 : Index := Scalar.indexCast arg6
  let c0_35 : Index := 0#32
  let c0_36 : Index := 0#32
  ![v86.toNat, 0, 0]
@[reducible] def k0_t8_loop (i : grid0.Coords) : Scf.Loop 32 :=
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let c1_i32_22 : BitVec 32 := 1#32
  let v67 : BitVec 32 := Scalar.addi v22 c1_i32_22
  let c20_i32 : BitVec 32 := 20#32
  let v68 : BitVec 32 := Scalar.subi c20_i32 v67
  let c1_i32_23 : BitVec 32 := 1#32
  let v70 : BitVec 32 := Scalar.divsi v68 c1_i32_23
  let v71 : BitVec 32 := Scalar.muli v70 c1_i32_23
  let v72 : BitVec 32 := Scalar.addi v67 v71
  let v69 : BitVec 32 := Scalar.addi v67 v68
  let c1_i32_25 : BitVec 32 := 1#32
  ⟨v72, v69, c1_i32_25⟩
def k0_off10 (i : grid0.Coords) (k0_t8 : Fin (k0_t8_loop i).trips) : Fin 3 → Nat :=
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_1 : BitVec 32 := 0#32
  let v9 : BitVec 1 := Scalar.cmpi .slt arg0 c0_i32_1
  let v10 : BitVec 32 := Scalar.extui v9
  let v11 : BitVec 32 := Scalar.subi v8 v10
  let c9_i32 : BitVec 32 := 9#32
  let c0_i32_2 : BitVec 32 := 0#32
  let v12 : BitVec 1 := Scalar.cmpi .sgt c9_i32 c0_i32_2
  let v13 : BitVec 32 := Scalar.extui v12
  let c0_i32_3 : BitVec 32 := 0#32
  let v14 : BitVec 1 := Scalar.cmpi .slt c9_i32 c0_i32_3
  let v15 : BitVec 32 := Scalar.extui v14
  let v16 : BitVec 32 := Scalar.subi v13 v15
  let v17 : BitVec 1 := Scalar.cmpi .ne v11 v16
  let v18 : BitVec 32 := Scalar.remsi arg0 c9_i32
  let c0_i32_4 : BitVec 32 := 0#32
  let v19 : BitVec 1 := Scalar.cmpi .ne v18 c0_i32_4
  let v20 : BitVec 1 := Scalar.andi v17 v19
  let v6 : BitVec 32 := Scalar.divsi arg0 c9_i32
  let c1_i32 : BitVec 32 := 1#32
  let v21 : BitVec 32 := Scalar.subi v6 c1_i32
  let v22 : BitVec 32 := Scalar.select v20 v21 v6
  let c1_i32_22 : BitVec 32 := 1#32
  let v67 : BitVec 32 := Scalar.addi v22 c1_i32_22
  let c20_i32 : BitVec 32 := 20#32
  let v68 : BitVec 32 := Scalar.subi c20_i32 v67
  let c1_i32_23 : BitVec 32 := 1#32
  let v70 : BitVec 32 := Scalar.divsi v68 c1_i32_23
  let v71 : BitVec 32 := Scalar.muli v70 c1_i32_23
  let v72 : BitVec 32 := Scalar.addi v67 v71
  let c1_i32_25 : BitVec 32 := 1#32
  let arg6 : BitVec 32 := Scf.iv v72 c1_i32_25 k0_t8
  let v86 : Index := Scalar.indexCast arg6
  let c0_35 : Index := 0#32
  let c0_36 : Index := 0#32
  ![v86.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S23040x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S180x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .smem S1x1x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![80], ![false]⟩

@[reducible] def k1_t1_loop : Scf.Loop 32 :=
  let c0_i32 : BitVec 32 := 0#32
  let c180_i32 : BitVec 32 := 180#32
  let v9 : BitVec 32 := Scalar.addi c0_i32 c180_i32
  let c1_i32 : BitVec 32 := 1#32
  ⟨c0_i32, v9, c1_i32⟩
def k1_off1 (k1_t1 : Fin k1_t1_loop.trips) : Fin 3 → Nat :=
  let c0_i32 : BitVec 32 := 0#32
  let c1_i32 : BitVec 32 := 1#32
  let arg5 : BitVec 32 := Scf.iv c0_i32 c1_i32 k1_t1
  let v22 : Index := Scalar.indexCast arg5
  let c0_5 : Index := 0#32
  let c0_6 : Index := 0#32
  ![v22.toNat, 0, 0]
def k1_off2 (k1_t1 : Fin k1_t1_loop.trips) : Fin 3 → Nat :=
  let c0_i32 : BitVec 32 := 0#32
  let c1_i32 : BitVec 32 := 1#32
  let arg5 : BitVec 32 := Scf.iv c0_i32 c1_i32 k1_t1
  let v25 : Index := Scalar.indexCast arg5
  let c0_7 : Index := 0#32
  let c1 : Index := 1#32
  ![v25.toNat, 0, 1]
def k1_off3 (k1_t1 : Fin k1_t1_loop.trips) : Fin 3 → Nat :=
  let c0_i32 : BitVec 32 := 0#32
  let c1_i32 : BitVec 32 := 1#32
  let arg5 : BitVec 32 := Scf.iv c0_i32 c1_i32 k1_t1
  let v32 : Index := Scalar.indexCast arg5
  let c0_9 : Index := 0#32
  let c0_10 : Index := 0#32
  ![v32.toNat, 0, 0]
def k1_off4 (k1_t1 : Fin k1_t1_loop.trips) : Fin 2 → Nat :=
  let c0_i32 : BitVec 32 := 0#32
  let c1_i32 : BitVec 32 := 1#32
  let arg5 : BitVec 32 := Scf.iv c0_i32 c1_i32 k1_t1
  let c128_i32_11 : BitVec 32 := 128#32
  let v40 : BitVec 32 := Scalar.muli arg5 c128_i32_11
  let v41 : Index := Scalar.indexCast v40
  let c0_12 : Index := 0#32
  ![v41.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S23040x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S180x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S180x1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S23040x8 : Shape := ⟨2, ![23040, 8]⟩
abbrev S22500x4 : Shape := ⟨2, ![22500, 4]⟩
abbrev S22500 : Shape := ⟨1, ![22500]⟩
abbrev S_ : Shape := ⟨0, ![]⟩
abbrev S10240 : Shape := ⟨1, ![10240]⟩
abbrev S10240x1 : Shape := ⟨2, ![10240, 1]⟩
abbrev S10240x8 : Shape := ⟨2, ![10240, 8]⟩

abbrev nBuf : Space → Nat
  | .hbm => 35
  | .vmem => 0
  | .smem => 0
  | _ => 0

abbrev bufTy : (tb : Table) → Fin (tcTables nBuf tb) → BufTy
  | .hbm, ⟨0, _⟩ => ⟨S23040x8, .f32⟩
  | .hbm, ⟨1, _⟩ => ⟨S22500x4, .f32⟩
  | .hbm, ⟨2, _⟩ => ⟨S22500, .f32⟩
  | .hbm, ⟨3, _⟩ => ⟨S22500, .f32⟩
  | .hbm, ⟨4, _⟩ => ⟨S22500, .f32⟩
  | .hbm, ⟨5, _⟩ => ⟨S_, .f32⟩
  | .hbm, ⟨6, _⟩ => ⟨S22500, .f32⟩
  | .hbm, ⟨7, _⟩ => ⟨S22500, .f32⟩
  | .hbm, ⟨8, _⟩ => ⟨S_, .f32⟩
  | .hbm, ⟨9, _⟩ => ⟨S22500, .f32⟩
  | .hbm, ⟨10, _⟩ => ⟨S22500, .f32⟩
  | .hbm, ⟨11, _⟩ => ⟨S10240, .f32⟩
  | .hbm, ⟨12, _⟩ => ⟨S10240, .i32⟩
  | .hbm, ⟨13, _⟩ => ⟨S_, .i32⟩
  | .hbm, ⟨14, _⟩ => ⟨S10240, .i32⟩
  | .hbm, ⟨15, _⟩ => ⟨S10240, .i1⟩
  | .hbm, ⟨16, _⟩ => ⟨S_, .i32⟩
  | .hbm, ⟨17, _⟩ => ⟨S10240, .i32⟩
  | .hbm, ⟨18, _⟩ => ⟨S10240, .i32⟩
  | .hbm, ⟨19, _⟩ => ⟨S10240, .i32⟩
  | .hbm, ⟨20, _⟩ => ⟨S10240x1, .i32⟩
  | .hbm, ⟨21, _⟩ => ⟨S10240x8, .f32⟩
  | .hbm, ⟨22, _⟩ => ⟨S10240x8, .i32⟩
  | .hbm, ⟨23, _⟩ => ⟨S10240x8, .i32⟩
  | .hbm, ⟨24, _⟩ => ⟨S_, .i32⟩
  | .hbm, ⟨25, _⟩ => ⟨S10240x8, .i32⟩
  | .hbm, ⟨26, _⟩ => ⟨S10240x8, .i1⟩
  | .hbm, ⟨27, _⟩ => ⟨S_, .i32⟩
  | .hbm, ⟨28, _⟩ => ⟨S10240x8, .i32⟩
  | .hbm, ⟨29, _⟩ => ⟨S10240x8, .i1⟩
  | .hbm, ⟨30, _⟩ => ⟨S10240x8, .i1⟩
  | .hbm, ⟨31, _⟩ => ⟨S_, .f32⟩
  | .hbm, ⟨32, _⟩ => ⟨S_, .f32⟩
  | .hbm, ⟨33, _⟩ => ⟨S10240x8, .f32⟩
  | .hbm, ⟨34, _⟩ => ⟨S10240x8, .f32⟩
  | _, _ => ⟨S23040x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_values : Ref sig .tc := ⟨.hbm, 11, rfl⟩
abbrev main_indices : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Heads.lean ====
abbrev S1x512x50x50 : Shape := ⟨4, ![1, 512, 50, 50]⟩
abbrev S512x512x3x3 : Shape := ⟨4, ![512, 512, 3, 3]⟩
abbrev S512 : Shape := ⟨1, ![512]⟩
abbrev S9x512x1x1 : Shape := ⟨4, ![9, 512, 1, 1]⟩
abbrev S9 : Shape := ⟨1, ![9]⟩
abbrev S36x512x1x1 : Shape := ⟨4, ![36, 512, 1, 1]⟩
abbrev S36 : Shape := ⟨1, ![36]⟩
abbrev S512x50x50 : Shape := ⟨3, ![512, 50, 50]⟩
abbrev S50x50x512 : Shape := ⟨3, ![50, 50, 512]⟩
abbrev S_ : Shape := ⟨0, ![]⟩
abbrev S56x56x512 : Shape := ⟨3, ![56, 56, 512]⟩
abbrev S1 : Shape := ⟨1, ![1]⟩
abbrev S2 : Shape := ⟨1, ![2]⟩
abbrev S3136x512 : Shape := ⟨2, ![3136, 512]⟩
abbrev S2952x512 : Shape := ⟨2, ![2952, 512]⟩
abbrev S2944x512 : Shape := ⟨2, ![2944, 512]⟩
abbrev S3x3x512x512 : Shape := ⟨4, ![3, 3, 512, 512]⟩
abbrev S9x512x512 : Shape := ⟨3, ![9, 512, 512]⟩
abbrev S9x512 : Shape := ⟨2, ![9, 512]⟩
abbrev S512x9 : Shape := ⟨2, ![512, 9]⟩
abbrev S36x512 : Shape := ⟨2, ![36, 512]⟩
abbrev S512x36 : Shape := ⟨2, ![512, 36]⟩
abbrev S512x128 : Shape := ⟨2, ![512, 128]⟩
abbrev S1x128 : Shape := ⟨2, ![1, 128]⟩
abbrev S1x512 : Shape := ⟨2, ![1, 512]⟩
abbrev S2816x128 : Shape := ⟨2, ![2816, 128]⟩
abbrev S128x128 : Shape := ⟨2, ![128, 128]⟩
abbrev S128x512 : Shape := ⟨2, ![128, 512]⟩
abbrev S1x512x512 : Shape := ⟨3, ![1, 512, 512]⟩
abbrev S512x512 : Shape := ⟨2, ![512, 512]⟩
abbrev S128 : Shape := ⟨1, ![128]⟩
abbrev S3136x128 : Shape := ⟨2, ![3136, 128]⟩
abbrev S56x56x128 : Shape := ⟨3, ![56, 56, 128]⟩
abbrev S50x50x128 : Shape := ⟨3, ![50, 50, 128]⟩
abbrev S50x50x9 : Shape := ⟨3, ![50, 50, 9]⟩
abbrev S22500 : Shape := ⟨1, ![22500]⟩
abbrev S50x50x36 : Shape := ⟨3, ![50, 50, 36]⟩
abbrev S22500x4 : Shape := ⟨2, ![22500, 4]⟩

abbrev nBuf : Space → Nat
  | .hbm => 68
  | .vmem => 9
  | .smem => 0
  | _ => 0

abbrev bufTy : (tb : Table) → Fin (tcTables nBuf tb) → BufTy
  | .hbm, ⟨0, _⟩ => ⟨S1x512x50x50, .f32⟩
  | .hbm, ⟨1, _⟩ => ⟨S512x512x3x3, .f32⟩
  | .hbm, ⟨2, _⟩ => ⟨S512, .f32⟩
  | .hbm, ⟨3, _⟩ => ⟨S9x512x1x1, .f32⟩
  | .hbm, ⟨4, _⟩ => ⟨S9, .f32⟩
  | .hbm, ⟨5, _⟩ => ⟨S36x512x1x1, .f32⟩
  | .hbm, ⟨6, _⟩ => ⟨S36, .f32⟩
  | .hbm, ⟨7, _⟩ => ⟨S512x50x50, .f32⟩
  | .hbm, ⟨8, _⟩ => ⟨S50x50x512, .f32⟩
  | .hbm, ⟨9, _⟩ => ⟨S_, .f32⟩
  | .hbm, ⟨10, _⟩ => ⟨S56x56x512, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S56x56x512, .f32⟩
  | .hbm, ⟨17, _⟩ => ⟨S3136x512, .f32⟩
  | .hbm, ⟨18, _⟩ => ⟨S_, .f32⟩
  | .hbm, ⟨19, _⟩ => ⟨S2952x512, .f32⟩
  | .hbm, ⟨20, _⟩ => ⟨S2944x512, .f32⟩
  | .hbm, ⟨21, _⟩ => ⟨S_, .i32⟩
  | .hbm, ⟨22, _⟩ => ⟨S1, .i32⟩
  | .hbm, ⟨23, _⟩ => ⟨S2952x512, .f32⟩
  | .hbm, ⟨24, _⟩ => ⟨S2944x512, .f32⟩
  | .hbm, ⟨25, _⟩ => ⟨S2944x512, .f32⟩
  | .hbm, ⟨26, _⟩ => ⟨S2944x512, .f32⟩
  | .hbm, ⟨27, _⟩ => ⟨S3x3x512x512, .f32⟩
  | .hbm, ⟨28, _⟩ => ⟨S9x512x512, .f32⟩
  | .hbm, ⟨29, _⟩ => ⟨S9x512, .f32⟩
  | .hbm, ⟨30, _⟩ => ⟨S512x9, .f32⟩
  | .hbm, ⟨31, _⟩ => ⟨S36x512, .f32⟩
  | .hbm, ⟨32, _⟩ => ⟨S512x36, .f32⟩
  | .hbm, ⟨33, _⟩ => ⟨S_, .f32⟩
  | .hbm, ⟨34, _⟩ => ⟨S512x128, .f32⟩
  | .hbm, ⟨35, _⟩ => ⟨S_, .i32⟩
  | .hbm, ⟨36, _⟩ => ⟨S1, .i32⟩
  | .hbm, ⟨37, _⟩ => ⟨S512x128, .f32⟩
  | .hbm, ⟨38, _⟩ => ⟨S_, .i32⟩
  | .hbm, ⟨39, _⟩ => ⟨S1, .i32⟩
  | .hbm, ⟨40, _⟩ => ⟨S512x128, .f32⟩
  | .hbm, ⟨41, _⟩ => ⟨S_, .f32⟩
  | .hbm, ⟨42, _⟩ => ⟨S1x128, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S1x128, .f32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S2, .i32⟩
  | .hbm, ⟨54, _⟩ => ⟨S1x128, .f32⟩
  | .hbm, ⟨55, _⟩ => ⟨S1x512, .f32⟩
  | .hbm, ⟨56, _⟩ => ⟨S2816x128, .f32⟩
  | .hbm, ⟨57, _⟩ => ⟨S_, .f32⟩
  | .hbm, ⟨58, _⟩ => ⟨S3136x128, .f32⟩
  | .hbm, ⟨59, _⟩ => ⟨S_, .i32⟩
  | .hbm, ⟨60, _⟩ => ⟨S1, .i32⟩
  | .hbm, ⟨61, _⟩ => ⟨S3136x128, .f32⟩
  | .hbm, ⟨62, _⟩ => ⟨S56x56x128, .f32⟩
  | .hbm, ⟨63, _⟩ => ⟨S50x50x128, .f32⟩
  | .hbm, ⟨64, _⟩ => ⟨S50x50x9, .f32⟩
  | .hbm, ⟨65, _⟩ => ⟨S22500, .f32⟩
  | .hbm, ⟨66, _⟩ => ⟨S50x50x36, .f32⟩
  | .hbm, ⟨67, _⟩ => ⟨S22500x4, .f32⟩
  | .local _ .vmem, ⟨0, _⟩ => ⟨S2944x512, .f32⟩
  | .local _ .vmem, ⟨1, _⟩ => ⟨S2944x512, .f32⟩
  | .local _ .vmem, ⟨2, _⟩ => ⟨S2944x512, .f32⟩
  | .local _ .vmem, ⟨3, _⟩ => ⟨S9x512x512, .f32⟩
  | .local _ .vmem, ⟨4, _⟩ => ⟨S1x512, .f32⟩
  | .local _ .vmem, ⟨5, _⟩ => ⟨S512x128, .f32⟩
  | .local _ .vmem, ⟨6, _⟩ => ⟨S1x128, .f32⟩
  | .local _ .vmem, ⟨7, _⟩ => ⟨S128x128, .f32⟩
  | .local _ .vmem, ⟨8, _⟩ => ⟨S128x128, .f32⟩
  | _, _ => ⟨S1x512x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_9 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_c_12 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨1, ![22], ![false]⟩

def k0_off1 (i : grid0.Coords) (c0_i32 : BitVec 32) : Fin 2 → Nat :=
  let arg0 : BitVec 32 := BitVec.ofNat 32 (i 0).val
  let c128_i32 : BitVec 32 := 128#32
  let v0 : BitVec 32 := Scalar.muli arg0 c128_i32
  let v2 : BitVec 32 := Scalar.addi v0 c0_i32
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2944x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2944x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2944x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HeadsReferenceIdeal.lean ====
abbrev S1x512x50x50 : Shape := ⟨4, ![1, 512, 50, 50]⟩
abbrev S512x512x3x3 : Shape := ⟨4, ![512, 512, 3, 3]⟩
abbrev S512 : Shape := ⟨1, ![512]⟩
abbrev S9x512x1x1 : Shape := ⟨4, ![9, 512, 1, 1]⟩
abbrev S9 : Shape := ⟨1, ![9]⟩
abbrev S36x512x1x1 : Shape := ⟨4, ![36, 512, 1, 1]⟩
abbrev S36 : Shape := ⟨1, ![36]⟩
abbrev S512x50x50 : Shape := ⟨3, ![512, 50, 50]⟩
abbrev S_ : Shape := ⟨0, ![]⟩
abbrev S512x52x52 : Shape := ⟨3, ![512, 52, 52]⟩
abbrev S512x2500 : Shape := ⟨2, ![512, 2500]⟩
abbrev S512x512x1x1 : Shape := ⟨4, ![512, 512, 1, 1]⟩
abbrev S512x512 : Shape := ⟨2, ![512, 512]⟩
abbrev S512x1 : Shape := ⟨2, ![512, 1]⟩
abbrev S9x512 : Shape := ⟨2, ![9, 512]⟩
abbrev S9x2500 : Shape := ⟨2, ![9, 2500]⟩
abbrev S9x1 : Shape := ⟨2, ![9, 1]⟩
abbrev S36x512 : Shape := ⟨2, ![36, 512]⟩
abbrev S36x2500 : Shape := ⟨2, ![36, 2500]⟩
abbrev S36x1 : Shape := ⟨2, ![36, 1]⟩
abbrev S2500x9 : Shape := ⟨2, ![2500, 9]⟩
abbrev S22500 : Shape := ⟨1, ![22500]⟩
abbrev S2500x36 : Shape := ⟨2, ![2500, 36]⟩
abbrev S22500x4 : Shape := ⟨2, ![22500, 4]⟩

abbrev nBuf : Space → Nat
  | .hbm => 87
  | .vmem => 0
  | .smem => 0
  | _ => 0

abbrev bufTy : (tb : Table) → Fin (tcTables nBuf tb) → BufTy
  | .hbm, ⟨0, _⟩ => ⟨S1x512x50x50, .f32⟩
  | .hbm, ⟨1, _⟩ => ⟨S512x512x3x3, .f32⟩
  | .hbm, ⟨2, _⟩ => ⟨S512, .f32⟩
  | .hbm, ⟨3, _⟩ => ⟨S9x512x1x1, .f32⟩
  | .hbm, ⟨4, _⟩ => ⟨S9, .f32⟩
  | .hbm, ⟨5, _⟩ => ⟨S36x512x1x1, .f32⟩
  | .hbm, ⟨6, _⟩ => ⟨S36, .f32⟩
  | .hbm, ⟨7, _⟩ => ⟨S512x50x50, .f32⟩
  | .hbm, ⟨8, _⟩ => ⟨S_, .i32⟩
  | .hbm, ⟨9, _⟩ => ⟨S_, .f32⟩
  | .hbm, ⟨10, _⟩ => ⟨S512x52x52, .f32⟩
  | .hbm, ⟨11, _⟩ => ⟨S_, .f32⟩
  | .hbm, ⟨12, _⟩ => ⟨S512x2500, .f32⟩
  | .hbm, ⟨13, _⟩ => ⟨S512x50x50, .f32⟩
  | .hbm, ⟨14, _⟩ => ⟨S512x2500, .f32⟩
  | .hbm, ⟨15, _⟩ => ⟨S512x512x1x1, .f32⟩
  | .hbm, ⟨16, _⟩ => ⟨S512x512, .f32⟩
  | .hbm, ⟨17, _⟩ => ⟨S512x2500, .f32⟩
  | .hbm, ⟨18, _⟩ => ⟨S512x2500, .f32⟩
  | .hbm, ⟨19, _⟩ => ⟨S512x50x50, .f32⟩
  | .hbm, ⟨20, _⟩ => ⟨S512x2500, .f32⟩
  | .hbm, ⟨21, _⟩ => ⟨S512x512x1x1, .f32⟩
  | .hbm, ⟨22, _⟩ => ⟨S512x512, .f32⟩
  | .hbm, ⟨23, _⟩ => ⟨S512x2500, .f32⟩
  | .hbm, ⟨24, _⟩ => ⟨S512x2500, .f32⟩
  | .hbm, ⟨25, _⟩ => ⟨S512x50x50, .f32⟩
  | .hbm, ⟨26, _⟩ => ⟨S512x2500, .f32⟩
  | .hbm, ⟨27, _⟩ => ⟨S512x512x1x1, .f32⟩
  | .hbm, ⟨28, _⟩ => ⟨S512x512, .f32⟩
  | .hbm, ⟨29, _⟩ => ⟨S512x2500, .f32⟩
  | .hbm, ⟨30, _⟩ => ⟨S512x2500, .f32⟩
  | .hbm, ⟨31, _⟩ => ⟨S512x50x50, .f32⟩
  | .hbm, ⟨32, _⟩ => ⟨S512x2500, .f32⟩
  | .hbm, ⟨33, _⟩ => ⟨S512x512x1x1, .f32⟩
  | .hbm, ⟨34, _⟩ => ⟨S512x512, .f32⟩
  | .hbm, ⟨35, _⟩ => ⟨S512x2500, .f32⟩
  | .hbm, ⟨36, _⟩ => ⟨S512x2500, .f32⟩
  | .hbm, ⟨37, _⟩ => ⟨S512x50x50, .f32⟩
  | .hbm, ⟨38, _⟩ => ⟨S512x2500, .f32⟩
  | .hbm, ⟨39, _⟩ => ⟨S512x512x1x1, .f32⟩
  | .hbm, ⟨40, _⟩ => ⟨S512x512, .f32⟩
  | .hbm, ⟨41, _⟩ => ⟨S512x2500, .f32⟩
  | .hbm, ⟨42, _⟩ => ⟨S512x2500, .f32⟩
  | .hbm, ⟨43, _⟩ => ⟨S512x50x50, .f32⟩
  | .hbm, ⟨44, _⟩ => ⟨S512x2500, .f32⟩
  | .hbm, ⟨45, _⟩ => ⟨S512x512x1x1, .f32⟩
  | .hbm, ⟨46, _⟩ => ⟨S512x512, .f32⟩
  | .hbm, ⟨47, _⟩ => ⟨S512x2500, .f32⟩
  | .hbm, ⟨48, _⟩ => ⟨S512x2500, .f32⟩
  | .hbm, ⟨49, _⟩ => ⟨S512x50x50, .f32⟩
  | .hbm, ⟨50, _⟩ => ⟨S512x2500, .f32⟩
  | .hbm, ⟨51, _⟩ => ⟨S512x512x1x1, .f32⟩
  | .hbm, ⟨52, _⟩ => ⟨S512x512, .f32⟩
  | .hbm, ⟨53, _⟩ => ⟨S512x2500, .f32⟩
  | .hbm, ⟨54, _⟩ => ⟨S512x2500, .f32⟩
  | .hbm, ⟨55, _⟩ => ⟨S512x50x50, .f32⟩
  | .hbm, ⟨56, _⟩ => ⟨S512x2500, .f32⟩
  | .hbm, ⟨57, _⟩ => ⟨S512x512x1x1, .f32⟩
  | .hbm, ⟨58, _⟩ => ⟨S512x512, .f32⟩
  | .hbm, ⟨59, _⟩ => ⟨S512x2500, .f32⟩
  | .hbm, ⟨60, _⟩ => ⟨S512x2500, .f32⟩
  | .hbm, ⟨61, _⟩ => ⟨S512x50x50, .f32⟩
  | .hbm, ⟨62, _⟩ => ⟨S512x2500, .f32⟩
  | .hbm, ⟨63, _⟩ => ⟨S512x512x1x1, .f32⟩
  | .hbm, ⟨64, _⟩ => ⟨S512x512, .f32⟩
  | .hbm, ⟨65, _⟩ => ⟨S512x2500, .f32⟩
  | .hbm, ⟨66, _⟩ => ⟨S512x2500, .f32⟩
  | .hbm, ⟨67, _⟩ => ⟨S512x1, .f32⟩
  | .hbm, ⟨68, _⟩ => ⟨S512x2500, .f32⟩
  | .hbm, ⟨69, _⟩ => ⟨S512x2500, .f32⟩
  | .hbm, ⟨70, _⟩ => ⟨S_, .f32⟩
  | .hbm, ⟨71, _⟩ => ⟨S512x2500, .f32⟩
  | .hbm, ⟨72, _⟩ => ⟨S512x2500, .f32⟩
  | .hbm, ⟨73, _⟩ => ⟨S9x512, .f32⟩
  | .hbm, ⟨74, _⟩ => ⟨S9x2500, .f32⟩
  | .hbm, ⟨75, _⟩ => ⟨S9x1, .f32⟩
  | .hbm, ⟨76, _⟩ => ⟨S9x2500, .f32⟩
  | .hbm, ⟨77, _⟩ => ⟨S9x2500, .f32⟩
  | .hbm, ⟨78, _⟩ => ⟨S36x512, .f32⟩
  | .hbm, ⟨79, _⟩ => ⟨S36x2500, .f32⟩
  | .hbm, ⟨80, _⟩ => ⟨S36x1, .f32⟩
  | .hbm, ⟨81, _⟩ => ⟨S36x2500, .f32⟩
  | .hbm, ⟨82, _⟩ => ⟨S36x2500, .f32⟩
  | .hbm, ⟨83, _⟩ => ⟨S2500x9, .f32⟩
  | .hbm, ⟨84, _⟩ => ⟨S22500, .f32⟩
  | .hbm, ⟨85, _⟩ => ⟨S2500x36, .f32⟩
  | .hbm, ⟨86, _⟩ => ⟨S22500x4, .f32⟩
  | _, _ => ⟨S1x512x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_call1_cst : Ref sig .tc := ⟨.hbm, 70, rfl⟩
abbrev main_call1_v0 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩

abbrev nD : Nat := 1
abbrev τ : Topo := Topo.v7x

variable {F : FTy → Type} [FloatOps F]
-- ==== Compact.lean ====
abbrev S10240x8 : Shape := ⟨2, ![10240, 8]⟩
abbrev S80x1x128 : Shape := ⟨3, ![80, 1, 128]⟩
abbrev S128x128 : Shape := ⟨2, ![128, 128]⟩
abbrev S2048x8 : Shape := ⟨2, ![2048, 8]⟩
abbrev S128x8 : Shape := ⟨2, ![128, 8]⟩
abbrev S128x1 : Shape := ⟨2, ![128, 1]⟩
abbrev S1x1x128 : Shape := ⟨3, ![1, 1, 128]⟩
abbrev S1x128 : Shape := ⟨2, ![1, 128]⟩
abbrev S1 : Shape := ⟨1, ![1]⟩
abbrev S1x1x1 : Shape := ⟨3, ![1, 1, 1]⟩
abbrev S2000x4 : Shape := ⟨2, ![2000, 4]⟩
abbrev S2000x1 : Shape := ⟨2, ![2000, 1]⟩
abbrev S2000 : Shape := ⟨1, ![2000]⟩

abbrev nBuf : Space → Nat
  | .hbm => 10
  | .vmem => 5
  | .smem => 0
  | _ => 0

abbrev bufTy : (tb : Table) → Fin (tcTables nBuf tb) → BufTy
  | .hbm, ⟨0, _⟩ => ⟨S10240x8, .f32⟩
  | .hbm, ⟨1, _⟩ => ⟨S80x1x128, .f32⟩
  | .hbm, ⟨2, _⟩ => ⟨S128x128, .i32⟩
  | .hbm, ⟨3, _⟩ => ⟨S128x128, .i32⟩
  | .hbm, ⟨4, _⟩ => ⟨S128x128, .i1⟩
  | .hbm, ⟨5, _⟩ => ⟨S128x128, .f32⟩
  | .hbm, ⟨6, _⟩ => ⟨S2048x8, .f32⟩
  | .hbm, ⟨7, _⟩ => ⟨S2000x4, .f32⟩
  | .hbm, ⟨8, _⟩ => ⟨S2000x1, .f32⟩
  | .hbm, ⟨9, _⟩ => ⟨S2000, .f32⟩
  | .local _ .vmem, ⟨0, _⟩ => ⟨S10240x8, .f32⟩
  | .local _ .vmem, ⟨1, _⟩ => ⟨S80x1x128, .f32⟩
  | .local _ .vmem, ⟨2, _⟩ => ⟨S128x128, .f32⟩
  | .local _ .vmem, ⟨3, _⟩ => ⟨S128x8, .f32⟩
  | .local _ .vmem, ⟨4, _⟩ => ⟨S128x8, .f32⟩
  | _, _ => ⟨S10240x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c80_i32 : BitVec 32 := 80#32
  let v8 : BitVec 32 := Scalar.addi c0_i32 c80_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v11 : Index := Scalar.indexCast arg5
  let c0_5 : Index := 0#32
  let c0_6 : Index := 0#32
  ![v11.toNat, 0, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32_9 : BitVec 32 := 128#32
  let v27 : BitVec 32 := Scalar.muli arg5 c128_i32_9
  let v28 : Index := Scalar.indexCast v27
  let c0_10 : Index := 0#32
  ![v28.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10240x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S80x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CompactReferenceIdeal.lean ====
abbrev S10240x8 : Shape := ⟨2, ![10240, 8]⟩
abbrev S80x1x128 : Shape := ⟨3, ![80, 1, 128]⟩
abbrev S10240x4 : Shape := ⟨2, ![10240, 4]⟩
abbrev S10240x1 : Shape := ⟨2, ![10240, 1]⟩
abbrev S10240 : Shape := ⟨1, ![10240]⟩
abbrev S_ : Shape := ⟨0, ![]⟩
abbrev S2000 : Shape := ⟨1, ![2000]⟩
abbrev S2000x1 : Shape := ⟨2, ![2000, 1]⟩
abbrev S2000x4 : Shape := ⟨2, ![2000, 4]⟩

abbrev nBuf : Space → Nat
  | .hbm => 52
  | .vmem => 0
  | .smem => 0
  | _ => 0

abbrev bufTy : (tb : Table) → Fin (tcTables nBuf tb) → BufTy
  | .hbm, ⟨0, _⟩ => ⟨S10240x8, .f32⟩
  | .hbm, ⟨1, _⟩ => ⟨S80x1x128, .f32⟩
  | .hbm, ⟨2, _⟩ => ⟨S10240x4, .f32⟩
  | .hbm, ⟨3, _⟩ => ⟨S10240x1, .f32⟩
  | .hbm, ⟨4, _⟩ => ⟨S10240, .f32⟩
  | .hbm, ⟨5, _⟩ => ⟨S10240, .f32⟩
  | .hbm, ⟨6, _⟩ => ⟨S_, .f32⟩
  | .hbm, ⟨7, _⟩ => ⟨S10240, .f32⟩
  | .hbm, ⟨8, _⟩ => ⟨S10240, .i1⟩
  | .hbm, ⟨9, _⟩ => ⟨S_, .f32⟩
  | .hbm, ⟨10, _⟩ => ⟨S_, .f32⟩
  | .hbm, ⟨11, _⟩ => ⟨S10240, .f32⟩
  | .hbm, ⟨12, _⟩ => ⟨S10240, .f32⟩
  | .hbm, ⟨13, _⟩ => ⟨S2000, .f32⟩
  | .hbm, ⟨14, _⟩ => ⟨S2000, .i32⟩
  | .hbm, ⟨15, _⟩ => ⟨S_, .i32⟩
  | .hbm, ⟨16, _⟩ => ⟨S2000, .i32⟩
  | .hbm, ⟨17, _⟩ => ⟨S2000, .i1⟩
  | .hbm, ⟨18, _⟩ => ⟨S_, .i32⟩
  | .hbm, ⟨19, _⟩ => ⟨S2000, .i32⟩
  | .hbm, ⟨20, _⟩ => ⟨S2000, .i32⟩
  | .hbm, ⟨21, _⟩ => ⟨S2000, .i32⟩
  | .hbm, ⟨22, _⟩ => ⟨S2000x1, .i32⟩
  | .hbm, ⟨23, _⟩ => ⟨S2000, .i1⟩
  | .hbm, ⟨24, _⟩ => ⟨S2000x1, .i1⟩
  | .hbm, ⟨25, _⟩ => ⟨S_, .i32⟩
  | .hbm, ⟨26, _⟩ => ⟨S2000, .i32⟩
  | .hbm, ⟨27, _⟩ => ⟨S2000, .i1⟩
  | .hbm, ⟨28, _⟩ => ⟨S_, .i32⟩
  | .hbm, ⟨29, _⟩ => ⟨S2000, .i32⟩
  | .hbm, ⟨30, _⟩ => ⟨S2000, .i32⟩
  | .hbm, ⟨31, _⟩ => ⟨S2000, .i32⟩
  | .hbm, ⟨32, _⟩ => ⟨S2000x1, .i32⟩
  | .hbm, ⟨33, _⟩ => ⟨S2000x4, .f32⟩
  | .hbm, ⟨34, _⟩ => ⟨S_, .f32⟩
  | .hbm, ⟨35, _⟩ => ⟨S_, .f32⟩
  | .hbm, ⟨36, _⟩ => ⟨S2000x4, .i1⟩
  | .hbm, ⟨37, _⟩ => ⟨S2000x4, .f32⟩
  | .hbm, ⟨38, _⟩ => ⟨S2000x4, .f32⟩
  | .hbm, ⟨39, _⟩ => ⟨S_, .i32⟩
  | .hbm, ⟨40, _⟩ => ⟨S2000, .i32⟩
  | .hbm, ⟨41, _⟩ => ⟨S2000, .i1⟩
  | .hbm, ⟨42, _⟩ => ⟨S_, .i32⟩
  | .hbm, ⟨43, _⟩ => ⟨S2000, .i32⟩
  | .hbm, ⟨44, _⟩ => ⟨S2000, .i32⟩
  | .hbm, ⟨45, _⟩ => ⟨S2000, .i32⟩
  | .hbm, ⟨46, _⟩ => ⟨S2000x1, .i32⟩
  | .hbm, ⟨47, _⟩ => ⟨S2000, .f32⟩
  | .hbm, ⟨48, _⟩ => ⟨S_, .f32⟩
  | .hbm, ⟨49, _⟩ => ⟨S_, .f32⟩
  | .hbm, ⟨50, _⟩ => ⟨S2000, .f32⟩
  | .hbm, ⟨51, _⟩ => ⟨S2000, .f32⟩
  | _, _ => ⟨S10240x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_call2_v0 : Ref sig .tc := ⟨.hbm, 49, rfl⟩
abbrev main_call2_v1 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== Decode.lean ====
abbrev S22500 : Shape := ⟨1, ![22500]⟩
abbrev S22500x4 : Shape := ⟨2, ![22500, 4]⟩
abbrev S3 : Shape := ⟨1, ![3]⟩
abbrev S_ : Shape := ⟨0, ![]⟩
abbrev S540 : Shape := ⟨1, ![540]⟩
abbrev S23040 : Shape := ⟨1, ![23040]⟩
abbrev S23040x8 : Shape := ⟨2, ![23040, 8]⟩
abbrev S1 : Shape := ⟨1, ![1]⟩
abbrev S2 : Shape := ⟨1, ![2]⟩
abbrev S3x1 : Shape := ⟨2, ![3, 1]⟩
abbrev S1x3 : Shape := ⟨2, ![1, 3]⟩
abbrev S3x3 : Shape := ⟨2, ![3, 3]⟩
abbrev S9 : Shape := ⟨1, ![9]⟩
abbrev S9x1 : Shape := ⟨2, ![9, 1]⟩
abbrev S9x4 : Shape := ⟨2, ![9, 4]⟩
abbrev S50 : Shape := ⟨1, ![50]⟩
abbrev S50x50 : Shape := ⟨2, ![50, 50]⟩
abbrev S2500 : Shape := ⟨1, ![2500]⟩
abbrev S1x9 : Shape := ⟨2, ![1, 9]⟩
abbrev S2500x9 : Shape := ⟨2, ![2500, 9]⟩
abbrev S2500x1 : Shape := ⟨2, ![2500, 1]⟩
abbrev S128x8 : Shape := ⟨2, ![128, 8]⟩
abbrev S128x1 : Shape := ⟨2, ![128, 1]⟩

abbrev nBuf : Space → Nat
  | .hbm => 126
  | .vmem => 6
  | .smem => 0
  | _ => 0

abbrev bufTy : (tb : Table) → Fin (tcTables nBuf tb) → BufTy
  | .hbm, ⟨0, _⟩ => ⟨S22500, .f32⟩
  | .hbm, ⟨1, _⟩ => ⟨S22500x4, .f32⟩
  | .hbm, ⟨2, _⟩ => ⟨S3, .f32⟩
  | .hbm, ⟨3, _⟩ => ⟨S3, .f32⟩
  | .hbm, ⟨4, _⟩ => ⟨S22500, .f32⟩
  | .hbm, ⟨5, _⟩ => ⟨S22500, .f32⟩
  | .hbm, ⟨6, _⟩ => ⟨S_, .f32⟩
  | .hbm, ⟨7, _⟩ => ⟨S22500, .f32⟩
  | .hbm, ⟨8, _⟩ => ⟨S22500, .f32⟩
  | .hbm, ⟨9, _⟩ => ⟨S_, .f32⟩
  | .hbm, ⟨10, _⟩ => ⟨S22500, .f32⟩
  | .hbm, ⟨11, _⟩ => ⟨S22500, .f32⟩
  | .hbm, ⟨12, _⟩ => ⟨S_, .f32⟩
  | .hbm, ⟨13, _⟩ => ⟨S540, .f32⟩
  | .hbm, ⟨14, _⟩ => ⟨S23040, .f32⟩
  | .hbm, ⟨15, _⟩ => ⟨S_, .f32⟩
  | .hbm, ⟨16, _⟩ => ⟨S23040x8, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S23040x8, .f32⟩
  | .hbm, ⟨23, _⟩ => ⟨S_, .i32⟩
  | .hbm, ⟨24, _⟩ => ⟨S1, .i32⟩
  | .hbm, ⟨25, _⟩ => ⟨S23040x8, .f32⟩
  | .hbm, ⟨26, _⟩ => ⟨S3, .f32⟩
  | .hbm, ⟨27, _⟩ => ⟨S_, .f32⟩
  | .hbm, ⟨28, _⟩ => ⟨S3, .f32⟩
  | .hbm, ⟨29, _⟩ => ⟨S3, .f32⟩
  | .hbm, ⟨30, _⟩ => ⟨S3x1, .f32⟩
  | .hbm, ⟨31, _⟩ => ⟨S1x3, .f32⟩
  | .hbm, ⟨32, _⟩ => ⟨S3x3, .f32⟩
  | .hbm, ⟨33, _⟩ => ⟨S3x3, .f32⟩
  | .hbm, ⟨34, _⟩ => ⟨S3x3, .f32⟩
  | .hbm, ⟨35, _⟩ => ⟨S9, .f32⟩
  | .hbm, ⟨36, _⟩ => ⟨S3x1, .f32⟩
  | .hbm, ⟨37, _⟩ => ⟨S1x3, .f32⟩
  | .hbm, ⟨38, _⟩ => ⟨S3x3, .f32⟩
  | .hbm, ⟨39, _⟩ => ⟨S3x3, .f32⟩
  | .hbm, ⟨40, _⟩ => ⟨S3x3, .f32⟩
  | .hbm, ⟨41, _⟩ => ⟨S9, .f32⟩
  | .hbm, ⟨42, _⟩ => ⟨S9, .f32⟩
  | .hbm, ⟨43, _⟩ => ⟨S9, .f32⟩
  | .hbm, ⟨44, _⟩ => ⟨S9x1, .f32⟩
  | .hbm, ⟨45, _⟩ => ⟨S9x1, .f32⟩
  | .hbm, ⟨46, _⟩ => ⟨S9x1, .f32⟩
  | .hbm, ⟨47, _⟩ => ⟨S9x1, .f32⟩
  | .hbm, ⟨48, _⟩ => ⟨S9x4, .f32⟩
  | .hbm, ⟨49, _⟩ => ⟨S_, .f32⟩
  | .hbm, ⟨50, _⟩ => ⟨S9x4, .f32⟩
  | .hbm, ⟨51, _⟩ => ⟨S9x4, .f32⟩
  | .hbm, ⟨52, _⟩ => ⟨S9x4, .f32⟩
  | .hbm, ⟨53, _⟩ => ⟨S9x1, .f32⟩
  | .hbm, ⟨54, _⟩ => ⟨S9, .f32⟩
  | .hbm, ⟨55, _⟩ => ⟨S9x1, .f32⟩
  | .hbm, ⟨56, _⟩ => ⟨S9, .f32⟩
  | .hbm, ⟨57, _⟩ => ⟨S9, .f32⟩
  | .hbm, ⟨58, _⟩ => ⟨S9x1, .f32⟩
  | .hbm, ⟨59, _⟩ => ⟨S9, .f32⟩
  | .hbm, ⟨60, _⟩ => ⟨S9x1, .f32⟩
  | .hbm, ⟨61, _⟩ => ⟨S9, .f32⟩
  | .hbm, ⟨62, _⟩ => ⟨S9, .f32⟩
  | .hbm, ⟨63, _⟩ => ⟨S9x1, .f32⟩
  | .hbm, ⟨64, _⟩ => ⟨S9, .f32⟩
  | .hbm, ⟨65, _⟩ => ⟨S_, .f32⟩
  | .hbm, ⟨66, _⟩ => ⟨S9, .f32⟩
  | .hbm, ⟨67, _⟩ => ⟨S9, .f32⟩
  | .hbm, ⟨68, _⟩ => ⟨S9, .f32⟩
  | .hbm, ⟨69, _⟩ => ⟨S9x1, .f32⟩
  | .hbm, ⟨70, _⟩ => ⟨S9, .f32⟩
  | .hbm, ⟨71, _⟩ => ⟨S_, .f32⟩
  | .hbm, ⟨72, _⟩ => ⟨S9, .f32⟩
  | .hbm, ⟨73, _⟩ => ⟨S9, .f32⟩
  | .hbm, ⟨74, _⟩ => ⟨S9, .f32⟩
  | .hbm, ⟨75, _⟩ => ⟨S50, .f32⟩
  | .hbm, ⟨76, _⟩ => ⟨S50, .f32⟩
  | .hbm, ⟨77, _⟩ => ⟨S50x50, .f32⟩
  | .hbm, ⟨78, _⟩ => ⟨S50x50, .f32⟩
  | .hbm, ⟨79, _⟩ => ⟨S2500, .f32⟩
  | .hbm, ⟨80, _⟩ => ⟨S2500, .f32⟩
  | .hbm, ⟨81, _⟩ => ⟨S1x9, .f32⟩
  | .hbm, ⟨82, _⟩ => ⟨S2500x9, .f32⟩
  | .hbm, ⟨83, _⟩ => ⟨S22500, .f32⟩
  | .hbm, ⟨84, _⟩ => ⟨S1x9, .f32⟩
  | .hbm, ⟨85, _⟩ => ⟨S2500x9, .f32⟩
  | .hbm, ⟨86, _⟩ => ⟨S22500, .f32⟩
  | .hbm, ⟨87, _⟩ => ⟨S2500x1, .f32⟩
  | .hbm, ⟨88, _⟩ => ⟨S1x9, .f32⟩
  | .hbm, ⟨89, _⟩ => ⟨S2500x9, .f32⟩
  | .hbm, ⟨90, _⟩ => ⟨S2500x9, .f32⟩
  | .hbm, ⟨91, _⟩ => ⟨S2500x9, .f32⟩
  | .hbm, ⟨92, _⟩ => ⟨S22500, .f32⟩
  | .hbm, ⟨93, _⟩ => ⟨S2500x1, .f32⟩
  | .hbm, ⟨94, _⟩ => ⟨S1x9, .f32⟩
  | .hbm, ⟨95, _⟩ => ⟨S2500x9, .f32⟩
  | .hbm, ⟨96, _⟩ => ⟨S2500x9, .f32⟩
  | .hbm, ⟨97, _⟩ => ⟨S2500x9, .f32⟩
  | .hbm, ⟨98, _⟩ => ⟨S22500, .f32⟩
  | .hbm, ⟨99, _⟩ => ⟨S_, .f32⟩
  | .hbm, ⟨100, _⟩ => ⟨S23040x8, .f32⟩
  | .hbm, ⟨101, _⟩ => ⟨S_, .i32⟩
  | .hbm, ⟨102, _⟩ => ⟨S1, .i32⟩
  | .hbm, ⟨103, _⟩ => ⟨S_, .i32⟩
  | .hbm, ⟨104, _⟩ => ⟨S1, .i32⟩
  | .hbm, ⟨105, _⟩ => ⟨S2, .i32⟩
  | .hbm, ⟨106, _⟩ => ⟨S23040x8, .f32⟩
  | .hbm, ⟨107, _⟩ => ⟨S_, .i32⟩
  | .hbm, ⟨108, _⟩ => ⟨S1, .i32⟩
  | .hbm, ⟨109, _⟩ => ⟨S_, .i32⟩
  | .hbm, ⟨110, _⟩ => ⟨S1, .i32⟩
  | .hbm, ⟨111, _⟩ => ⟨S2, .i32⟩
  | .hbm, ⟨112, _⟩ => ⟨S23040x8, .f32⟩
  | .hbm, ⟨113, _⟩ => ⟨S_, .i32⟩
  | .hbm, ⟨114, _⟩ => ⟨S1, .i32⟩
  | .hbm, ⟨115, _⟩ => ⟨S_, .i32⟩
  | .hbm, ⟨116, _⟩ => ⟨S1, .i32⟩
  | .hbm, ⟨117, _⟩ => ⟨S2, .i32⟩
  | .hbm, ⟨118, _⟩ => ⟨S23040x8, .f32⟩
  | .hbm, ⟨119, _⟩ => ⟨S_, .i32⟩
  | .hbm, ⟨120, _⟩ => ⟨S1, .i32⟩
  | .hbm, ⟨121, _⟩ => ⟨S_, .i32⟩
  | .hbm, ⟨122, _⟩ => ⟨S1, .i32⟩
  | .hbm, ⟨123, _⟩ => ⟨S2, .i32⟩
  | .hbm, ⟨124, _⟩ => ⟨S23040x8, .f32⟩
  | .hbm, ⟨125, _⟩ => ⟨S23040x8, .f32⟩
  | .local _ .vmem, ⟨0, _⟩ => ⟨S128x8, .f32⟩
  | .local _ .vmem, ⟨1, _⟩ => ⟨S128x8, .f32⟩
  | .local _ .vmem, ⟨2, _⟩ => ⟨S128x8, .f32⟩
  | .local _ .vmem, ⟨3, _⟩ => ⟨S128x8, .f32⟩
  | .local _ .vmem, ⟨4, _⟩ => ⟨S128x8, .f32⟩
  | .local _ .vmem, ⟨5, _⟩ => ⟨S128x8, .f32⟩
  | _, _ => ⟨S22500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_c_5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_6 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_7 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_11 : Ref sig .tc := ⟨.hbm, 99, rfl⟩
abbrev main_v84 : Ref sig .tc := ⟨.hbm, 100, rfl⟩
abbrev main_c_12 : Ref sig .tc := ⟨.hbm, 101, rfl⟩
abbrev main_v85 : Ref sig .tc := ⟨.hbm, 102, rfl⟩
abbrev main_c_13 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_c_14 : Ref sig .tc := ⟨.hbm, 107, rfl⟩
abbrev main_v89 : Ref sig .tc := ⟨.hbm, 108, rfl⟩
abbrev main_c_15 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_c_16 : Ref sig .tc := ⟨.hbm, 113, rfl⟩
abbrev main_v93 : Ref sig .tc := ⟨.hbm, 114, rfl⟩
abbrev main_c_17 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_c_18 : Ref sig .tc := ⟨.hbm, 119, rfl⟩
abbrev main_v97 : Ref sig .tc := ⟨.hbm, 120, rfl⟩
abbrev main_c_19 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![180], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DecodeReferenceIdeal.lean ====
abbrev S22500 : Shape := ⟨1, ![22500]⟩
abbrev S22500x4 : Shape := ⟨2, ![22500, 4]⟩
abbrev S3 : Shape := ⟨1, ![3]⟩
abbrev S8 : Shape := ⟨1, ![8]⟩
abbrev S_ : Shape := ⟨0, ![]⟩
abbrev S3x1 : Shape := ⟨2, ![3, 1]⟩
abbrev S1x3 : Shape := ⟨2, ![1, 3]⟩
abbrev S3x3 : Shape := ⟨2, ![3, 3]⟩
abbrev S9 : Shape := ⟨1, ![9]⟩
abbrev S9x1 : Shape := ⟨2, ![9, 1]⟩
abbrev S9x4 : Shape := ⟨2, ![9, 4]⟩
abbrev S50 : Shape := ⟨1, ![50]⟩
abbrev S50x50 : Shape := ⟨2, ![50, 50]⟩
abbrev S2500 : Shape := ⟨1, ![2500]⟩
abbrev S2500x1 : Shape := ⟨2, ![2500, 1]⟩
abbrev S2500x4 : Shape := ⟨2, ![2500, 4]⟩
abbrev S2500x1x4 : Shape := ⟨3, ![2500, 1, 4]⟩
abbrev S1x9x4 : Shape := ⟨3, ![1, 9, 4]⟩
abbrev S2500x9x4 : Shape := ⟨3, ![2500, 9, 4]⟩
abbrev S22500x1 : Shape := ⟨2, ![22500, 1]⟩
abbrev S22500x8 : Shape := ⟨2, ![22500, 8]⟩
abbrev S540x8 : Shape := ⟨2, ![540, 8]⟩
abbrev S23040x8 : Shape := ⟨2, ![23040, 8]⟩

abbrev nBuf : Space → Nat
  | .hbm => 169
  | .vmem => 0
  | .smem => 0
  | _ => 0

abbrev hbmTy0_0 (i : Nat) : BufTy := match i % 128 with
  | 0 => ⟨S22500, .f32⟩
  | 1 => ⟨S22500x4, .f32⟩
  | 2 => ⟨S3, .f32⟩
  | 3 => ⟨S3, .f32⟩
  | 4 => ⟨S8, .f32⟩
  | 5 => ⟨S3, .f32⟩
  | 6 => ⟨S_, .f32⟩
  | 7 => ⟨S3, .f32⟩
  | 8 => ⟨S3, .f32⟩
  | 9 => ⟨S3x1, .f32⟩
  | 10 => ⟨S1x3, .f32⟩
  | 11 => ⟨S3x3, .f32⟩
  | 12 => ⟨S3x3, .f32⟩
  | 13 => ⟨S3x3, .f32⟩
  | 14 => ⟨S9, .f32⟩
  | 15 => ⟨S3x1, .f32⟩
  | 16 => ⟨S1x3, .f32⟩
  | 17 => ⟨S3x3, .f32⟩
  | 18 => ⟨S3x3, .f32⟩
  | 19 => ⟨S3x3, .f32⟩
  | 20 => ⟨S9, .f32⟩
  | 21 => ⟨S9, .f32⟩
  | 22 => ⟨S9, .f32⟩
  | 23 => ⟨S9x1, .f32⟩
  | 24 => ⟨S9x1, .f32⟩
  | 25 => ⟨S9x1, .f32⟩
  | 26 => ⟨S9x1, .f32⟩
  | 27 => ⟨S9x4, .f32⟩
  | 28 => ⟨S_, .f32⟩
  | 29 => ⟨S9x4, .f32⟩
  | 30 => ⟨S9x4, .f32⟩
  | 31 => ⟨S9x4, .f32⟩
  | 32 => ⟨S50, .f32⟩
  | 33 => ⟨S50, .f32⟩
  | 34 => ⟨S50x50, .f32⟩
  | 35 => ⟨S50x50, .f32⟩
  | 36 => ⟨S2500, .f32⟩
  | 37 => ⟨S2500, .f32⟩
  | 38 => ⟨S2500x1, .f32⟩
  | 39 => ⟨S2500x1, .f32⟩
  | 40 => ⟨S2500x1, .f32⟩
  | 41 => ⟨S2500x1, .f32⟩
  | 42 => ⟨S2500x4, .f32⟩
  | 43 => ⟨S2500x1x4, .f32⟩
  | 44 => ⟨S1x9x4, .f32⟩
  | 45 => ⟨S2500x9x4, .f32⟩
  | 46 => ⟨S2500x9x4, .f32⟩
  | 47 => ⟨S2500x9x4, .f32⟩
  | 48 => ⟨S22500x4, .f32⟩
  | 49 => ⟨S22500x1, .f32⟩
  | 50 => ⟨S22500, .f32⟩
  | 51 => ⟨S22500x1, .f32⟩
  | 52 => ⟨S22500, .f32⟩
  | 53 => ⟨S22500, .f32⟩
  | 54 => ⟨S22500x1, .f32⟩
  | 55 => ⟨S22500, .f32⟩
  | 56 => ⟨S22500x1, .f32⟩
  | 57 => ⟨S22500, .f32⟩
  | 58 => ⟨S22500, .f32⟩
  | 59 => ⟨S22500x1, .f32⟩
  | 60 => ⟨S22500, .f32⟩
  | 61 => ⟨S_, .f32⟩
  | 62 => ⟨S22500, .f32⟩
  | 63 => ⟨S22500, .f32⟩
  | 64 => ⟨S22500, .f32⟩
  | 65 => ⟨S22500x1, .f32⟩
  | 66 => ⟨S22500, .f32⟩
  | 67 => ⟨S_, .f32⟩
  | 68 => ⟨S22500, .f32⟩
  | 69 => ⟨S22500, .f32⟩
  | 70 => ⟨S22500, .f32⟩
  | 71 => ⟨S22500x1, .f32⟩
  | 72 => ⟨S22500, .f32⟩
  | 73 => ⟨S22500, .f32⟩
  | 74 => ⟨S22500, .f32⟩
  | 75 => ⟨S22500x1, .f32⟩
  | 76 => ⟨S22500, .f32⟩
  | 77 => ⟨S22500, .f32⟩
  | 78 => ⟨S22500, .f32⟩
  | 79 => ⟨S22500x1, .f32⟩
  | 80 => ⟨S22500, .f32⟩
  | 81 => ⟨S22500, .f32⟩
  | 82 => ⟨S22500, .f32⟩
  | 83 => ⟨S22500x1, .f32⟩
  | 84 => ⟨S22500, .f32⟩
  | 85 => ⟨S22500, .f32⟩
  | 86 => ⟨S22500, .f32⟩
  | 87 => ⟨S_, .f32⟩
  | 88 => ⟨S22500, .f32⟩
  | 89 => ⟨S22500, .f32⟩
  | 90 => ⟨S22500, .f32⟩
  | 91 => ⟨S_, .f32⟩
  | 92 => ⟨S_, .f32⟩
  | 93 => ⟨S_, .f32⟩
  | 94 => ⟨S22500, .f32⟩
  | 95 => ⟨S22500, .f32⟩
  | 96 => ⟨S_, .f32⟩
  | 97 => ⟨S22500, .f32⟩
  | 98 => ⟨S22500, .f32⟩
  | 99 => ⟨S_, .f32⟩
  | 100 => ⟨S22500, .f32⟩
  | 101 => ⟨S22500, .f32⟩
  | 102 => ⟨S22500, .f32⟩
  | 103 => ⟨S_, .f32⟩
  | 104 => ⟨S_, .f32⟩
  | 105 => ⟨S_, .f32⟩
  | 106 => ⟨S22500, .f32⟩
  | 107 => ⟨S22500, .f32⟩
  | 108 => ⟨S_, .f32⟩
  | 109 => ⟨S22500, .f32⟩
  | 110 => ⟨S22500, .f32⟩
  | 111 => ⟨S_, .f32⟩
  | 112 => ⟨S22500, .f32⟩
  | 113 => ⟨S22500, .f32⟩
  | 114 => ⟨S22500, .f32⟩
  | 115 => ⟨S_, .f32⟩
  | 116 => ⟨S_, .f32⟩
  | 117 => ⟨S_, .f32⟩
  | 118 => ⟨S22500, .f32⟩
  | 119 => ⟨S22500, .f32⟩
  | 120 => ⟨S_, .f32⟩
  | 121 => ⟨S22500, .f32⟩
  | 122 => ⟨S22500, .f32⟩
  | 123 => ⟨S_, .f32⟩
  | 124 => ⟨S22500, .f32⟩
  | 125 => ⟨S22500, .f32⟩
  | 126 => ⟨S22500, .f32⟩
  | 127 => ⟨S_, .f32⟩
  | _ => ⟨S22500, .f32⟩

abbrev hbmTy0_1 (i : Nat) : BufTy := match i % 128 with
  | 0 => ⟨S_, .f32⟩
  | 1 => ⟨S_, .f32⟩
  | 2 => ⟨S22500, .f32⟩
  | 3 => ⟨S22500, .f32⟩
  | 4 => ⟨S_, .f32⟩
  | 5 => ⟨S22500, .f32⟩
  | 6 => ⟨S22500, .f32⟩
  | 7 => ⟨S22500, .f32⟩
  | 8 => ⟨S_, .f32⟩
  | 9 => ⟨S22500, .f32⟩
  | 10 => ⟨S22500, .i1⟩
  | 11 => ⟨S22500, .f32⟩
  | 12 => ⟨S_, .f32⟩
  | 13 => ⟨S22500, .f32⟩
  | 14 => ⟨S22500, .i1⟩
  | 15 => ⟨S22500, .i1⟩
  | 16 => ⟨S22500, .f32⟩
  | 17 => ⟨S22500, .f32⟩
  | 18 => ⟨S22500, .f32⟩
  | 19 => ⟨S22500, .f32⟩
  | 20 => ⟨S22500, .f32⟩
  | 21 => ⟨S22500, .f32⟩
  | 22 => ⟨S_, .f32⟩
  | 23 => ⟨S22500, .f32⟩
  | 24 => ⟨S22500, .f32⟩
  | 25 => ⟨S_, .f32⟩
  | 26 => ⟨S22500, .f32⟩
  | 27 => ⟨S22500, .f32⟩
  | 28 => ⟨S_, .f32⟩
  | 29 => ⟨S22500, .f32⟩
  | 30 => ⟨S22500x1, .f32⟩
  | 31 => ⟨S22500x1, .f32⟩
  | 32 => ⟨S22500x1, .f32⟩
  | 33 => ⟨S22500x1, .f32⟩
  | 34 => ⟨S22500x1, .f32⟩
  | 35 => ⟨S22500x1, .f32⟩
  | 36 => ⟨S22500x1, .f32⟩
  | 37 => ⟨S22500x1, .f32⟩
  | 38 => ⟨S22500x8, .f32⟩
  | 39 => ⟨S540x8, .f32⟩
  | 40 => ⟨S23040x8, .f32⟩
  | _ => ⟨S22500, .f32⟩

abbrev hbmTy (i : Nat) : BufTy := match i / 128 with
  | 0 => hbmTy0_0 i
  | 1 => hbmTy0_1 i
  | _ => ⟨S22500, .f32⟩

abbrev bufTy : (tb : Table) → Fin (tcTables nBuf tb) → BufTy
  | .hbm, ⟨i, _⟩ => hbmTy i
  | _, _ => ⟨S22500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_cst_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_4 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_5 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_cst_6 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_7 : Ref sig .tc := ⟨.hbm, 91, rfl⟩
abbrev main_cst_8 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v81 : Ref sig .tc := ⟨.hbm, 98, rfl⟩
abbrev main_cst_9 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_10 : Ref sig .tc := ⟨.hbm, 103, rfl⟩
abbrev main_cst_11 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v85 : Ref sig .tc := ⟨.hbm, 110, rfl⟩
abbrev main_cst_12 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_13 : Ref sig .tc := ⟨.hbm, 115, rfl⟩
abbrev main_cst_14 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_16 : Ref sig .tc := ⟨.hbm, 127, rfl⟩
abbrev main_cst_17 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_v93 : Ref sig .tc := ⟨.hbm, 134, rfl⟩
abbrev main_v94 : Ref sig .tc := ⟨.hbm, 135, rfl⟩
abbrev main_cst_18 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_19 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_20 : Ref sig .tc := ⟨.hbm, 150, rfl⟩
abbrev main_v107 : Ref sig .tc := ⟨.hbm, 151, rfl⟩
abbrev main_v108 : Ref sig .tc := ⟨.hbm, 152, rfl⟩
abbrev main_cst_21 : Ref sig .tc := ⟨.hbm, 153, rfl⟩
abbrev main_v109 : Ref sig .tc := ⟨.hbm, 154, rfl⟩
abbrev main_v110 : Ref sig .tc := ⟨.hbm, 155, rfl⟩
abbrev main_cst_22 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩

abbrev nD : Nat := 1
abbrev τ : Topo := Topo.v7x

variable {F : FTy → Type} [FloatOps F]
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Sel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What a window holds before the body runs at a point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- What a window holds before the body runs at a point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- What a window holds before the body runs at a point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S128x1 .f32 := (Memref.whole cc0_stg3_0 : Memref sig .tc .vmem S128x1 .f32).view
/-- One staging buffer of output window 4, through which its contents are stated (`View.read_writes_of_cover`: the
    choice does not matter). -/
abbrev VO0_4 : View sig .tc .smem S1x1x2 .f32 := (Memref.whole cc0_stg4_0 : Memref sig .tc .smem S1x1x2 .f32).view
/-- Each window's current staging memref at point `t`, spelled as the pipeline passes it (`bodyAt0`), and its wholeness. -/
abbrev ms0_0 (t : Fin cfg0.N) : Memref sig .tc .vmem S23040x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S180x1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S20x1x1152 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1x1x2 .f32 := win0_4.stage (cfg0.slots t 4)
abbrev hs0_4 (t : Fin cfg0.N) : (ms0_4 t).IsWhole := hstage0_4 ((cfg0.slots t 4).cast nbuf0_4)
set_option maxHeartbeats 1000000 in
/-- The pieces the body stores, with the triple of the body that leaves them. -/
noncomputable def kernelRun0_A (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole)
    (x0 : Vec F S23040x8 .f32) (x1 : Vec F S180x1x128 .f32) (x2 : Vec F S20x1x1152 .f32) :
    Σ' (L3 : List (View.Piece (Elt F) S128x1 .f32)), { L4 : List (View.Piece (Elt F) S1x1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__rank_body i arg1 harg1 arg2 harg2 arg3 harg3 arg4 harg4 arg5 harg5) K } := by
  refine ⟨?_, ?_, fun E K => ?run⟩
  case run =>
    simp only [cc0__rank_body_eq_skeleton]; unfold cc0__rank_body_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- The stored pieces cover the block. -/
theorem cover0_A_3 (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole)
    (x0 : Vec F S23040x8 .f32) (x1 : Vec F S180x1x128 .f32) (x2 : Vec F S20x1x1152 .f32) (y : S128x1.Idx) :
    ∃ pc ∈ (kernelRun0_A c i arg1 harg1 arg2 harg2 arg3 harg3 arg4 harg4 arg5 harg5 x0 x1 x2).1, y ∈ pc.1.set :=
  View.cover_of_tiledL (kernelRun0_A c i arg1 harg1 arg2 harg2 arg3 harg3 arg4 harg4 arg5 harg5 x0 x1 x2).1 S128x1.size (by sl_kernel_rfl) y

/-- What the run leaves in output 3's staging buffer: its pieces read back over junk. -/
def out0_A_3 (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole)
    (x0 : Vec F S23040x8 .f32) (x1 : Vec F S180x1x128 .f32) (x2 : Vec F S20x1x1152 .f32) : Vec F S128x1 .f32 :=
  VO0_3.read (Elt F) (VO0_3.writes (Elt F) VO0_3.junk (kernelRun0_A c i arg1 harg1 arg2 harg2 arg3 harg3 arg4 harg4 arg5 harg5 x0 x1 x2).1)

/-- The stored pieces cover the block. -/
theorem cover0_A_4 (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole)
    (x0 : Vec F S23040x8 .f32) (x1 : Vec F S180x1x128 .f32) (x2 : Vec F S20x1x1152 .f32) (y : S1x1x2.Idx) :
    ∃ pc ∈ (kernelRun0_A c i arg1 harg1 arg2 harg2 arg3 harg3 arg4 harg4 arg5 harg5 x0 x1 x2).2.1, y ∈ pc.1.set :=
  View.cover_of_tiledL (kernelRun0_A c i arg1 harg1 arg2 harg2 arg3 harg3 arg4 harg4 arg5 harg5 x0 x1 x2).2.1 S1x1x1.size (by sl_kernel_rfl) y

/-- What the run leaves in output 4's staging buffer: its pieces read back over junk. -/
def out0_A_4 (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole)
    (x0 : Vec F S23040x8 .f32) (x1 : Vec F S180x1x128 .f32) (x2 : Vec F S20x1x1152 .f32) : Vec F S1x1x2 .f32 :=
  VO0_4.read (Elt F) (VO0_4.writes (Elt F) VO0_4.junk (kernelRun0_A c i arg1 harg1 arg2 harg2 arg3 harg3 arg4 harg4 arg5 harg5 x0 x1 x2).2.1)

/-! ## What the outputs hold after each point -/

/-- What the outputs' staging buffers hold after the body at point `t` (as a tuple, in window order): the run's contents at
    the point's memrefs and input blocks. -/
def outsAt0 (c : Dev nD) (t : Fin cfg0.N) : Vec F S128x1 .f32 × Vec F S1x1x2 .f32 :=
  (out0_A_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t))

/-! ## The pipeline's proof data -/

/-- The proof data of the pipeline. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- The body at a point: what it is given. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _)
  unfold owns; iexists _; isplitr
  swap; · iexact H4
  ipureintro; exact View.read_writes_of_cover _ _ _ _ _ (cover0_A_4 c _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The obligation of the pipeline on its body. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Proof.Sel

end
-- ==== Proof.ScatLoop.lean ====
module

public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.Proof.Sel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Whether the block of ranks of grid point `i` can meet a block whose smallest rank is `lo` and
whose largest is `hi`: the condition of the kernel's conditional. -/
def hit (i : grid1.Coords) (lo hi : Elt F .f32) : BitVec 1 :=
  Scalar.cmpi .ne (Scalar.extui (Scalar.andi (Scalar.cmpf .olt lo (k1_pay3 (F := F) i)) (Scalar.cmpf .oge hi (k1_pay2 (F := F) i))) : BitVec 32) 0#32

/-- What one trip of the scatter loop makes of the carried block `acc`: a further product where the
ranges overlap, `acc` itself where the conditional skips the block. -/
def tripVal (i : grid1.Coords) (arg1 : Memref sig .tc .vmem S23040x8 .f32) (arg2 : Memref sig .tc .vmem S180x1x128 .f32) (arg3 : Memref sig .tc .smem S180x1x2 .f32)
    (X1 : BufTy.Contents (Elt F) arg1.view.ty) (X2 : BufTy.Contents (Elt F) arg2.view.ty) (X3 : BufTy.Contents (Elt F) arg3.view.ty)
    (k : Fin k1_t1_loop.trips) (acc : FVec F S128x8 .f32) : FVec F S128x8 .f32 :=
  if hit (F := F) i (arg3.view.readAt (Elt F) (Rect.unit (s := S180x1x2) (k1_off1 k) S1x1x1.size (k1_off1_inb k)).toLoadRect X3 (Shape.Idx.first (numel1_S1x1x1.symm ▸ Nat.one_pos)))
      (arg3.view.readAt (Elt F) (Rect.unit (s := S180x1x2) (k1_off2 k) S1x1x1.size (k1_off2_inb k)).toLoadRect X3 (Shape.Idx.first (numel1_S1x1x1.symm ▸ Nat.one_pos))) = 1#1
  then k1_pay5 i acc (arg2.view.readAt (Elt F) (Rect.unit (s := S180x1x128) (k1_off3 k) S1x1x128.size (k1_off3_inb k)).toLoadRect X2)
    (arg1.view.readAt (Elt F) (Rect.unit (s := S23040x8) (k1_off4 k) S128x8.size (k1_off4_inb k)).toLoadRect X1)
  else acc

/-- The three buffers a trip reads. -/
abbrev TripRes (c : Dev nD) (arg1 : Memref sig .tc .vmem S23040x8 .f32) (arg2 : Memref sig .tc .vmem S180x1x128 .f32) (arg3 : Memref sig .tc .smem S180x1x2 .f32)
    (X1 : BufTy.Contents (Elt F) arg1.view.ty) (X2 : BufTy.Contents (Elt F) arg2.view.ty) (X3 : BufTy.Contents (Elt F) arg3.view.ty) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3))

/-- One trip of the scatter loop, the conditional decided either way. -/
theorem trip (𝒱 : Variants) (c : Dev nD) (bd : Option 𝒱.V) (i : grid1.Coords) (arg1 : Memref sig .tc .vmem S23040x8 .f32) (harg1 : arg1.IsWhole) (arg2 : Memref sig .tc .vmem S180x1x128 .f32) (harg2 : arg2.IsWhole) (arg3 : Memref sig .tc .smem S180x1x2 .f32) (harg3 : arg3.IsWhole) (arg4 : Memref sig .tc .vmem S128x8 .f32) (harg4 : arg4.IsWhole)
    (X1 : BufTy.Contents (Elt F) arg1.view.ty) (X2 : BufTy.Contents (Elt F) arg2.view.ty) (X3 : BufTy.Contents (Elt F) arg3.view.ty) (k : Fin k1_t1_loop.trips)
    (E : Set ℕ) (acc : FVec F S128x8 .f32) :
      TripRes (F := F) c arg1 arg2 arg3 X1 X2 X3
      ⊢ wp frame (wpE (defs₀ (F := F)) 𝒱 (c : Thread nD τ) bd) E (k1_t1_body (F := F) i arg1 harg1 arg2 harg2 arg3 harg3 arg4 harg4 k acc)
          (fun yld => iprop(⌜yld = tripVal (F := F) i arg1 arg2 arg3 X1 X2 X3 k acc⌝ ∗ TripRes (F := F) c arg1 arg2 arg3 X1 X2 X3)) := by
  have hk : k.val < 180 := Nat.lt_of_lt_of_le k.isLt k1_t1_abs.2.1
  unfold k1_t1_body
  iintro ⟨H1, H2, H3⟩
  sl_exec
  split
  · rename_i h
    have e : tripVal (F := F) i arg1 arg2 arg3 X1 X2 X3 k acc = (k1_pay5 i acc (arg2.view.readAt (Elt F) (Rect.unit (s := S180x1x128) (k1_off3 k) S1x1x128.size (k1_off3_inb k)).toLoadRect X2)
      (arg1.view.readAt (Elt F) (Rect.unit (s := S23040x8) (k1_off4 k) S128x8.size (k1_off4_inb k)).toLoadRect X1)) := if_pos h
    rw [e]
    sl_exec
    sl_step
    sl_close
  · rename_i h
    have e : tripVal (F := F) i arg1 arg2 arg3 X1 X2 X3 k acc = acc := if_neg h
    rw [e]
    sl_exec
    sl_step
    sl_close

/-- The carried block before trip `k`. -/
def st (i : grid1.Coords) (arg1 : Memref sig .tc .vmem S23040x8 .f32) (arg2 : Memref sig .tc .vmem S180x1x128 .f32) (arg3 : Memref sig .tc .smem S180x1x2 .f32)
    (X1 : BufTy.Contents (Elt F) arg1.view.ty) (X2 : BufTy.Contents (Elt F) arg2.view.ty) (X3 : BufTy.Contents (Elt F) arg3.view.ty) (init : FVec F S128x8 .f32) : ℕ → FVec F S128x8 .f32
  | 0 => init
  | k + 1 => if h : k < k1_t1_loop.trips then tripVal (F := F) i arg1 arg2 arg3 X1 X2 X3 ⟨k, h⟩ (st i arg1 arg2 arg3 X1 X2 X3 init k)
      else st i arg1 arg2 arg3 X1 X2 X3 init k

theorem st_succ (i : grid1.Coords) (arg1 : Memref sig .tc .vmem S23040x8 .f32) (arg2 : Memref sig .tc .vmem S180x1x128 .f32) (arg3 : Memref sig .tc .smem S180x1x2 .f32)
    (X1 : BufTy.Contents (Elt F) arg1.view.ty) (X2 : BufTy.Contents (Elt F) arg2.view.ty) (X3 : BufTy.Contents (Elt F) arg3.view.ty) (init : FVec F S128x8 .f32) (k : Fin k1_t1_loop.trips) :
    st (F := F) i arg1 arg2 arg3 X1 X2 X3 init (k.val + 1)
      = tripVal (F := F) i arg1 arg2 arg3 X1 X2 X3 k (st (F := F) i arg1 arg2 arg3 X1 X2 X3 init k.val) := by
  rw [st.eq_2]; exact dif_pos k.isLt

set_option warn.classDefReducibility false in
/-- The scatter loop by its invariant: the three buffers it reads stay as they are, and the carried
block is `st` of the trips done. -/
@[sl_loop] def loopInv (𝒱 : Variants) (c : Dev nD) (bd : Option 𝒱.V) (E : Set ℕ) (i : grid1.Coords) (arg1 : Memref sig .tc .vmem S23040x8 .f32) (harg1 : arg1.IsWhole) (arg2 : Memref sig .tc .vmem S180x1x128 .f32) (harg2 : arg2.IsWhole) (arg3 : Memref sig .tc .smem S180x1x2 .f32) (harg3 : arg3.IsWhole) (arg4 : Memref sig .tc .vmem S128x8 .f32) (harg4 : arg4.IsWhole)
    (X1 : BufTy.Contents (Elt F) arg1.view.ty) (X2 : BufTy.Contents (Elt F) arg2.view.ty) (X3 : BufTy.Contents (Elt F) arg3.view.ty) (init : FVec F S128x8 .f32) :
    LoopInvTy_k1_t1 (F := F) Unit ℕ (UR sig nD τ) ℕ 𝒱 c bd E i arg1 harg1 arg2 harg2 arg3 harg3 arg4 harg4 init where
  inv k acc := iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3) ∗ ⌜acc = st (F := F) i arg1 arg2 arg3 X1 X2 X3 init k⌝)
  step k acc := by
    iintro ⟨H1, H2, H3, %h_acc⟩
    subst h_acc
    iapply (wp_wand_r Idealize.ShloMosaic.frame (wpE (defs₀ (F := F)) 𝒱 (c : Thread nD τ) bd) E)
    isplitl [H1 H2 H3]
    · iapply (trip (F := F) 𝒱 c bd i arg1 harg1 arg2 harg2 arg3 harg3 arg4 harg4 X1 X2 X3 k E (st (F := F) i arg1 arg2 arg3 X1 X2 X3 init k))
      isplitl [H1]; · iexact H1
      isplitl [H2]; · iexact H2
      iexact H3
    · iintro %yld ⟨%h_res, H1, H2, H3⟩
      isplitl [H1]; · iexact H1
      isplitl [H2]; · iexact H2
      isplitl [H3]; · iexact H3
      simp only [st_succ]
      ipureintro; rw [h_res]

end Cert.Proof.Sel
end
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.ScatLoop

@[expose] public section

set_option maxRecDepth 16384

noncomputable section

namespace Cert.Proof.Sel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What a window holds before the body runs at a point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- What a window holds before the body runs at a point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- What a window holds before the body runs at a point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S128x8 .f32 := (Memref.whole cc1_stg3_0 : Memref sig .tc .vmem S128x8 .f32).view
/-- Each window's current staging memref at point `t`, spelled as the pipeline passes it (`bodyAt1`), and its wholeness. -/
abbrev ms1_0 (t : Fin cfg1.N) : Memref sig .tc .vmem S23040x8 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S180x1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S180x1x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x8 .f32 := win1_3.stage (cfg1.slots t 3)
abbrev hs1_3 (t : Fin cfg1.N) : (ms1_3 t).IsWhole := hstage1_3 ((cfg1.slots t 3).cast nbuf1_3)
set_option maxHeartbeats 1000000 in
/-- The pieces the body stores, with the triple of the body that leaves them. -/
noncomputable def kernelRun1_A (c : Dev nD) (i : grid1.Coords) (arg1 : Memref sig .tc .vmem S23040x8 .f32) (harg1 : arg1.IsWhole) (arg2 : Memref sig .tc .vmem S180x1x128 .f32) (harg2 : arg2.IsWhole) (arg3 : Memref sig .tc .smem S180x1x2 .f32) (harg3 : arg3.IsWhole) (arg4 : Memref sig .tc .vmem S128x8 .f32) (harg4 : arg4.IsWhole)
    (x0 : Vec F S23040x8 .f32) (x1 : Vec F S180x1x128 .f32) (x2 : Vec F S180x1x2 .f32) :
    { L3 : List (View.Piece (Elt F) S128x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__scatter_body i arg1 harg1 arg2 harg2 arg3 harg3 arg4 harg4) K } := by
  refine ⟨?_, fun E K => ?run⟩
  case run =>
    simp only [cc1__scatter_body_eq_skeleton]; unfold cc1__scatter_body_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The stored pieces cover the block. -/
theorem cover1_A_3 (c : Dev nD) (i : grid1.Coords) (arg1 : Memref sig .tc .vmem S23040x8 .f32) (harg1 : arg1.IsWhole) (arg2 : Memref sig .tc .vmem S180x1x128 .f32) (harg2 : arg2.IsWhole) (arg3 : Memref sig .tc .smem S180x1x2 .f32) (harg3 : arg3.IsWhole) (arg4 : Memref sig .tc .vmem S128x8 .f32) (harg4 : arg4.IsWhole)
    (x0 : Vec F S23040x8 .f32) (x1 : Vec F S180x1x128 .f32) (x2 : Vec F S180x1x2 .f32) (y : S128x8.Idx) :
    ∃ pc ∈ (kernelRun1_A c i arg1 harg1 arg2 harg2 arg3 harg3 arg4 harg4 x0 x1 x2).1, y ∈ pc.1.set :=
  View.cover_of_tiledL (kernelRun1_A c i arg1 harg1 arg2 harg2 arg3 harg3 arg4 harg4 x0 x1 x2).1 S128x8.size (by sl_kernel_rfl) y

/-- What the run leaves in output 3's staging buffer: its pieces read back over junk. -/
def out1_A_3 (c : Dev nD) (i : grid1.Coords) (arg1 : Memref sig .tc .vmem S23040x8 .f32) (harg1 : arg1.IsWhole) (arg2 : Memref sig .tc .vmem S180x1x128 .f32) (harg2 : arg2.IsWhole) (arg3 : Memref sig .tc .smem S180x1x2 .f32) (harg3 : arg3.IsWhole) (arg4 : Memref sig .tc .vmem S128x8 .f32) (harg4 : arg4.IsWhole)
    (x0 : Vec F S23040x8 .f32) (x1 : Vec F S180x1x128 .f32) (x2 : Vec F S180x1x2 .f32) : Vec F S128x8 .f32 :=
  VO1_3.read (Elt F) (VO1_3.writes (Elt F) VO1_3.junk (kernelRun1_A c i arg1 harg1 arg2 harg2 arg3 harg3 arg4 harg4 x0 x1 x2).1)

/-! ## What the outputs hold after each point -/

/-- What the outputs' staging buffers hold after the body at point `t`: the run's contents at
    the point's memrefs and input blocks. -/
def outsAt1 (c : Dev nD) (t : Fin cfg1.N) : Vec F S128x8 .f32 :=
  out1_A_3 c (grid1.coords t) (ms1_0 t) (hs1_0 t) (ms1_1 t) (hs1_1 t) (ms1_2 t) (hs1_2 t) (ms1_3 t) (hs1_3 t) (iblk1 V c 0 t) (iblk1 V c 1 t) (iblk1 V c 2 t)

/-! ## The pipeline's proof data -/

/-- The proof data of the pipeline. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- The body at a point: what it is given. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold out1_A_3
  iintro ⟨HΦ, Ho, ⟨%d0, H0⟩, ⟨%d1, H1⟩, ⟨%d2, H2⟩, ⟨%d3, H3⟩⟩
  iapply ((kernelRun1_A c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The obligation of the pipeline on its body. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Proof.Sel

end
-- ==== Proof.Run.lean ====
module

public import proofs.«01_k».proof.Proof.Region0
public import proofs.«01_k».proof.Proof.Region1

@[expose] public section

set_option maxRecDepth 16384

noncomputable section

namespace Cert.Proof.Sel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_cst, main_v2, main_v3, main_cst_0, main_v4, main_v5, main_cst_1, main_v6, main_v7, main_cst_2, main_v8, main_c, main_v9, main_c_3, main_v10, main_v11, main_v12, main_c_4, main_v13, main_v14, main_v15, main_v16]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v18]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- The buffers at a boundary of @main. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- Part of the run. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- The buffers at a boundary of @main. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- Part of the run. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- The proof data of the two pipelines. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- Part of the run. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- Part of the run. -/
abbrev Tₙ (c : Dev nD) : sProp 𝕄 := iprop(StableHlo.held (c : Thread nD τ) (Pipeline.ucRefs τ sig) (W4 m ρ c) ∗ ∃ r, prngReg c r)

/-! ## The regions as segments -/
set_option backward.isDefEq.respectTransparency.types false in
/-- A pallas_call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- A pallas_call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of its segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide
set_option backward.isDefEq.respectTransparency.types false in
/-- The run: the arguments end as launched, the counters at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v19) = W4 m ρ c (Proc.devRef .tc main_v19))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       h c _ (mem_uc main_v19 (by decide))⟩), funext fun g => hz g (.inr (no_unscoped g.2))⟩)

end Cert.Proof.Sel

end
-- ==== Proof.Closed.lean ====
module

public import proofs.«01_k».proof.Proof.Gen.KernelIdeal.Skeleton

@[expose] public section

set_option maxRecDepth 16384

namespace Cert.Proof.Sel

open Cert.KernelIdeal Cert.KernelIdeal.Gen
open Idealize.ShloMosaic

theorem trips1 : ∀ i : grid0.Coords, (k0_t1_loop i).trips = (i 0).val / 9 := by decide +kernel
theorem trips3 : ∀ i : grid0.Coords, (k0_t3_loop i).trips = (i 0).val - 9 * ((i 0).val / 9) := by decide +kernel
theorem trips5 : ∀ i : grid0.Coords, (k0_t5_loop i).trips = 9 * ((i 0).val / 9) + 8 - (i 0).val := by decide +kernel
theorem trips7 : ∀ i : grid0.Coords, (k0_t7_loop i).trips = 19 - (i 0).val / 9 := by decide +kernel

theorem trips2 (i : grid0.Coords) : (k0_t2_loop i).trips = 0 := Nat.le_zero.1 (k0_t2_abs i).2.1
theorem trips4 (i : grid0.Coords) : (k0_t4_loop i).trips = 0 := Nat.le_zero.1 (k0_t4_abs i).2.1
theorem trips6 (i : grid0.Coords) : (k0_t6_loop i).trips = 0 := Nat.le_zero.1 (k0_t6_abs i).2.1
theorem trips8 (i : grid0.Coords) : (k0_t8_loop i).trips = 0 := Nat.le_zero.1 (k0_t8_abs i).2.1

theorem off2 : ∀ (i : grid0.Coords) (k : Fin (k0_t1_loop i).trips), k0_off2 i k = ![k.val, 0, 0] := by decide +kernel
theorem off4 : ∀ (i : grid0.Coords) (k : Fin (k0_t3_loop i).trips), k0_off4 i k = ![9 * ((i 0).val / 9) + k.val, 0, 0] := by decide +kernel
theorem off7 : ∀ (i : grid0.Coords) (k : Fin (k0_t5_loop i).trips), k0_off7 i k = ![(i 0).val + 1 + k.val, 0, 0] := by decide +kernel
theorem off9 : ∀ (i : grid0.Coords) (k : Fin (k0_t7_loop i).trips), k0_off9 i k = ![(i 0).val / 9 + 1 + k.val, 0, 0] := by decide +kernel

theorem tripsS : k1_t1_loop.trips = 180 := by decide +kernel

end Cert.Proof.Sel
-- ==== Proof.Pay.lean ====
module

public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.Proof.Sel

open Cert.KernelIdeal Cert.KernelIdeal.Gen
open Idealize.ShloMosaic
open scoped BigOperators

open Classical in
/-- One where `p` holds, zero elsewhere. -/
def ind (p : Prop) : EReal := if p then 1 else 0

theorem ind_pos {p : Prop} (h : p) : ind p = 1 := if_pos h
theorem ind_neg {p : Prop} (h : ¬p) : ind p = 0 := if_neg h

theorem ind_congr {p q : Prop} (h : p ↔ q) : ind p = ind q := by rw [propext h]

/-- A condition bit as a number. -/
theorem ofBool_num (b : Bool) : FloatOps.sitofp (F := Ideal) .f32 ((BitVec.ofBool b).setWidth 32) = ind (b = true) := by
  cases b
  · rw [ind_neg (by simp)]
    show ((((BitVec.ofBool false).setWidth 32).toInt : ℝ) : EReal) = 0
    rw [show ((BitVec.ofBool false).setWidth 32).toInt = 0 from by decide]
    norm_num
  · rw [ind_pos rfl]
    show ((((BitVec.ofBool true).setWidth 32).toInt : ℝ) : EReal) = 1
    rw [show ((BitVec.ofBool true).setWidth 32).toInt = 1 from by decide]
    norm_num

theorem decide_num (p : Prop) [Decidable p] : FloatOps.sitofp (F := Ideal) .f32 ((BitVec.ofBool (decide p)).setWidth 32) = ind p := by
  rw [ofBool_num]; exact ind_congr (by simp)

/-- A natural below 2³¹, as a word, as a number. -/
theorem sitofp_nat (n : ℕ) (h : n < 2147483648) : FloatOps.sitofp (F := Ideal) .f32 (BitVec.ofNat 32 n) = ((n : ℝ) : EReal) := by
  show (((BitVec.ofNat 32 n).toInt : ℝ) : EReal) = _
  rw [show (BitVec.ofNat 32 n).toInt = (n : ℤ) from by
    rw [BitVec.toInt_eq_toNat_of_lt] <;> simp [BitVec.toNat_ofNat] <;> omega]
  norm_num

theorem pay6_apply (v2 : Vec Ideal S128x1 .f32) (acc : FVec Ideal S128x1 .f32) (s : Vec Ideal S1x1x1152 .f32) (p : Fin 128) :
    k0_pay6 v2 acc s (ix2 p (0 : Fin 1)) = acc (ix2 p (0 : Fin 1)) + ∑ k : Fin 1152, ind (v2 (ix2 p (0 : Fin 1)) ≤ s (ix3 (0 : Fin 1) (0 : Fin 1) k)) := by
  pointwise [k0_pay6, k0_pay2, k0_pay3]
  exact congrArg _ (Finset.sum_congr rfl fun k _ => decide_num _)

theorem pay8_apply (v2 : Vec Ideal S128x1 .f32) (acc : FVec Ideal S128x1 .f32) (s : Vec Ideal S1x1x128 .f32) (p : Fin 128) :
    k0_pay8 v2 acc s (ix2 p (0 : Fin 1)) = acc (ix2 p (0 : Fin 1)) + ∑ k : Fin 128, ind (v2 (ix2 p (0 : Fin 1)) ≤ s (ix3 (0 : Fin 1) (0 : Fin 1) k)) := by
  pointwise [k0_pay8, k0_pay2, k0_pay4]
  exact congrArg _ (Finset.sum_congr rfl fun k _ => decide_num _)

theorem pay11_apply (v3 : FVec Ideal S128x1 .f32) (acc : FVec Ideal S128x1 .f32) (s : Vec Ideal S1x1x128 .f32) (p : Fin 128) :
    k0_pay11 v3 k0_pay4 acc s (ix2 p (0 : Fin 1)) = acc (ix2 p (0 : Fin 1)) + ∑ k : Fin 128, ind (v3 (ix2 p (0 : Fin 1)) < s (ix3 (0 : Fin 1) (0 : Fin 1) k)) := by
  pointwise [k0_pay11, k0_pay4]
  exact congrArg _ (Finset.sum_congr rfl fun k _ => decide_num _)

theorem pay13_apply (v3 : FVec Ideal S128x1 .f32) (acc : FVec Ideal S128x1 .f32) (s : Vec Ideal S1x1x1152 .f32) (p : Fin 128) :
    k0_pay13 v3 k0_pay3 acc s (ix2 p (0 : Fin 1)) = acc (ix2 p (0 : Fin 1)) + ∑ k : Fin 1152, ind (v3 (ix2 p (0 : Fin 1)) < s (ix3 (0 : Fin 1) (0 : Fin 1) k)) := by
  pointwise [k0_pay13, k0_pay3]
  exact congrArg _ (Finset.sum_congr rfl fun k _ => decide_num _)

theorem slt_ofNat (a b : ℕ) (ha : a < 128) (hb : b < 128) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt]
  have h : ∀ n < 128, (BitVec.ofNat 32 n).toInt = (n : ℤ) := fun n hn => by
    rw [BitVec.toInt_eq_toNat_of_lt] <;> simp [BitVec.toNat_ofNat] <;> omega
  rw [h a ha, h b hb]
  simp

theorem tie_num (a b : Prop) [Decidable a] [Decidable b] (x p : ℕ) (hx : x < 128) (hp : p < 128) :
    FloatOps.sitofp (F := Ideal) .f32 ((IntOp.ori (BitVec.ofBool (decide a)) (IntOp.andi (BitVec.ofBool (decide b)) (IntOp.cmpi .slt (BitVec.ofNat 32 x) (BitVec.ofNat 32 p)))).setWidth 32)
      = ind (a ∨ (b ∧ x < p)) := by
  rw [slt_ofNat x p hx hp, ← decide_num (a ∨ (b ∧ x < p))]
  by_cases ha : a <;> by_cases hb : b <;> by_cases hc : x < p <;> simp [ha, hb, hc] <;> rfl

theorem pay10_apply (v3 : FVec Ideal S128x1 .f32) (acc : FVec Ideal S128x1 .f32) (s : Vec Ideal S1x1x128 .f32) (p : Fin 128) :
    k0_pay10 v3 k0_pay4 acc s (ix2 p (0 : Fin 1)) = acc (ix2 p (0 : Fin 1)) + ∑ k : Fin 128, ind (v3 (ix2 p (0 : Fin 1)) < s (ix3 (0 : Fin 1) (0 : Fin 1) k)
      ∨ (s (ix3 (0 : Fin 1) (0 : Fin 1) k) = v3 (ix2 p (0 : Fin 1)) ∧ k.val < p.val)) := by
  pointwise [k0_pay10, k0_pay4]
  exact congrArg _ (Finset.sum_congr rfl fun k _ => tie_num _ _ _ _ k.isLt p.isLt)

theorem pay5_apply (p : Fin 128) : k0_pay5 (F := Ideal) (ix2 p (0 : Fin 1)) = 0 := by
  pointwise [k0_pay5]

theorem spay4_apply (p : Fin 128) (l : Fin 8) : k1_pay4 (F := Ideal) (ix2 p l) = 0 := by
  pointwise [k1_pay4]

theorem row_word (i : grid1.Coords) (p : Fin 128) :
    IntOp.addi (BitVec.ofNat 32 p.val) (Scalar.muli (BitVec.ofNat 32 (i 0).val) 128#32) = BitVec.ofNat 32 (128 * (i 0).val + p.val) := by
  show BitVec.ofNat 32 p.val + BitVec.ofNat 32 (i 0).val * 128#32 = _
  apply BitVec.eq_of_toNat_eq
  simp [BitVec.toNat_ofNat, BitVec.toNat_add, BitVec.toNat_mul]
  omega

theorem row_num (i : grid1.Coords) (p : Fin 128) :
    FloatOps.sitofp (F := Ideal) .f32 (IntOp.addi (BitVec.ofNat 32 p.val) (Scalar.muli (BitVec.ofNat 32 (i 0).val) 128#32)) = (((128 * (i 0).val + p.val : ℕ) : ℝ) : EReal) := by
  rw [row_word, sitofp_nat]
  have h : (i 0).val < 80 := (i 0).isLt
  omega

theorem spay5_apply (i : grid1.Coords) (acc : FVec Ideal S128x8 .f32) (s : Vec Ideal S1x1x128 .f32) (x : Vec Ideal S128x8 .f32) (p : Fin 128) (l : Fin 8) :
    k1_pay5 i acc s x (ix2 p l) = acc (ix2 p l) + ∑ k : Fin 128, ind (s (ix3 (0 : Fin 1) (0 : Fin 1) k) = (((128 * (i 0).val + p.val : ℕ) : ℝ) : EReal)) * x (ix2 k l) := by
  pointwise [k1_pay5, k1_pay1]
  refine congrArg _ (Finset.sum_congr rfl fun k _ => ?_)
  rw [decide_num, row_num]

theorem ofBits_10000 : Ideal.ofBits .f32 1176256512#32 = ((10000 : ℝ) : EReal) := by
  simp [Ideal.ofBits, Ideal.ieee]
  rw [← EReal.coe_mul]; norm_num

theorem ofBits_128 : Ideal.ofBits .f32 0x43000000#32 = ((128 : ℝ) : EReal) := by
  simp [Ideal.ofBits, Ideal.ieee]
  rw [← EReal.coe_mul]; norm_num

theorem ofBits_top : Ideal.ofBits .f32 2139095040#32 = ⊤ := by
  simp [Ideal.ofBits, Ideal.ieee]

theorem ofBits_bot : Ideal.ofBits .f32 0xFF800000#32 = ⊥ := by
  simp [Ideal.ofBits, Ideal.ieee]

theorem spay6_apply (i : grid1.Coords) (acc : FVec Ideal S128x8 .f32) (p : Fin 128) (l : Fin 8) :
    k1_pay6 i acc (ix2 p l) = if l.val = 5 then acc (ix2 p l) * ind (128 * (i 0).val + p.val < 10000) else acc (ix2 p l) := by
  pointwise [k1_pay6, k1_pay1]
  rw [decide_num, row_num, ofBits_10000]
  have e : (((128 * (i 0).val + p.val : ℕ) : ℝ) : EReal) < ((10000 : ℝ) : EReal) ↔ 128 * (i 0).val + p.val < 10000 := by
    rw [EReal.coe_lt_coe_iff]; exact_mod_cast Iff.rfl
  rw [ind_congr e]
  have hl : ∀ l : Fin 8, (IntOp.cmpi .eq (BitVec.ofNat 32 l.val) 5#32 = (1 : BitVec 1)) = (l.val = 5) := by decide
  unfold Scalar.select
  simp only [hl]

/-- The least of a block of ranks is below each. -/
theorem pay15_le (x : FVec Ideal S128x1 .f32) (p : Fin 128) : k0_pay15 x ≤ x (ix2 p (0 : Fin 1)) := by
  pointwise [k0_pay15]
  exact (Finset.fold_min_le _).2 (Or.inr ⟨(p, 0), Finset.mem_univ _, le_rfl⟩)

/-- The greatest of a block of ranks is above each. -/
theorem le_pay1 (x : FVec Ideal S128x1 .f32) (p : Fin 128) : x (ix2 p (0 : Fin 1)) ≤ k0_pay1 x := by
  pointwise [k0_pay1]
  exact (Finset.le_fold_max _).2 (Or.inr ⟨(p, 0), Finset.mem_univ _, le_rfl⟩)

end Cert.Proof.Sel
end
-- ==== Proof.Order.lean ====
module

public import proofs.«01_k».proof.Proof.Pay

@[expose] public section

noncomputable section

namespace Cert.Proof.Sel

open scoped BigOperators
open Finset

/-- Row `m` comes before row `n` in the order of the selection: a greater score, or the same score
and an earlier place. -/
def beats (s : ℕ → EReal) (m n : ℕ) : Prop := s n < s m ∨ (s m = s n ∧ m < n)

/-- How many of the first `M` rows come before row `n`, as a sum of ones. -/
def part (s : ℕ → EReal) (n M : ℕ) : EReal := ∑ m ∈ range M, ind (beats s m n)

/-- The rank of row `n` among `N` rows. -/
def cnt (s : ℕ → EReal) (N n : ℕ) : ℕ := by classical exact ((range N).filter fun m => beats s m n).card

theorem part_zero (s : ℕ → EReal) (n : ℕ) : part s n 0 = 0 := by simp [part]

theorem part_add (s : ℕ → EReal) (n M c : ℕ) : part s n (M + c) = part s n M + ∑ k : Fin c, ind (beats s (M + k.val) n) := by
  unfold part
  rw [sum_range_add]
  exact congrArg _ (Finset.sum_range _)

/-- A piece of rows before `n`: there the order is `≥` on scores. -/
theorem part_le (s : ℕ → EReal) (n M c : ℕ) (h : M + c ≤ n) :
    part s n (M + c) = part s n M + ∑ k : Fin c, ind (s n ≤ s (M + k.val)) := by
  rw [part_add]
  refine congrArg _ (sum_congr rfl fun k _ => ind_congr ?_)
  have hk : M + k.val < n := by omega
  unfold beats
  rw [le_iff_lt_or_eq]
  exact or_congr_right ⟨fun h => h.1.symm, fun h => ⟨h.symm, hk⟩⟩

/-- A piece of rows after `n`: there the order is `>` on scores. -/
theorem part_lt (s : ℕ → EReal) (n M c : ℕ) (h : n < M) :
    part s n (M + c) = part s n M + ∑ k : Fin c, ind (s n < s (M + k.val)) := by
  rw [part_add]
  refine congrArg _ (sum_congr rfl fun k _ => ind_congr ?_)
  unfold beats
  exact ⟨fun h => h.elim id fun h => by omega, Or.inl⟩

theorem part_own (s : ℕ → EReal) (n M c : ℕ) (p : Fin c) (h : n = M + p.val) :
    part s n (M + c) = part s n M + ∑ k : Fin c, ind (s n < s (M + k.val) ∨ (s (M + k.val) = s n ∧ k.val < p.val)) := by
  rw [part_add]
  refine congrArg _ (sum_congr rfl fun k _ => ind_congr ?_)
  unfold beats
  have : M + k.val < n ↔ k.val < p.val := by omega
  rw [this]

theorem sum_ind_card (S : Finset ℕ) (P : ℕ → Prop) [DecidablePred P] : ∑ m ∈ S, ind (P m) = (((S.filter P).card : ℝ) : EReal) := by
  classical
  induction S using Finset.induction_on with
  | empty => simp
  | insert a S ha ih =>
    rw [sum_insert ha, ih, filter_insert]
    by_cases h : P a
    · rw [ind_pos h, if_pos h, card_insert_of_notMem (by simp [ha])]
      rw [show (1 : EReal) = ((1 : ℝ) : EReal) from rfl, ← EReal.coe_add]
      congr 1; push_cast; ring
    · rw [ind_neg h, if_neg h, zero_add]

theorem part_eq_cnt (s : ℕ → EReal) (n N : ℕ) : part s n N = ((cnt s N n : ℝ) : EReal) := by
  classical
  unfold part cnt
  rw [sum_ind_card]

theorem beats_trans {s : ℕ → EReal} {a b c : ℕ} (h : beats s a b) (h' : beats s b c) : beats s a c := by
  unfold beats at *
  rcases h with h | ⟨h, h1⟩ <;> rcases h' with h' | ⟨h', h1'⟩
  · exact Or.inl (h'.trans h)
  · exact Or.inl (h' ▸ h)
  · exact Or.inl (h.symm ▸ h')
  · exact Or.inr ⟨h.trans h', h1.trans h1'⟩

theorem beats_irrefl (s : ℕ → EReal) (a : ℕ) : ¬beats s a a := by
  unfold beats; simp

theorem beats_total {s : ℕ → EReal} {a b : ℕ} (h : a ≠ b) : beats s a b ∨ beats s b a := by
  unfold beats
  rcases lt_trichotomy (s a) (s b) with h' | h' | h'
  · exact Or.inr (Or.inl h')
  · rcases lt_or_gt_of_ne h with h1 | h1
    · exact Or.inl (Or.inr ⟨h', h1⟩)
    · exact Or.inr (Or.inr ⟨h'.symm, h1⟩)
  · exact Or.inl (Or.inl h')

theorem cnt_lt_of_beats {s : ℕ → EReal} {N a b : ℕ} (ha : a < N) (h : beats s a b) : cnt s N a < cnt s N b := by
  classical
  unfold cnt
  refine card_lt_card ⟨fun m hm => ?_, fun hs => ?_⟩
  · rw [mem_filter] at hm ⊢
    exact ⟨hm.1, beats_trans hm.2 h⟩
  · have := hs (mem_filter.2 ⟨mem_range.2 ha, h⟩)
    exact beats_irrefl s a (mem_filter.1 this).2

theorem cnt_inj {s : ℕ → EReal} {N a b : ℕ} (ha : a < N) (hb : b < N) (h : cnt s N a = cnt s N b) : a = b := by
  by_contra hab
  rcases beats_total (s := s) hab with h' | h'
  · have := cnt_lt_of_beats (N := N) ha h'; omega
  · have := cnt_lt_of_beats (N := N) hb h'; omega

theorem cnt_lt {s : ℕ → EReal} {N a : ℕ} (ha : a < N) : cnt s N a < N := by
  classical
  unfold cnt
  refine lt_of_lt_of_eq (card_lt_card ⟨filter_subset _ _, fun hs => ?_⟩) (card_range N)
  exact beats_irrefl s a (mem_filter.1 (hs (mem_range.2 ha))).2

/-- Every rank below `N` is some row's. -/
theorem exists_cnt (s : ℕ → EReal) (N r : ℕ) (hr : r < N) : ∃ n, n < N ∧ cnt s N n = r := by
  have hinj : Function.Injective (fun n : Fin N => (⟨cnt s N n.val, cnt_lt n.isLt⟩ : Fin N)) := fun a b h =>
    Fin.ext (cnt_inj a.isLt b.isLt (Fin.mk.inj h))
  obtain ⟨n, hn⟩ := (Finite.injective_iff_surjective.1 hinj) ⟨r, hr⟩
  exact ⟨n.val, n.isLt, congrArg Fin.val hn⟩

/-- A sum over the rows of what the row of one rank holds. -/
theorem sum_pick (s : ℕ → EReal) (N r n : ℕ) (hn : n < N) (h : cnt s N n = r) (f : ℕ → EReal) :
    ∑ m ∈ range N, ind (cnt s N m = r) * f m = f n := by
  rw [Finset.sum_eq_single_of_mem n (mem_range.2 hn), ind_pos h, one_mul]
  intro m hm hmn
  rw [ind_neg, zero_mul]
  exact fun he => hmn (cnt_inj (mem_range.1 hm) hn (he.trans h.symm))

/-- Rows added after the first `N`, all of them with smaller scores, change no rank. -/
theorem cnt_pad (s : ℕ → EReal) (N M n : ℕ) (hn : n < N) (hM : N ≤ M) (hp : ∀ m, N ≤ m → m < M → s m < s n) : cnt s M n = cnt s N n := by
  classical
  unfold cnt
  congr 1
  ext m
  simp only [mem_filter, mem_range]
  constructor
  · rintro ⟨hm, hb⟩
    refine ⟨?_, hb⟩
    by_contra hc
    rcases hb with hb | ⟨hb, _⟩
    · exact absurd (hp m (by omega) hm) (not_lt.2 hb.le)
    · exact absurd (hp m (by omega) hm) (by rw [hb]; exact lt_irrefl _)
  · rintro ⟨hm, hb⟩; exact ⟨by omega, hb⟩

theorem cnt_congr (s s' : ℕ → EReal) (N n : ℕ) (hn : n < N) (h : ∀ m, m < N → s m = s' m) : cnt s N n = cnt s' N n := by
  classical
  unfold cnt
  congr 1
  ext m
  simp only [mem_filter, mem_range]
  refine and_congr_right fun hm => ?_
  unfold beats
  rw [h m hm, h n hn]

end Cert.Proof.Sel
end
-- ==== Proof.RankLoop.lean ====
module

public import proofs.«01_k».proof.Proof.Run
public import proofs.«01_k».proof.Proof.Closed
public import proofs.«01_k».proof.Proof.Order
public import Idealize.ShloMosaic.Lib.Pipeline.Value
public import Idealize.ShloMosaic.Lib.Pipeline.ValueKit.Tiles

@[expose] public section

set_option maxRecDepth 16384

noncomputable section

namespace Cert.Proof.Sel

open Cert.KernelIdeal Cert.KernelIdeal.Gen
open Idealize.ShloMosaic Idealize.ShloMosaic.TcCoe Idealize.ShloMosaic.Tactic
open scoped BigOperators

/-- The scores as the launch's three arrays hold them: the fifth column of the padded rows, the rows
of 128, and the rows of 1152. -/
def HoldsRow (s : ℕ → EReal) (x1 : Vec Ideal S180x1x128 .f32) : Prop := ∀ (b : Fin 180) (k : Fin 128), x1 (ix3 b (0 : Fin 1) k) = s (128 * b.val + k.val)

def HoldsSlab (s : ℕ → EReal) (x2 : Vec Ideal S20x1x1152 .f32) : Prop := ∀ (b : Fin 20) (k : Fin 1152), x2 (ix3 b (0 : Fin 1) k) = s (1152 * b.val + k.val)

def HoldsCol (s : ℕ → EReal) (x0 : Vec Ideal S23040x8 .f32) : Prop := ∀ n : Fin 23040, x0 (ix2 n (4 : Fin 8)) = s n.val

theorem load_row (s : ℕ → EReal) (arg2 : Memref sig .tc .vmem S180x1x128 .f32) (harg2 : arg2.IsWhole) (x1 : Vec Ideal S180x1x128 .f32) (hx : HoldsRow s x1)
    (off : Fin 3 → ℕ) (inb) (j : ℕ) (hoff : off = ![j, 0, 0]) (hj : j < 180) (k : Fin 128) :
    arg2.view.readAt (Elt Ideal) (Rect.unit (s := S180x1x128) off S1x1x128.size inb).toLoadRect (harg2.unread x1) (ix3 (0 : Fin 1) (0 : Fin 1) k) = s (128 * j + k.val) := by
  subst hoff
  rw [View.readAt_eq_ld, Memref.IsWhole.read_unread]
  rw [View.ld_unit_apply_of x1 ![j, 0, 0] S1x1x128.size inb _ (ix3 (⟨j, hj⟩ : Fin 180) (0 : Fin 1) k) (by intro a; fin_cases a <;> simp [ix3])]
  exact hx ⟨j, hj⟩ k

theorem load_slab (s : ℕ → EReal) (arg3 : Memref sig .tc .vmem S20x1x1152 .f32) (harg3 : arg3.IsWhole) (x2 : Vec Ideal S20x1x1152 .f32) (hx : HoldsSlab s x2)
    (off : Fin 3 → ℕ) (inb) (j : ℕ) (hoff : off = ![j, 0, 0]) (hj : j < 20) (k : Fin 1152) :
    arg3.view.readAt (Elt Ideal) (Rect.unit (s := S20x1x1152) off S1x1x1152.size inb).toLoadRect (harg3.unread x2) (ix3 (0 : Fin 1) (0 : Fin 1) k) = s (1152 * j + k.val) := by
  subst hoff
  rw [View.readAt_eq_ld, Memref.IsWhole.read_unread]
  rw [View.ld_unit_apply_of x2 ![j, 0, 0] S1x1x1152.size inb _ (ix3 (⟨j, hj⟩ : Fin 20) (0 : Fin 1) k) (by intro a; fin_cases a <;> simp [ix3])]
  exact hx ⟨j, hj⟩ k

theorem trip1_eq (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole) (v2 : Vec Ideal S128x1 .f32)
    (x2 : Vec Ideal S20x1x1152 .f32) (k : Fin (k0_t1_loop i).trips) (acc : FVec Ideal S128x1 .f32) :
    tripR_k0_t1 Variants.none c none i arg1 harg1 arg2 harg2 arg3 harg3 arg4 harg4 arg5 harg5 v2 (harg3.unread x2) k acc
      = k0_pay6 v2 acc (arg3.view.readAt (Elt Ideal) (Rect.unit (s := S20x1x1152) (k0_off2 i k) S1x1x1152.size (k0_off2_inb i k)).toLoadRect (harg3.unread x2)) := by
  unfold tripR_k0_t1 trip_k0_t1
  rfl

/-- After `k` slabs below the block's own, the carried count of a row. -/
theorem st1_apply (s : ℕ → EReal) (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole) (v2 : Vec Ideal S128x1 .f32)
    (x2 : Vec Ideal S20x1x1152 .f32) (hx : HoldsSlab s x2) (init : FVec Ideal S128x1 .f32) (p : Fin 128) (hv : v2 (ix2 p (0 : Fin 1)) = s (128 * (i 0).val + p.val))
    (hinit : init (ix2 p (0 : Fin 1)) = part s (128 * (i 0).val + p.val) (0)) :
    ∀ k, k ≤ (k0_t1_loop i).trips → st_k0_t1 Variants.none c none i arg1 harg1 arg2 harg2 arg3 harg3 arg4 harg4 arg5 harg5 v2 (harg3.unread x2) init k (ix2 p (0 : Fin 1))
      = part s (128 * (i 0).val + p.val) (0 + 1152 * k) := by
  have hi : (i 0).val < 180 := (i 0).isLt
  have ht := trips1 i
  intro k
  induction k with
  | zero => intro _; rw [st_k0_t1_zero, hinit]; try rfl
  | succ k ih =>
    intro hk
    rw [st_k0_t1_succ Variants.none c none i arg1 harg1 arg2 harg2 arg3 harg3 arg4 harg4 arg5 harg5 v2 (harg3.unread x2) init ⟨k, hk⟩, trip1_eq, pay6_apply]
    dsimp only
    rw [ih (Nat.le_of_succ_le hk), show 0 + 1152 * (k + 1) = 0 + 1152 * k + 1152 from by omega, part_le s _ _ 1152 (by omega), hv]
    refine congrArg _ (Finset.sum_congr rfl fun l _ => ?_)
    rw [load_slab s arg3 harg3 x2 hx _ _ _ (off2 i ⟨k, hk⟩) (by dsimp only; omega) l]
    dsimp only
    refine ind_congr (iff_of_eq (congrArg _ (congrArg s ?_)))
    omega

theorem trip3_eq (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole) (v2 : Vec Ideal S128x1 .f32)
    (x1 : Vec Ideal S180x1x128 .f32) (k : Fin (k0_t3_loop i).trips) (acc : FVec Ideal S128x1 .f32) :
    tripR_k0_t3 Variants.none c none i arg1 harg1 arg2 harg2 arg3 harg3 arg4 harg4 arg5 harg5 v2 (harg2.unread x1) k acc
      = k0_pay8 v2 acc (arg2.view.readAt (Elt Ideal) (Rect.unit (s := S180x1x128) (k0_off4 i k) S1x1x128.size (k0_off4_inb i k)).toLoadRect (harg2.unread x1)) := by
  unfold tripR_k0_t3 trip_k0_t3
  rfl

/-- After `k` blocks of the own slab below the block. -/
theorem st3_apply (s : ℕ → EReal) (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole) (v2 : Vec Ideal S128x1 .f32)
    (x1 : Vec Ideal S180x1x128 .f32) (hx : HoldsRow s x1) (init : FVec Ideal S128x1 .f32) (p : Fin 128) (hv : v2 (ix2 p (0 : Fin 1)) = s (128 * (i 0).val + p.val))
    (hinit : init (ix2 p (0 : Fin 1)) = part s (128 * (i 0).val + p.val) (1152 * ((i 0).val / 9))) :
    ∀ k, k ≤ (k0_t3_loop i).trips → st_k0_t3 Variants.none c none i arg1 harg1 arg2 harg2 arg3 harg3 arg4 harg4 arg5 harg5 v2 (harg2.unread x1) init k (ix2 p (0 : Fin 1))
      = part s (128 * (i 0).val + p.val) (1152 * ((i 0).val / 9) + 128 * k) := by
  have hi : (i 0).val < 180 := (i 0).isLt
  have ht := trips3 i
  intro k
  induction k with
  | zero => intro _; rw [st_k0_t3_zero, hinit]; try rfl
  | succ k ih =>
    intro hk
    rw [st_k0_t3_succ Variants.none c none i arg1 harg1 arg2 harg2 arg3 harg3 arg4 harg4 arg5 harg5 v2 (harg2.unread x1) init ⟨k, hk⟩, trip3_eq, pay8_apply]
    dsimp only
    rw [ih (Nat.le_of_succ_le hk), show 1152 * ((i 0).val / 9) + 128 * (k + 1) = 1152 * ((i 0).val / 9) + 128 * k + 128 from by omega, part_le s _ _ 128 (by omega), hv]
    refine congrArg _ (Finset.sum_congr rfl fun l _ => ?_)
    rw [load_row s arg2 harg2 x1 hx _ _ _ (off4 i ⟨k, hk⟩) (by dsimp only; omega) l]
    dsimp only
    refine ind_congr (iff_of_eq (congrArg _ (congrArg s ?_)))
    omega

theorem trip5_eq (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole) (arg0 v22 : BitVec 32) (v3 v38 : FVec Ideal S128x1 .f32)
    (x1 : Vec Ideal S180x1x128 .f32) (k : Fin (k0_t5_loop i).trips) (acc : FVec Ideal S128x1 .f32) :
    tripR_k0_t5 Variants.none c none i arg1 harg1 arg2 harg2 arg3 harg3 arg4 harg4 arg5 harg5 arg0 v3 k0_pay3 k0_pay4 v22 v38 (harg2.unread x1) k acc
      = k0_pay11 v3 k0_pay4 acc (arg2.view.readAt (Elt Ideal) (Rect.unit (s := S180x1x128) (k0_off7 i k) S1x1x128.size (k0_off7_inb i k)).toLoadRect (harg2.unread x1)) := by
  unfold tripR_k0_t5 trip_k0_t5
  rfl

/-- After `k` blocks of the own slab above the block. -/
theorem st5_apply (s : ℕ → EReal) (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole) (arg0 v22 : BitVec 32) (v3 v38 : FVec Ideal S128x1 .f32)
    (x1 : Vec Ideal S180x1x128 .f32) (hx : HoldsRow s x1) (init : FVec Ideal S128x1 .f32) (p : Fin 128) (hv : v3 (ix2 p (0 : Fin 1)) = s (128 * (i 0).val + p.val))
    (hinit : init (ix2 p (0 : Fin 1)) = part s (128 * (i 0).val + p.val) (128 * (i 0).val + 128)) :
    ∀ k, k ≤ (k0_t5_loop i).trips → st_k0_t5 Variants.none c none i arg1 harg1 arg2 harg2 arg3 harg3 arg4 harg4 arg5 harg5 arg0 v3 k0_pay3 k0_pay4 v22 v38 (harg2.unread x1) init k (ix2 p (0 : Fin 1))
      = part s (128 * (i 0).val + p.val) (128 * (i 0).val + 128 + 128 * k) := by
  have hi : (i 0).val < 180 := (i 0).isLt
  have ht := trips5 i
  intro k
  induction k with
  | zero => intro _; rw [st_k0_t5_zero, hinit]; try rfl
  | succ k ih =>
    intro hk
    rw [st_k0_t5_succ Variants.none c none i arg1 harg1 arg2 harg2 arg3 harg3 arg4 harg4 arg5 harg5 arg0 v3 k0_pay3 k0_pay4 v22 v38 (harg2.unread x1) init ⟨k, hk⟩, trip5_eq, pay11_apply]
    dsimp only
    rw [ih (Nat.le_of_succ_le hk), show 128 * (i 0).val + 128 + 128 * (k + 1) = 128 * (i 0).val + 128 + 128 * k + 128 from by omega, part_lt s _ _ 128 (by omega), hv]
    refine congrArg _ (Finset.sum_congr rfl fun l _ => ?_)
    rw [load_row s arg2 harg2 x1 hx _ _ _ (off7 i ⟨k, hk⟩) (by dsimp only; omega) l]
    dsimp only
    refine ind_congr (iff_of_eq (congrArg _ (congrArg s ?_)))
    omega

theorem trip7_eq (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole) (arg0 v22 : BitVec 32) (v3 v38 : FVec Ideal S128x1 .f32)
    (x2 : Vec Ideal S20x1x1152 .f32) (k : Fin (k0_t7_loop i).trips) (acc : FVec Ideal S128x1 .f32) :
    tripR_k0_t7 Variants.none c none i arg1 harg1 arg2 harg2 arg3 harg3 arg4 harg4 arg5 harg5 arg0 v3 k0_pay3 k0_pay4 v22 v38 (harg3.unread x2) k acc
      = k0_pay13 v3 k0_pay3 acc (arg3.view.readAt (Elt Ideal) (Rect.unit (s := S20x1x1152) (k0_off9 i k) S1x1x1152.size (k0_off9_inb i k)).toLoadRect (harg3.unread x2)) := by
  unfold tripR_k0_t7 trip_k0_t7
  rfl

/-- After `k` slabs above. -/
theorem st7_apply (s : ℕ → EReal) (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole) (arg0 v22 : BitVec 32) (v3 v38 : FVec Ideal S128x1 .f32)
    (x2 : Vec Ideal S20x1x1152 .f32) (hx : HoldsSlab s x2) (init : FVec Ideal S128x1 .f32) (p : Fin 128) (hv : v3 (ix2 p (0 : Fin 1)) = s (128 * (i 0).val + p.val))
    (hinit : init (ix2 p (0 : Fin 1)) = part s (128 * (i 0).val + p.val) (1152 * ((i 0).val / 9 + 1))) :
    ∀ k, k ≤ (k0_t7_loop i).trips → st_k0_t7 Variants.none c none i arg1 harg1 arg2 harg2 arg3 harg3 arg4 harg4 arg5 harg5 arg0 v3 k0_pay3 k0_pay4 v22 v38 (harg3.unread x2) init k (ix2 p (0 : Fin 1))
      = part s (128 * (i 0).val + p.val) (1152 * ((i 0).val / 9 + 1) + 1152 * k) := by
  have hi : (i 0).val < 180 := (i 0).isLt
  have ht := trips7 i
  intro k
  induction k with
  | zero => intro _; rw [st_k0_t7_zero, hinit]; try rfl
  | succ k ih =>
    intro hk
    rw [st_k0_t7_succ Variants.none c none i arg1 harg1 arg2 harg2 arg3 harg3 arg4 harg4 arg5 harg5 arg0 v3 k0_pay3 k0_pay4 v22 v38 (harg3.unread x2) init ⟨k, hk⟩, trip7_eq, pay13_apply]
    dsimp only
    rw [ih (Nat.le_of_succ_le hk), show 1152 * ((i 0).val / 9 + 1) + 1152 * (k + 1) = 1152 * ((i 0).val / 9 + 1) + 1152 * k + 1152 from by omega, part_lt s _ _ 1152 (by omega), hv]
    refine congrArg _ (Finset.sum_congr rfl fun l _ => ?_)
    rw [load_slab s arg3 harg3 x2 hx _ _ _ (off9 i ⟨k, hk⟩) (by dsimp only; omega) l]
    dsimp only
    refine ind_congr (iff_of_eq (congrArg _ (congrArg s ?_)))
    omega

end Cert.Proof.Sel
end
-- ==== Proof.RankBlock.lean ====
module

public import proofs.«01_k».proof.Proof.RankLoop

@[expose] public section

set_option maxRecDepth 16384

noncomputable section

namespace Cert.Proof.Sel

open Cert.KernelIdeal Cert.KernelIdeal.Gen
open Idealize.ShloMosaic Idealize.ShloMosaic.TcCoe Idealize.ShloMosaic.Tactic
open scoped BigOperators

section
variable (s : ℕ → EReal) (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole)
    (x0 : Vec Ideal S23040x8 .f32) (x1 : Vec Ideal S180x1x128 .f32) (x2 : Vec Ideal S20x1x1152 .f32)

/-- The block's own scores: the fifth column of its rows. -/
theorem own_score (h0 : HoldsCol s x0) (p : Fin 128) :
    arg1.view.readAt (Elt Ideal) (Rect.unit (s := S23040x8) (k0_off1 i) S128x1.size (k0_off1_inb i)).toLoadRect (harg1.unread x0) (ix2 p (0 : Fin 1)) = s (128 * (i 0).val + p.val) := by
  have hi : (i 0).val < 180 := (i 0).isLt
  rw [View.readAt_eq_ld, Memref.IsWhole.read_unread]
  rw [View.ld_unit_apply_of x0 (k0_off1 i) S128x1.size _ _ (ix2 (⟨128 * (i 0).val + p.val, by omega⟩ : Fin 23040) (4 : Fin 8)) (by
    intro a; rw [show k0_off1 i a = (![128 * (i 0).val, 4] : Fin 2 → ℕ) a from congrFun (k0_off1_eq i) a]; fin_cases a <;> simp [ix2])]
  exact h0 _

theorem own_score' (h0 : HoldsCol s x0) (p : Fin 128) :
    kernelRun0_A.sl.r c i arg1 harg1 x0 (ix2 p (0 : Fin 1)) = s (128 * (i 0).val + p.val) := by
  unfold kernelRun0_A.sl.r
  rw [show ∀ v : Vec Ideal S128x1 .f32, k0_pay2 v (ix2 p (0 : Fin 1)) = v (ix2 p (0 : Fin 1)) from fun v => by pointwise [k0_pay2]]
  exact own_score s i arg1 harg1 x0 h0 p

theorem below_eq (h0 : HoldsCol s x0) (h1 : HoldsRow s x1) (h2 : HoldsSlab s x2) (p : Fin 128) :
    kernelRun0_A.sl.r_1 c i arg1 harg1 arg2 harg2 arg3 harg3 arg4 harg4 arg5 harg5 x0 x1 x2 (ix2 p (0 : Fin 1)) = part s (128 * (i 0).val + p.val) (128 * (i 0).val) := by
  unfold kernelRun0_A.sl.r_1
  rw [show Scf.trips (k0_t4_loop i).lb (k0_t4_loop i).ub (k0_t4_loop i).st = 0 from trips4 i, st_k0_t4_zero]
  have ho := own_score s i arg1 harg1 x0 h0 p
  refine (st3_apply s c i arg1 harg1 arg2 harg2 arg3 harg3 arg4 harg4 arg5 harg5 _ x1 h1 _ p ho ?_ _ (le_refl (k0_t3_loop i).trips)).trans ?_
  · rw [show Scf.trips (k0_t2_loop i).lb (k0_t2_loop i).ub (k0_t2_loop i).st = 0 from trips2 i, st_k0_t2_zero]
    refine (st1_apply s c i arg1 harg1 arg2 harg2 arg3 harg3 arg4 harg4 arg5 harg5 _ x2 h2 _ p ho ?_ _ (le_refl (k0_t1_loop i).trips)).trans ?_
    · rw [pay5_apply, part_zero]
    · rw [trips1, Nat.zero_add]
  · rw [trips3]; congr 1; omega

theorem load6 (h1 : HoldsRow s x1) (k : Fin 128) :
    arg2.view.readAt (Elt Ideal) (Rect.unit (s := S180x1x128) (k0_off6 i) S1x1x128.size (k0_off6_inb i)).toLoadRect (harg2.unread x1) (ix3 (0 : Fin 1) (0 : Fin 1) k) = s (128 * (i 0).val + k.val) :=
  load_row s arg2 harg2 x1 h1 _ _ _ (k0_off6_eq i) (i 0).isLt k

theorem own_eq (h0 : HoldsCol s x0) (h1 : HoldsRow s x1) (h2 : HoldsSlab s x2) (p : Fin 128) :
    k0_pay10 (kernelRun0_A.sl.r c i arg1 harg1 x0) k0_pay4
      (kernelRun0_A.sl.r_1 c i arg1 harg1 arg2 harg2 arg3 harg3 arg4 harg4 arg5 harg5 x0 x1 x2)
      (arg2.view.readAt (Elt Ideal) (Rect.unit (s := S180x1x128) (k0_off6 i) S1x1x128.size (k0_off6_inb i)).toLoadRect (harg2.unread x1)) (ix2 p (0 : Fin 1))
      = part s (128 * (i 0).val + p.val) (128 * (i 0).val + 128) := by
  rw [pay10_apply, below_eq s c i arg1 harg1 arg2 harg2 arg3 harg3 arg4 harg4 arg5 harg5 x0 x1 x2 h0 h1 h2, own_score' s c i arg1 harg1 x0 h0, part_own s _ (128 * (i 0).val) 128 p rfl]
  refine congrArg _ (Finset.sum_congr rfl fun k _ => ?_)
  rw [load6 s i arg2 harg2 x1 h1 k]

theorem rank_eq (h0 : HoldsCol s x0) (h1 : HoldsRow s x1) (h2 : HoldsSlab s x2) (p : Fin 128) :
    kernelRun0_A.sl.r_2 c i arg1 harg1 arg2 harg2 arg3 harg3 arg4 harg4 arg5 harg5 x0 x1 x2 (ix2 p (0 : Fin 1)) = part s (128 * (i 0).val + p.val) 23040 := by
  have hi : (i 0).val < 180 := (i 0).isLt
  have ho := own_score' s c i arg1 harg1 x0 h0 p
  unfold kernelRun0_A.sl.r_2
  rw [show Scf.trips (k0_t8_loop i).lb (k0_t8_loop i).ub (k0_t8_loop i).st = 0 from trips8 i, st_k0_t8_zero]
  refine (st7_apply s c i arg1 harg1 arg2 harg2 arg3 harg3 arg4 harg4 arg5 harg5 _ _ _ _ x2 h2 _ p ho ?_ _ (le_refl (k0_t7_loop i).trips)).trans ?_
  · rw [show Scf.trips (k0_t6_loop i).lb (k0_t6_loop i).ub (k0_t6_loop i).st = 0 from trips6 i, st_k0_t6_zero]
    refine (st5_apply s c i arg1 harg1 arg2 harg2 arg3 harg3 arg4 harg4 arg5 harg5 _ _ _ _ x1 h1 _ p ho ?_ _ (le_refl (k0_t5_loop i).trips)).trans ?_
    · exact own_eq s c i arg1 harg1 arg2 harg2 arg3 harg3 arg4 harg4 arg5 harg5 x0 x1 x2 h0 h1 h2 p
    · rw [trips5]; congr 1; omega
  · rw [trips7]; congr 1; omega

/-- The block of ranks that grid point `i` stores. -/
theorem out_rank_eq :
    out0_A_3 c i arg1 harg1 arg2 harg2 arg3 harg3 arg4 harg4 arg5 harg5 x0 x1 x2 = kernelRun0_A.sl.r_2 c i arg1 harg1 arg2 harg2 arg3 harg3 arg4 harg4 arg5 harg5 x0 x1 x2 := by
  unfold out0_A_3
  rw [View.read_writes_junk_eq_canon]
  unfold kernelRun0_A
  dsimp only
  rw [View.canon_unit_zero (by funext a; fin_cases a <;> rfl)]
  rfl

/-- The cells of the stored pair: the least and the greatest rank of the block. -/
theorem out_pair_eq :
    out0_A_4 c i arg1 harg1 arg2 harg2 arg3 harg3 arg4 harg4 arg5 harg5 x0 x1 x2
      = View.canon [⟨Rect.unit (s := S1x1x2) ![0, 0, 1] ![1, 1, 1] inb_S1x1x2_S1x1x1_0_0_1, fun _ => k0_pay1 (kernelRun0_A.sl.r_2 c i arg1 harg1 arg2 harg2 arg3 harg3 arg4 harg4 arg5 harg5 x0 x1 x2)⟩,
        ⟨Rect.unit (s := S1x1x2) ![0, 0, 0] ![1, 1, 1] inb_S1x1x2_S1x1x1_0_0_0, fun _ => k0_pay15 (kernelRun0_A.sl.r_2 c i arg1 harg1 arg2 harg2 arg3 harg3 arg4 harg4 arg5 harg5 x0 x1 x2)⟩] := by
  unfold out0_A_4
  rw [View.read_writes_junk_eq_canon]
  rfl
end

theorem pair_min (a b : EReal) :
    View.canon (Val := Elt Ideal) (e := .f32) [⟨Rect.unit (s := S1x1x2) ![0, 0, 1] ![1, 1, 1] inb_S1x1x2_S1x1x1_0_0_1, fun _ => b⟩,
        ⟨Rect.unit (s := S1x1x2) ![0, 0, 0] ![1, 1, 1] inb_S1x1x2_S1x1x1_0_0_0, fun _ => a⟩] (ix3 (0 : Fin 1) (0 : Fin 1) (0 : Fin 2)) = a := by
  refine View.canon_eq_of_allAt _ _ _ ?_ ?_
  · refine View.cover_of_tiledL (s := S1x1x2) _ ![1, 1, 1] ?_ _
    sl_kernel_rfl
  · refine View.allAt_cons_unit _ _ _ _ _ ?_ (View.allAt_cons_unit _ _ _ _ _ ?_ (View.allAt_nil _ _))
    · intro x hx
      have h := hx 2
      simp [ix3] at h
      omega
    · intro x _; rfl

theorem pair_max (a b : EReal) :
    View.canon (Val := Elt Ideal) (e := .f32) [⟨Rect.unit (s := S1x1x2) ![0, 0, 1] ![1, 1, 1] inb_S1x1x2_S1x1x1_0_0_1, fun _ => b⟩,
        ⟨Rect.unit (s := S1x1x2) ![0, 0, 0] ![1, 1, 1] inb_S1x1x2_S1x1x1_0_0_0, fun _ => a⟩] (ix3 (0 : Fin 1) (0 : Fin 1) (1 : Fin 2)) = b := by
  refine View.canon_eq_of_allAt _ _ _ ?_ ?_
  · refine View.cover_of_tiledL (s := S1x1x2) _ ![1, 1, 1] ?_ _
    sl_kernel_rfl
  · refine View.allAt_cons_unit _ _ _ _ _ ?_ (View.allAt_cons_unit _ _ _ _ _ ?_ (View.allAt_nil _ _))
    · intro x _; rfl
    · intro x hx
      have h := hx 2
      have h2 : (x 2).val < 1 := (x 2).isLt
      simp [ix3] at h
      omega

section
variable (s : ℕ → EReal) (c : Dev nD) (i : grid0.Coords) (arg1 : Memref sig .tc .vmem S23040x8 .f32) (harg1 : arg1.IsWhole) (arg2 : Memref sig .tc .vmem S180x1x128 .f32) (harg2 : arg2.IsWhole) (arg3 : Memref sig .tc .vmem S20x1x1152 .f32) (harg3 : arg3.IsWhole) (arg4 : Memref sig .tc .vmem S128x1 .f32) (harg4 : arg4.IsWhole) (arg5 : Memref sig .tc .smem S1x1x2 .f32) (harg5 : arg5.IsWhole)
    (x0 : Vec Ideal S23040x8 .f32) (x1 : Vec Ideal S180x1x128 .f32) (x2 : Vec Ideal S20x1x1152 .f32)

theorem out_rank (h0 : HoldsCol s x0) (h1 : HoldsRow s x1) (h2 : HoldsSlab s x2) (p : Fin 128) :
    out0_A_3 c i arg1 harg1 arg2 harg2 arg3 harg3 arg4 harg4 arg5 harg5 x0 x1 x2 (ix2 p (0 : Fin 1)) = ((cnt s 23040 (128 * (i 0).val + p.val) : ℝ) : EReal) := by
  rw [out_rank_eq, rank_eq s c i arg1 harg1 arg2 harg2 arg3 harg3 arg4 harg4 arg5 harg5 x0 x1 x2 h0 h1 h2, part_eq_cnt]

/-- The least rank of the block, as stored, is below every rank of it. -/
theorem out_min (h0 : HoldsCol s x0) (h1 : HoldsRow s x1) (h2 : HoldsSlab s x2) (p : Fin 128) :
    out0_A_4 c i arg1 harg1 arg2 harg2 arg3 harg3 arg4 harg4 arg5 harg5 x0 x1 x2 (ix3 (0 : Fin 1) (0 : Fin 1) (0 : Fin 2)) ≤ ((cnt s 23040 (128 * (i 0).val + p.val) : ℝ) : EReal) := by
  rw [out_pair_eq, pair_min, ← part_eq_cnt, ← rank_eq s c i arg1 harg1 arg2 harg2 arg3 harg3 arg4 harg4 arg5 harg5 x0 x1 x2 h0 h1 h2]
  exact pay15_le _ p

/-- The greatest rank of the block, as stored, is above every rank of it. -/
theorem out_max (h0 : HoldsCol s x0) (h1 : HoldsRow s x1) (h2 : HoldsSlab s x2) (p : Fin 128) :
    ((cnt s 23040 (128 * (i 0).val + p.val) : ℝ) : EReal) ≤ out0_A_4 c i arg1 harg1 arg2 harg2 arg3 harg3 arg4 harg4 arg5 harg5 x0 x1 x2 (ix3 (0 : Fin 1) (0 : Fin 1) (1 : Fin 2)) := by
  rw [out_pair_eq, pair_max, ← part_eq_cnt, ← rank_eq s c i arg1 harg1 arg2 harg2 arg3 harg3 arg4 harg4 arg5 harg5 x0 x1 x2 h0 h1 h2]
  exact le_pay1 _ p

end

end Cert.Proof.Sel
end
-- ==== Proof.ScatBlock.lean ====
module

public import proofs.«01_k».proof.Proof.Run
public import proofs.«01_k».proof.Proof.Closed
public import proofs.«01_k».proof.Proof.Order
public import Idealize.ShloMosaic.Lib.Pipeline.Value
public import Idealize.ShloMosaic.Lib.Pipeline.ValueKit.Tiles

@[expose] public section

set_option maxRecDepth 16384

noncomputable section

namespace Cert.Proof.Sel

open Cert.KernelIdeal Cert.KernelIdeal.Gen
open Idealize.ShloMosaic Idealize.ShloMosaic.TcCoe Idealize.ShloMosaic.Tactic
open scoped BigOperators

/-- The ranks, a row of 128 at a time. -/
def HoldsRank (r : ℕ → ℕ) (x1 : Vec Ideal S180x1x128 .f32) : Prop := ∀ (b : Fin 180) (k : Fin 128), x1 (ix3 b (0 : Fin 1) k) = ((r (128 * b.val + k.val) : ℝ) : EReal)

/-- The stored pairs bound the ranks of their blocks. -/
def HoldsBounds (r : ℕ → ℕ) (x2 : Vec Ideal S180x1x2 .f32) : Prop :=
  ∀ (b : Fin 180) (k : Fin 128), x2 (ix3 b (0 : Fin 1) (0 : Fin 2)) ≤ ((r (128 * b.val + k.val) : ℝ) : EReal) ∧ ((r (128 * b.val + k.val) : ℝ) : EReal) ≤ x2 (ix3 b (0 : Fin 1) (1 : Fin 2))

/-- Column `l` of the rows, by row number. -/
def colOf (x0 : Vec Ideal S23040x8 .f32) (l : Fin 8) (n : ℕ) : EReal := if h : n < 23040 then x0 (ix2 (⟨n, h⟩ : Fin 23040) l) else 0

theorem base_num (i : grid1.Coords) : k1_pay2 (F := Ideal) i = (((128 * (i 0).val : ℕ) : ℝ) : EReal) := by
  have h : (i 0).val < 80 := (i 0).isLt
  unfold k1_pay2
  show FloatOps.sitofp (F := Ideal) .f32 (BitVec.ofNat 32 (i 0).val * 128#32) = _
  rw [show BitVec.ofNat 32 (i 0).val * 128#32 = BitVec.ofNat 32 (128 * (i 0).val) from by
    apply BitVec.eq_of_toNat_eq; simp [BitVec.toNat_ofNat, BitVec.toNat_mul]; omega]
  exact sitofp_nat _ (by omega)

theorem top_num (i : grid1.Coords) : k1_pay3 (F := Ideal) i = (((128 * (i 0).val + 128 : ℕ) : ℝ) : EReal) := by
  unfold k1_pay3
  show k1_pay2 (F := Ideal) i + Ideal.ofBits .f32 0x43000000#32 = _
  rw [base_num, ofBits_128, ← EReal.coe_add]
  congr 1; push_cast; ring

/-- A block that the conditional skips holds no rank of this point's rows. -/
theorem hit_of (i : grid1.Coords) (lo hi : EReal) (r : ℕ) (p : Fin 128) (hr : r = 128 * (i 0).val + p.val)
    (h1 : lo ≤ ((r : ℝ) : EReal)) (h2 : ((r : ℝ) : EReal) ≤ hi) : hit (F := Ideal) i lo hi = 1#1 := by
  have e1 : lo < k1_pay3 (F := Ideal) i := by
    rw [top_num]
    refine lt_of_le_of_lt h1 ?_
    rw [EReal.coe_lt_coe_iff]
    have : r < 128 * (i 0).val + 128 := by omega
    exact_mod_cast this
  have e2 : k1_pay2 (F := Ideal) i ≤ hi := by
    rw [base_num]
    refine le_trans ?_ h2
    rw [EReal.coe_le_coe_iff]
    have : 128 * (i 0).val ≤ r := by omega
    exact_mod_cast this
  have c1 : Scalar.cmpf (F := Ideal) (φ := .f32) .olt lo (k1_pay3 (F := Ideal) i) = 1#1 := by
    show BitVec.ofBool (decide (lo < k1_pay3 (F := Ideal) i)) = 1#1
    rw [decide_eq_true e1]; rfl
  have c2 : Scalar.cmpf (F := Ideal) (φ := .f32) .oge hi (k1_pay2 (F := Ideal) i) = 1#1 := by
    show BitVec.ofBool (decide (k1_pay2 (F := Ideal) i ≤ hi)) = 1#1
    rw [decide_eq_true e2]; rfl
  unfold hit
  rw [c1, c2]
  decide

section
variable (r : ℕ → ℕ) (c : Dev nD) (i : grid1.Coords) (arg1 : Memref sig .tc .vmem S23040x8 .f32) (harg1 : arg1.IsWhole) (arg2 : Memref sig .tc .vmem S180x1x128 .f32) (harg2 : arg2.IsWhole) (arg3 : Memref sig .tc .smem S180x1x2 .f32) (harg3 : arg3.IsWhole) (arg4 : Memref sig .tc .vmem S128x8 .f32) (harg4 : arg4.IsWhole)
    (x0 : Vec Ideal S23040x8 .f32) (x1 : Vec Ideal S180x1x128 .f32) (x2 : Vec Ideal S180x1x2 .f32)

theorem load_rank (h1 : HoldsRank r x1) (k : Fin k1_t1_loop.trips) (l : Fin 128) :
    arg2.view.readAt (Elt Ideal) (Rect.unit (s := S180x1x128) (k1_off3 k) S1x1x128.size (k1_off3_inb k)).toLoadRect (harg2.unread x1) (ix3 (0 : Fin 1) (0 : Fin 1) l) = ((r (128 * k.val + l.val) : ℝ) : EReal) := by
  have hk : k.val < 180 := Nat.lt_of_lt_of_le k.isLt k1_t1_abs.2.1
  rw [View.readAt_eq_ld, Memref.IsWhole.read_unread]
  rw [View.ld_unit_apply_of x1 (k1_off3 k) S1x1x128.size _ _ (ix3 (⟨k.val, hk⟩ : Fin 180) (0 : Fin 1) l) (by
    intro a; rw [show k1_off3 k a = (![k.val, 0, 0] : Fin 3 → ℕ) a from congrFun (k1_off3_eq k) a]; fin_cases a <;> simp [ix3])]
  exact h1 ⟨k.val, hk⟩ l

theorem load_rows (k : Fin k1_t1_loop.trips) (m : Fin 128) (l : Fin 8) :
    arg1.view.readAt (Elt Ideal) (Rect.unit (s := S23040x8) (k1_off4 k) S128x8.size (k1_off4_inb k)).toLoadRect (harg1.unread x0) (ix2 m l) = colOf x0 l (128 * k.val + m.val) := by
  have hk : k.val < 180 := Nat.lt_of_lt_of_le k.isLt k1_t1_abs.2.1
  rw [View.readAt_eq_ld, Memref.IsWhole.read_unread]
  rw [View.ld_unit_apply_of x0 (k1_off4 k) S128x8.size _ _ (ix2 (⟨128 * k.val + m.val, by omega⟩ : Fin 23040) l) (by
    intro a; rw [show k1_off4 k a = (![128 * k.val, 0] : Fin 2 → ℕ) a from congrFun (k1_off4_eq k) a]; fin_cases a <;> simp [ix2])]
  unfold colOf
  rw [dif_pos (by omega : 128 * k.val + m.val < 23040)]

theorem load_min (k : Fin k1_t1_loop.trips) (hk : k.val < 180) :
    arg3.view.readAt (Elt Ideal) (Rect.unit (s := S180x1x2) (k1_off1 k) S1x1x1.size (k1_off1_inb k)).toLoadRect (harg3.unread x2) (Shape.Idx.first (numel1_S1x1x1.symm ▸ Nat.one_pos)) = x2 (ix3 (⟨k.val, hk⟩ : Fin 180) (0 : Fin 1) (0 : Fin 2)) := by
  rw [View.readAt_eq_ld, Memref.IsWhole.read_unread]
  refine View.ld_unit_apply_of x2 (k1_off1 k) S1x1x1.size _ _ _ ?_
  intro a; rw [show k1_off1 k a = (![k.val, 0, 0] : Fin 3 → ℕ) a from congrFun (k1_off1_eq k) a]; fin_cases a <;> rfl

theorem load_max (k : Fin k1_t1_loop.trips) (hk : k.val < 180) :
    arg3.view.readAt (Elt Ideal) (Rect.unit (s := S180x1x2) (k1_off2 k) S1x1x1.size (k1_off2_inb k)).toLoadRect (harg3.unread x2) (Shape.Idx.first (numel1_S1x1x1.symm ▸ Nat.one_pos)) = x2 (ix3 (⟨k.val, hk⟩ : Fin 180) (0 : Fin 1) (1 : Fin 2)) := by
  rw [View.readAt_eq_ld, Memref.IsWhole.read_unread]
  refine View.ld_unit_apply_of x2 (k1_off2 k) S1x1x1.size _ _ _ ?_
  intro a; rw [show k1_off2 k a = (![k.val, 0, 1] : Fin 3 → ℕ) a from congrFun (k1_off2_eq k) a]; fin_cases a <;> rfl

/-- A trip adds, at row `p`, the rows of the block whose rank is the row's place. A skipped block has none. -/
theorem tripVal_apply (h1 : HoldsRank r x1) (h2 : HoldsBounds r x2) (k : Fin k1_t1_loop.trips) (acc : FVec Ideal S128x8 .f32) (p : Fin 128) (l : Fin 8) :
    tripVal i arg1 arg2 arg3 (harg1.unread x0) (harg2.unread x1) (harg3.unread x2) k acc (ix2 p l)
      = acc (ix2 p l) + ∑ m : Fin 128, ind (r (128 * k.val + m.val) = 128 * (i 0).val + p.val) * colOf x0 l (128 * k.val + m.val) := by
  have hk : k.val < 180 := Nat.lt_of_lt_of_le k.isLt k1_t1_abs.2.1
  unfold tripVal
  rw [load_min arg3 harg3 x2 k hk, load_max arg3 harg3 x2 k hk]
  split
  · rw [spay5_apply]
    refine congrArg _ (Finset.sum_congr rfl fun m _ => ?_)
    rw [load_rank r arg2 harg2 x1 h1, load_rows arg1 harg1 x0]
    refine congrArg (· * _) (ind_congr ?_)
    rw [EReal.coe_eq_coe_iff]
    exact_mod_cast Iff.rfl
  · rename_i hn
    rw [Finset.sum_eq_zero, add_zero]
    intro m _
    rw [ind_neg, zero_mul]
    intro he
    exact hn (hit_of i _ _ _ p he (h2 ⟨k.val, hk⟩ m).1 (h2 ⟨k.val, hk⟩ m).2)

theorem st_apply (h1 : HoldsRank r x1) (h2 : HoldsBounds r x2) (p : Fin 128) (l : Fin 8) :
    ∀ k, k ≤ k1_t1_loop.trips → st i arg1 arg2 arg3 (harg1.unread x0) (harg2.unread x1) (harg3.unread x2) (k1_pay4 (F := Ideal)) k (ix2 p l)
      = ∑ m ∈ Finset.range (128 * k), ind (r m = 128 * (i 0).val + p.val) * colOf x0 l m := by
  intro k
  induction k with
  | zero => intro _; simp only [st]; rw [spay4_apply]; simp
  | succ k ih =>
    intro hk
    rw [st_succ i arg1 arg2 arg3 _ _ _ _ ⟨k, hk⟩, tripVal_apply r i arg1 harg1 arg2 harg2 arg3 harg3 x0 x1 x2 h1 h2]
    dsimp only
    rw [ih (Nat.le_of_succ_le hk), Nat.mul_succ, Finset.sum_range_add]
    exact congrArg _ (Finset.sum_range fun m => ind (r (128 * k + m) = 128 * (i 0).val + p.val) * colOf x0 l (128 * k + m)).symm

/-- The block of rows that grid point `i` stores. -/
theorem out_rows (h1 : HoldsRank r x1) (h2 : HoldsBounds r x2) (p : Fin 128) (l : Fin 8) :
    out1_A_3 c i arg1 harg1 arg2 harg2 arg3 harg3 arg4 harg4 x0 x1 x2 (ix2 p l)
      = if l.val = 5 then (∑ m ∈ Finset.range 23040, ind (r m = 128 * (i 0).val + p.val) * colOf x0 l m) * ind (128 * (i 0).val + p.val < 10000)
        else ∑ m ∈ Finset.range 23040, ind (r m = 128 * (i 0).val + p.val) * colOf x0 l m := by
  have e := st_apply r i arg1 harg1 arg2 harg2 arg3 harg3 x0 x1 x2 h1 h2 p l _ (le_refl k1_t1_loop.trips)
  rw [show 128 * k1_t1_loop.trips = 23040 from by rw [tripsS]] at e
  rw [← e]
  unfold out1_A_3
  rw [View.read_writes_junk_eq_canon]
  unfold kernelRun1_A
  dsimp only
  sl_unfold_run_names
  rw [View.canon_unit_zero (by funext a; fin_cases a <;> rfl)]
  rw [spay6_apply]
end

end Cert.Proof.Sel
end
-- ==== Proof.Arrays.lean ====
module

public import proofs.«01_k».proof.Proof.RankBlock
public import proofs.«01_k».proof.Proof.ScatBlock
public import Idealize.ShloMosaic.Lib.Pipeline.ValueKit

@[expose] public section

set_option maxRecDepth 16384

noncomputable section

namespace Cert.Proof.Sel

open Cert.KernelIdeal Cert.KernelIdeal.Gen
open Idealize.ShloMosaic Idealize.ShloMosaic.TcCoe Idealize.ShloMosaic.Tactic
open scoped BigOperators

/-! ## Where the blocks lie -/

theorem index0_0 : ∀ t : Fin cfg0.N, win0_0.index t = ![0, 0] := (by decide +kernel : ∀ t : Fin grid0.N, win0_0.index t = ![0, 0])
theorem index0_1 : ∀ t : Fin cfg0.N, win0_1.index t = ![0, 0, 0] := (by decide +kernel : ∀ t : Fin grid0.N, win0_1.index t = ![0, 0, 0])
theorem index0_2 : ∀ t : Fin cfg0.N, win0_2.index t = ![0, 0, 0] := (by decide +kernel : ∀ t : Fin grid0.N, win0_2.index t = ![0, 0, 0])
theorem index0_3 : ∀ t : Fin cfg0.N, win0_3.index t = ![(grid0.coords t 0).val, 0] := (by decide +kernel : ∀ t : Fin grid0.N, win0_3.index t = ![(grid0.coords t 0).val, 0])
theorem index0_4 : ∀ t : Fin cfg0.N, win0_4.index t = ![(grid0.coords t 0).val, 0, 0] := (by decide +kernel : ∀ t : Fin grid0.N, win0_4.index t = ![(grid0.coords t 0).val, 0, 0])
theorem index1_0 : ∀ t : Fin cfg1.N, win1_0.index t = ![0, 0] := (by decide +kernel : ∀ t : Fin grid1.N, win1_0.index t = ![0, 0])
theorem index1_1 : ∀ t : Fin cfg1.N, win1_1.index t = ![0, 0, 0] := (by decide +kernel : ∀ t : Fin grid1.N, win1_1.index t = ![0, 0, 0])
theorem index1_2 : ∀ t : Fin cfg1.N, win1_2.index t = ![0, 0, 0] := (by decide +kernel : ∀ t : Fin grid1.N, win1_2.index t = ![0, 0, 0])
theorem index1_3 : ∀ t : Fin cfg1.N, win1_3.index t = ![(grid1.coords t 0).val, 0] := (by decide +kernel : ∀ t : Fin grid1.N, win1_3.index t = ![(grid1.coords t 0).val, 0])

section
variable (V : (c : Dev nD) → (b : Ref sig .tc) → Buf (Elt Ideal) ((c : Thread nD τ).loc b)) (c : Dev nD)

/-- The input windows of the rank launch hold their arrays whole. -/
theorem iblk0_0 (t : Fin cfg0.N) : (iblk0 V c 0 t : Vec Ideal S23040x8 .f32) = V c main_v14 := by
  funext y; blk_ext [iblk0, index0_0 t]
theorem iblk0_1 (t : Fin cfg0.N) : (iblk0 V c 1 t : Vec Ideal S180x1x128 .f32) = V c main_v15 := by
  funext y; blk_ext [iblk0, index0_1 t]
theorem iblk0_2 (t : Fin cfg0.N) : (iblk0 V c 2 t : Vec Ideal S20x1x1152 .f32) = V c main_v16 := by
  funext y; blk_ext [iblk0, index0_2 t]
/-- So do those of the scatter launch. -/
theorem iblk1_0 (t : Fin cfg1.N) : (iblk1 V c 0 t : Vec Ideal S23040x8 .f32) = V c main_arg0 := by
  funext y; blk_ext [iblk1, index1_0 t]
theorem iblk1_1 (t : Fin cfg1.N) : (iblk1 V c 1 t : Vec Ideal S180x1x128 .f32) = V c main_v18 := by
  funext y; blk_ext [iblk1, index1_1 t]
theorem iblk1_2 (t : Fin cfg1.N) : (iblk1 V c 2 t : Vec Ideal S180x1x2 .f32) = V c main_v17_1 := by
  funext y; blk_ext [iblk1, index1_2 t]

/-- The stored pairs after the rank launch. -/
def pairs : Vec Ideal S180x1x2 .f32 := (dat0 V c).arrAt 4 cfg0.N

variable (s : ℕ → EReal) (h0 : HoldsCol s (V c main_v14)) (h1 : HoldsRow s (V c main_v15)) (h2 : HoldsSlab s (V c main_v16))
include h0 h1 h2

/-- The rank array. -/
theorem rank_arr : (dat0 V c).arrAt 3 cfg0.N = ((fun i => ((cnt s 23040 (i 0).val : ℝ) : EReal)) : Vec Ideal S23040x1 .f32) := by
  refine (dat0 V c).arrAt_eq_of_covers 3 _ (by decide +kernel) fun t hf (y : S128x1.Idx) => ?_
  have h := out_rank s c (grid0.coords t) (ms0_0 t) (hs0_0 t) (ms0_1 t) (hs0_1 t) (ms0_2 t) (hs0_2 t) (ms0_3 t) (hs0_3 t) (ms0_4 t) (hs0_4 t)
    (iblk0 V c 0 t) (iblk0 V c 1 t) (iblk0 V c 2 t) (by rw [iblk0_0]; exact h0) (by rw [iblk0_1]; exact h1) (by rw [iblk0_2]; exact h2) (y 0)
  have e0 : ((((cfg0.win 3).blk t).view.emb y) 0).val = 128 * (grid0.coords t 0).val + (y 0).val := by
    blk_simp [index0_3 t]; simp [mul_comm]
  have hy : y = (ix2 (y 0) (0 : Fin 1) : S128x1.Idx) := by
    funext a; fin_cases a
    · rfl
    · exact Subsingleton.elim (α := Fin 1) _ _
  simp only [e0]
  blk_simp
  rw [after0_3, hy]
  exact h

/-- The stored pairs bound the ranks of their blocks. -/
theorem pair_arr : HoldsBounds (cnt s 23040) (pairs V c) := by
  have key : ∀ i : S180x1x2.Idx, ∀ k : Fin 128,
      ((i 2).val = 0 → pairs V c i ≤ ((cnt s 23040 (128 * (i 0).val + k.val) : ℝ) : EReal))
      ∧ ((i 2).val = 1 → ((cnt s 23040 (128 * (i 0).val + k.val) : ℝ) : EReal) ≤ pairs V c i) := by
    intro i k
    refine (dat0 V c).arrAt_forall_of_covers 4 (fun (i : S180x1x2.Idx) (v : EReal) =>
      ((i 2).val = 0 → v ≤ ((cnt s 23040 (128 * (i 0).val + k.val) : ℝ) : EReal))
      ∧ ((i 2).val = 1 → ((cnt s 23040 (128 * (i 0).val + k.val) : ℝ) : EReal) ≤ v)) (by decide +kernel) (fun t hf (y : S1x1x2.Idx) => ?_) i
    have hlo := out_min s c (grid0.coords t) (ms0_0 t) (hs0_0 t) (ms0_1 t) (hs0_1 t) (ms0_2 t) (hs0_2 t) (ms0_3 t) (hs0_3 t) (ms0_4 t) (hs0_4 t)
      (iblk0 V c 0 t) (iblk0 V c 1 t) (iblk0 V c 2 t) (by rw [iblk0_0]; exact h0) (by rw [iblk0_1]; exact h1) (by rw [iblk0_2]; exact h2) k
    have hhi := out_max s c (grid0.coords t) (ms0_0 t) (hs0_0 t) (ms0_1 t) (hs0_1 t) (ms0_2 t) (hs0_2 t) (ms0_3 t) (hs0_3 t) (ms0_4 t) (hs0_4 t)
      (iblk0 V c 0 t) (iblk0 V c 1 t) (iblk0 V c 2 t) (by rw [iblk0_0]; exact h0) (by rw [iblk0_1]; exact h1) (by rw [iblk0_2]; exact h2) k
    have e0 : ((((cfg0.win 4).blk t).view.emb y) 0).val = (grid0.coords t 0).val := by
      have hy0 : (y 0).val = 0 := congrArg Fin.val (Subsingleton.elim (α := Fin 1) (y 0) 0)
      blk_simp [index0_4 t]
    have e2 : ((((cfg0.win 4).blk t).view.emb y) 2).val = (y 2).val := by
      blk_simp [index0_4 t]
    have hy : ∀ q : Fin 2, (y 2).val = q.val → y = ix3 (0 : Fin 1) (0 : Fin 1) q := by
      intro q hq; funext a; fin_cases a
      · exact Subsingleton.elim (α := Fin 1) _ _
      · exact Subsingleton.elim (α := Fin 1) _ _
      · exact Fin.ext hq
    simp only [e0, e2]
    blk_simp
    rw [after0_4]
    refine ⟨fun h2 => ?_, fun h2 => ?_⟩
    · rw [hy 0 h2]; exact hlo
    · rw [hy 1 h2]; exact hhi
  exact fun b k => ⟨(key (ix3 b 0 0) k).1 rfl, (key (ix3 b 0 1) k).2 rfl⟩

end

section
variable (V : (c : Dev nD) → (b : Ref sig .tc) → Buf (Elt Ideal) ((c : Thread nD τ).loc b)) (c : Dev nD)
variable (r : ℕ → ℕ) (h1 : HoldsRank r (V c main_v18)) (h2 : HoldsBounds r (V c main_v17_1))

/-- Row `p`, column `l` of the selection, before the mask: the payload's entry at the row whose rank is `p`. -/
def picked (x0 : Vec Ideal S23040x8 .f32) (r : ℕ → ℕ) (p : ℕ) (l : Fin 8) : EReal :=
  ∑ m ∈ Finset.range 23040, ind (r m = p) * colOf x0 l m

/-- The selected rows: column 5 is cleared in the rows past the first ten thousand. -/
def selRow (x0 : Vec Ideal S23040x8 .f32) (r : ℕ → ℕ) (p : ℕ) (l : Fin 8) : EReal :=
  if l.val = 5 then picked x0 r p l * ind (p < 10000) else picked x0 r p l

include h1 h2

/-- What the scatter's body leaves in its block. -/
theorem scat_block (t : Fin cfg1.N) (p : Fin 128) (l : Fin 8) :
    outsAt1 V c t (ix2 p l) = selRow (V c main_arg0) r (128 * (grid1.coords t 0).val + p.val) l := by
  have h := out_rows r c (grid1.coords t) (ms1_0 t) (hs1_0 t) (ms1_1 t) (hs1_1 t) (ms1_2 t) (hs1_2 t) (ms1_3 t) (hs1_3 t)
    (iblk1 V c 0 t) (iblk1 V c 1 t) (iblk1 V c 2 t) (by rw [iblk1_1]; exact h1) (by rw [iblk1_2]; exact h2) p l
  unfold outsAt1
  refine h.trans ?_
  rw [iblk1_0]
  rfl

/-- The selection. -/
theorem scat_arr : (dat1 V c).arrAt 3 cfg1.N = ((fun i => selRow (V c main_arg0) r (i 0).val (i 1)) : Vec Ideal S10240x8 .f32) := by
  have h := scat_block V c r h1 h2
  generalize V c main_arg0 = x0 at h ⊢
  generalize selRow x0 r = G at h ⊢
  refine (dat1 V c).arrAt_eq_of_covers 3 _ (by decide +kernel) fun t hf (y : S128x8.Idx) => ?_
  have e1 : (((cfg1.win 3).blk t).view.emb y) 1 = y 1 := by
    apply Fin.ext; blk_simp [index1_3 t]
  have e0 : ((((cfg1.win 3).blk t).view.emb y) 0).val = 128 * (grid1.coords t 0).val + (y 0).val := by
    blk_simp [index1_3 t]; simp [mul_comm]
  have hy : y = (ix2 (y 0) (y 1) : S128x8.Idx) := by
    funext a; fin_cases a <;> rfl
  have h' := h t (y 0) (y 1)
  rw [← after1_3] at h'
  refine Eq.trans ?_ (h'.trans ?_)
  · rw [hy]; rfl
  · dsimp only
    rw [e1, e0]

end

end Cert.Proof.Sel

end
-- ==== Proof.Score.lean ====
module

public import proofs.«01_k».proof.Proof.Order
public import Idealize.ShloMosaic.Lib.IdealHost
public import Idealize.ShloMosaic.Lib.ShapeFacts
public import Idealize.ShloMosaic.Lib.ValueIdxCore

@[expose] public section

noncomputable section

namespace Cert.Proof.Sel

open Idealize.ShloMosaic
open scoped BigOperators

/-- The logistic function as both programs write it. -/
def sgm (x : EReal) : EReal := Ideal.div 1 (1 + Ideal.exp (-x))

theorem exp_nonneg (x : EReal) : 0 ≤ Ideal.exp x := by
  induction x with
  | bot => simp
  | top => simp
  | coe r => simp only [Ideal.exp_coe]; exact_mod_cast (Real.exp_pos r).le

theorem sgm_nonneg (x : EReal) : 0 ≤ sgm x := by
  unfold sgm Ideal.div
  have h : (0 : EReal) < 1 + Ideal.exp (-x) := lt_of_lt_of_le zero_lt_one (le_add_of_nonneg_right (exp_nonneg _))
  rw [if_neg h.ne', one_mul]
  exact EReal.inv_nonneg_of_nonneg h.le

/-- The scores the rows are ranked by: the logistic of the logits, and -1 in the padding. -/
def score (cls : (⟨1, ![22500]⟩ : Shape).Idx → EReal) (n : ℕ) : EReal := if h : n < 22500 then sgm (cls (ix1 ⟨n, h⟩)) else ((-1 : ℝ) : EReal)

theorem score_pad (cls : (⟨1, ![22500]⟩ : Shape).Idx → EReal) {n : ℕ} (hn : n < 22500) : cnt (score cls) 23040 n = cnt (score cls) 22500 n := by
  refine cnt_pad (score cls) 22500 23040 n hn (by norm_num) fun m hm _ => ?_
  unfold score
  rw [dif_neg (by omega), dif_pos hn]
  refine lt_of_lt_of_le ?_ (sgm_nonneg _)
  exact_mod_cast (by norm_num : (-1 : ℝ) < 0)

theorem ofBits_neg_one : Ideal.ofBits .f32 0xBF800000#32 = ((-1 : ℝ) : EReal) := by
  simp [Ideal.ofBits, Ideal.ieee, -EReal.coe_mul, -EReal.coe_neg]; norm_num

end Cert.Proof.Sel

end
-- ==== Proof.HostVals.lean ====
module

public import proofs.«01_k».proof.Proof.Arrays
public import proofs.«01_k».proof.Proof.Score
public import Idealize.ShloMosaic.Lib.Claim
public import Idealize.ShloMosaic.Lib.Routing.OpsOne
public import Idealize.ShloMosaic.Lib.ValueLayout
public import Idealize.ShloMosaic.Lib.IdealHost

@[expose] public section

set_option maxRecDepth 16384

noncomputable section

namespace Cert.Proof.Sel

open Cert.KernelIdeal Cert.KernelIdeal.Gen
open Idealize.ShloMosaic.Routing (shape1 shape2)
open Idealize.ShloMosaic Idealize.ShloMosaic.TcCoe Idealize.ShloMosaic.Tactic
open scoped BigOperators

/-- A column of a matrix overwritten by a vector, at an entry of that column. -/
theorem set_col {A N : ℕ} {α : Type} (d : ScatterDims (shape2 A N) (shape1 1) (shape1 A)) (hiw : d.insertedWindowDims = [1])
    (hsd : d.scatterDimsToOperandDims = [1]) (x0 : (shape2 A N).Idx → α) (idx : IVec (shape1 1) 32) (upd : (shape1 A).Idx → α)
    (k : Fin N) (hidx : (idx (ix1 0)).toInt = (k.val : Int)) (w : Fin A) :
    Host.scatter d (fun _ b => b) x0 idx upd (ix2 w k) = upd (ix1 w) := by
  refine Routing.scatter_set_hit d x0 idx upd _ _ (fun j hj => ?_) (ix1 w) ((Routing.lands_col d hiw hsd idx k hidx w w k).2 ⟨rfl, rfl⟩)
  have h := (Routing.lands_col d hiw hsd idx k hidx (j 0) w k).1 ((congrArg (fun t => d.resultIdx? t idx) (eq_ix1 j).symm).trans hj)
  exact (congrArg upd (eq_ix1 j)).trans (congrArg (fun t => upd (ix1 t)) h.1)

variable (m : (ℓ : Loc nD τ sig) → Buf (Elt Ideal) ℓ) (ρ : Dev nD → PrngReg) (c : Dev nD)

theorem v15_eq : V1 m ρ c main_v15 = (shapeCast S180x1x128 (V1 m ρ c main_v7 : Vec Ideal S23040 .f32) shapeCasts_S23040_S180x1x128 : Vec Ideal S180x1x128 .f32) := by
  show StableHlo.after hostOps0 (W0 m ρ c) (Proc.devRef .tc main_v15) = shapeCast _ (StableHlo.after hostOps0 (W0 m ρ c) (Proc.devRef .tc main_v7)) _
  entry_read
  rfl

theorem v16_eq : V1 m ρ c main_v16 = (shapeCast S20x1x1152 (V1 m ρ c main_v7 : Vec Ideal S23040 .f32) shapeCasts_S23040_S20x1x1152 : Vec Ideal S20x1x1152 .f32) := by
  show StableHlo.after hostOps0 (W0 m ρ c) (Proc.devRef .tc main_v16) = shapeCast _ (StableHlo.after hostOps0 (W0 m ρ c) (Proc.devRef .tc main_v7)) _
  entry_read
  rfl

theorem v14_eq (n : Fin 23040) : (V1 m ρ c main_v14 : Vec Ideal S23040x8 .f32) (ix2 n (4 : Fin 8)) = (V1 m ρ c main_v7 : Vec Ideal S23040 .f32) (ix1 n) := by
  show (StableHlo.after hostOps0 (W0 m ρ c) (Proc.devRef .tc main_v14) : Vec Ideal S23040x8 .f32) _ = (StableHlo.after hostOps0 (W0 m ρ c) (Proc.devRef .tc main_v7) : Vec Ideal S23040 .f32) _
  entry_read
  exact set_col scatter_S23040x8_S1_S23040_0_1_1_0 rfl rfl _ _ _ (4 : Fin 8) rfl n

/-- The scores as the host lays them out. -/
theorem v7_eq (n : Fin 23040) : (V1 m ρ c main_v7 : Vec Ideal S23040 .f32) (ix1 n) = score (m ((c : Thread nD τ).loc main_arg2)) n.val := by
  show (StableHlo.after hostOps0 (W0 m ρ c) (Proc.devRef .tc main_v7) : Vec Ideal S23040 .f32) _ = _
  entry_read
  unfold score
  by_cases h : n.val < 22500
  · rw [dif_pos h]
    refine (concatenate_pair_apply_left (t := S23040) (s₁ := S22500) (s₂ := S540) 0 _ _ concatenates_S22500_S540_S23040_d0 (ix1 n) rfl
      (ix1 (⟨n.val, h⟩ : Fin 22500)) fun b => ?_).trans ?_
    · fin_cases b; rfl
    · show Ideal.div (Ideal.ofBits .f32 0x3F800000#32) (Ideal.ofBits .f32 0x3F800000#32 + Ideal.exp (-_)) = _
      rw [Ideal.ofBits_one_f32]
      rfl
  · rw [dif_neg h]
    refine (concatenate_pair_apply_right (t := S23040) (s₁ := S22500) (s₂ := S540) 0 _ _ concatenates_S22500_S540_S23040_d0 (ix1 n) rfl rfl
      (ix1 (⟨n.val - 22500, by omega⟩ : Fin 540)) (fun b hb => ?_) ?_).trans ?_
    · exact absurd (Subsingleton.elim (α := Fin 1) _ _) hb
    · show n.val - 22500 + 22500 = n.val
      omega
    · exact ofBits_neg_one

theorem holds_col : HoldsCol (score (m ((c : Thread nD τ).loc main_arg2))) (V1 m ρ c main_v14) :=
  fun n => (v14_eq m ρ c n).trans (v7_eq m ρ c n)

theorem holds_row : HoldsRow (score (m ((c : Thread nD τ).loc main_arg2))) (V1 m ρ c main_v15) := by
  intro b k
  rw [v15_eq, ← v7_eq m ρ c (⟨128 * b.val + k.val, by omega⟩ : Fin 23040)]
  refine shapeCast_apply _ _ _ _ ?_
  show (S23040.rowMajor (ix1 _)).val = _
  rw [Shape.rowMajor_val_one, Shape.rowMajor_val_three]
  simp
  omega

theorem holds_slab : HoldsSlab (score (m ((c : Thread nD τ).loc main_arg2))) (V1 m ρ c main_v16) := by
  intro b k
  rw [v16_eq, ← v7_eq m ρ c (⟨1152 * b.val + k.val, by omega⟩ : Fin 23040)]
  refine shapeCast_apply _ _ _ _ ?_
  show (S23040.rowMajor (ix1 _)).val = _
  rw [Shape.rowMajor_val_one, Shape.rowMajor_val_three]
  simp
  omega

/-! ## Between the two launches -/

/-- Every row's rank. -/
abbrev rk : ℕ → ℕ := cnt (score (m ((c : Thread nD τ).loc main_arg2))) 23040

theorem v17_0_eq : (W2 m ρ c (Proc.devRef .tc main_v17_0) : Vec Ideal S23040x1 .f32) = fun i => ((rk m c (i 0).val : ℝ) : EReal) :=
  (W2_arr m ρ c 3).trans (rank_arr (V1 m ρ) c _ (holds_col m ρ c) (holds_row m ρ c) (holds_slab m ρ c))

theorem v18_eq : V3 m ρ c main_v18 = (shapeCast S180x1x128 (W2 m ρ c (Proc.devRef .tc main_v17_0) : Vec Ideal S23040x1 .f32) shapeCasts_S23040x1_S180x1x128 : Vec Ideal S180x1x128 .f32) := by
  show StableHlo.after hostOps1 (W2 m ρ c) (Proc.devRef .tc main_v18) = _
  entry_read
  rfl

theorem holds_rank : HoldsRank (rk m c) (V3 m ρ c main_v18) := by
  intro b k
  rw [v18_eq, v17_0_eq]
  refine (shapeCast_apply _ _ _ (ix2 (⟨128 * b.val + k.val, by omega⟩ : Fin 23040) (0 : Fin 1)) ?_).trans rfl
  rw [Shape.rowMajor_val_two, Shape.rowMajor_val_three]
  simp
  omega

theorem holds_bounds : HoldsBounds (rk m c) (V3 m ρ c main_v17_1) := by
  have h := pair_arr (V1 m ρ) c _ (holds_col m ρ c) (holds_row m ρ c) (holds_slab m ρ c)
  have e : (V3 m ρ c main_v17_1 : Vec Ideal S180x1x2 .f32) = pairs (V1 m ρ) c :=
    (W3_of m ρ c main_v17_1 (by decide)).trans (W2_arr m ρ c 4)
  rw [e]
  exact h

/-- The selection call's result. -/
theorem kernel_rows : W4 m ρ c (Proc.devRef .tc main_v19)
    = ((fun i => selRow (m ((c : Thread nD τ).loc main_arg0)) (rk m c) (i 0).val (i 1)) : Vec Ideal S10240x8 .f32) := by
  have h := scat_arr (V3 m ρ) c (rk m c) (holds_rank m ρ c) (holds_bounds m ρ c)
  have e : V3 m ρ c main_arg0 = m ((c : Thread nD τ).loc main_arg0) := W3_args m ρ c main_arg0 (by simp)
  rw [e] at h
  exact (W4_arr m ρ c 3).trans h

/-- Row `p` of the selection is the row whose rank is `p`. -/
theorem selRow_eq (x0 : Vec Ideal S23040x8 .f32) (s : ℕ → EReal) (p n : ℕ) (hn : n < 23040) (h : cnt s 23040 n = p) (l : Fin 8) :
    selRow x0 (cnt s 23040) p l = if l.val = 5 ∧ 10000 ≤ p then 0 else x0 (ix2 (⟨n, hn⟩ : Fin 23040) l) := by
  have e : picked x0 (cnt s 23040) p l = x0 (ix2 (⟨n, hn⟩ : Fin 23040) l) := by
    unfold picked
    rw [sum_pick s 23040 p n hn h]
    unfold colOf
    rw [dif_pos hn]
  unfold selRow
  rw [e]
  by_cases hl : l.val = 5
  · rw [if_pos hl]
    by_cases hp : p < 10000
    · rw [ind_pos hp, mul_one, if_neg (by omega)]
    · rw [ind_neg hp, mul_zero, if_pos (by omega)]
  · rw [if_neg hl, if_neg (by omega)]

end Cert.Proof.Sel

end
-- ==== Proof.Pick.lean ====
module

public import proofs.«01_k».proof.Proof.Order
public import Idealize.ShloMosaic.Lib.SortFacts
public import Idealize.ShloMosaic.PureOps.ShapeOps

@[expose] public section

noncomputable section

namespace Cert.Proof.Sel

open Idealize.ShloMosaic
open scoped BigOperators

/-- The order of a stable sort: `before` strictly, or neither before the other and the earlier position first. -/
theorem pairwise_insert {n : ℕ} (R : Fin n → Fin n → Bool) (htr : ∀ a b c, R b a = false → R c b = false → R c a = false)
    (has : ∀ a b, R a b = true → R b a = false) (a : Fin n) (l : List (Fin n)) (ha : ∀ b ∈ l, a < b)
    (hl : l.Pairwise fun b c => R b c = true ∨ (R c b = false ∧ b < c)) :
    (insertBefore R a l).Pairwise fun b c => R b c = true ∨ (R c b = false ∧ b < c) := by
  induction l with
  | nil => exact List.pairwise_singleton _ _
  | cons b l ih =>
    unfold insertBefore
    rw [List.pairwise_cons] at hl
    split
    · rename_i hb
      rw [List.pairwise_cons]
      refine ⟨fun c hc => ?_, ih (fun b' hb' => ha b' (List.mem_cons_of_mem _ hb')) hl.2⟩
      rcases List.mem_cons.mp ((perm_insertBefore R a l).mem_iff.mp hc) with rfl | hc'
      · exact Or.inl hb
      · exact hl.1 c hc'
    · rename_i hb
      have hb' : R b a = false := by simpa using hb
      rw [List.pairwise_cons]
      refine ⟨fun c hc => ?_, List.pairwise_cons.mpr hl⟩
      refine Or.inr ⟨?_, ha c hc⟩
      rcases List.mem_cons.mp hc with rfl | hc'
      · exact hb'
      · refine htr a b c hb' ?_
        rcases hl.1 c hc' with h | h
        · exact has _ _ h
        · exact h.1

theorem pairwise_stable {n : ℕ} (R : Fin n → Fin n → Bool) (htr : ∀ a b c, R b a = false → R c b = false → R c a = false)
    (has : ∀ a b, R a b = true → R b a = false) (l : List (Fin n)) (hl : l.Pairwise (· < ·)) :
    (stableSort R l).Pairwise fun b c => R b c = true ∨ (R c b = false ∧ b < c) := by
  induction l with
  | nil => exact List.Pairwise.nil
  | cons a l ih =>
    rw [List.pairwise_cons] at hl
    unfold stableSort
    exact pairwise_insert R htr has a _ (fun b hb => hl.1 b ((perm_stableSort R l).mem_iff.mp hb)) (ih hl.2)

/-- The entry at place `k` of the stable sort, greater score first, is the number that `k` others come before. -/
theorem sorted_cnt (s : ℕ → EReal) {n : ℕ} (R : Fin n → Fin n → Bool) (hR : ∀ a b, R a b = true ↔ s b.val < s a.val) (k : Fin n) :
    cnt s n (sortedFrom R k).val = k.val := by
  have htr : ∀ a b c, R b a = false → R c b = false → R c a = false := by
    intro a b c h1 h2
    rw [Bool.eq_false_iff, ne_eq, hR] at h1 h2 ⊢
    exact not_lt.mpr (le_trans (not_lt.mp h2) (not_lt.mp h1))
  have has : ∀ a b, R a b = true → R b a = false := by
    intro a b h
    rw [hR] at h
    rw [Bool.eq_false_iff, ne_eq, hR]
    exact not_lt.mpr h.le
  have hp := List.pairwise_iff_get.mp (pairwise_stable R htr has (List.finRange n) (List.pairwise_lt_finRange n))
  have hord : ∀ i j : Fin n, i < j → beats s (sortedFrom R i).val (sortedFrom R j).val := by
    intro i j hij
    rcases hp (i.cast (length_sortPositions n R).symm) (j.cast (length_sortPositions n R).symm) hij with h | ⟨h, h'⟩
    · exact Or.inl ((hR _ _).mp h)
    · by_cases h2 : R (sortedFrom R i) (sortedFrom R j) = true
      · exact Or.inl ((hR _ _).mp h2)
      · rw [hR] at h2
        rw [Bool.eq_false_iff, ne_eq, hR] at h
        exact Or.inr ⟨le_antisymm (not_lt.mp h2) (not_lt.mp h), h'⟩
  have hmono : StrictMono fun i : Fin n => (⟨cnt s n (sortedFrom R i).val, cnt_lt (sortedFrom R i).isLt⟩ : Fin n) := fun i j hij =>
    Fin.mk_lt_mk.mpr (cnt_lt_of_beats (sortedFrom R i).isLt (hord i j hij))
  exact congrArg Fin.val (le_antisymm (hmono.apply_le (x := k)) (hmono.le_apply (x := k)))

end Cert.Proof.Sel

end
-- ==== Proof.RefVals.lean ====
module

public import proofs.«01_k».proof.Proof.Gen.ReferenceIdeal.Run
public import proofs.«01_k».proof.Proof.Pick
public import proofs.«01_k».proof.Proof.Score
public import Idealize.ShloMosaic.Lib.Routing.Ops
public import Idealize.ShloMosaic.Lib.ValueLayout

@[expose] public section

set_option maxRecDepth 16384

noncomputable section

namespace Cert.Proof.Sel

open Cert.ReferenceIdeal Cert.ReferenceIdeal.Gen
open Idealize.ShloMosaic Idealize.ShloMosaic.TcCoe

/-- The positions a one-axis top-k gives, by the stable sort of the positions. -/
theorem topK_position {α : Type} {N K : ℕ} (gt : α → α → BitVec 1) (x : (Routing.shape1 N).Idx → α)
    (h : (Routing.shape1 N).Slices (fun _ => 0) (Routing.shape1 K)) (p : Fin K) (hp : p.val < N) :
    (Host.topK (Routing.shape1 K) 0 gt x h).2 (ix1 p)
      = BitVec.ofNat 32 (sortedFrom (fun k k' : Fin N => gt (x (ix1 k)) (x (ix1 k')) == 1#1) ⟨p.val, hp⟩).val := by
  have ea : ∀ (j : (Routing.shape1 N).Idx) (k : Fin N), j.along (0 : Fin 1) k = ix1 k := by
    intro j k
    funext a
    obtain rfl : a = (0 : Fin 1) := Subsingleton.elim (α := Fin 1) _ _
    exact Function.update_self _ _ _
  have ej : (⟨0 + p.val, by omega⟩ : Fin N) = ⟨p.val, hp⟩ := Fin.ext (Nat.zero_add _)
  show BitVec.ofNat 32 (((_ : (Routing.shape1 N).Idx).along (0 : Fin 1) (sortedFrom (fun k k' : Fin N =>
    gt (x ((_ : (Routing.shape1 N).Idx).along (0 : Fin 1) k)) (x ((_ : (Routing.shape1 N).Idx).along (0 : Fin 1) k')) == 1#1) (⟨0 + p.val, by omega⟩ : Fin N))) (0 : Fin 1)).val = _
  simp only [ea, ej]
  rfl

/-- The reference's scores. -/
def refScore (cls : FVec Ideal S22500 .f32) : FVec Ideal S22500 .f32 :=
  Host.divf (F := Ideal) (broadcastInDim S22500 ![] bcast_S_S22500 (constant S_ .f32 0x3F800000#32))
    (addf (broadcastInDim S22500 ![] bcast_S_S22500 (constant S_ .f32 0x3F800000#32)) (Host.exp (Host.negf cls)))

theorem refScore_apply (cls : FVec Ideal S22500 .f32) (k : Fin 22500) : refScore cls (ix1 k) = score cls k.val := by
  unfold score
  rw [dif_pos k.isLt]
  show Ideal.div (Ideal.ofBits .f32 0x3F800000#32) (Ideal.ofBits .f32 0x3F800000#32 + Ideal.exp (-_)) = _
  rw [Ideal.ofBits_one_f32]
  rfl

/-- The positions of the reference's highest scores. -/
def refIdx (cls : FVec Ideal S22500 .f32) : IVec S10240 32 :=
  (Host.topK S10240 0 (FloatOps.cmpfTotal .gt) (refScore cls) sliceFits_S22500_S10240).2

/-- Position `p` names the score of rank `p`. -/
theorem refIdx_apply (cls : FVec Ideal S22500 .f32) (p : Fin 10240) :
    ∃ n : Fin 22500, refIdx cls (ix1 p) = BitVec.ofNat 32 n.val ∧ cnt (score cls) 22500 n.val = p.val := by
  have hp : p.val < 22500 := by omega
  refine ⟨sortedFrom (fun k k' : Fin 22500 => Ideal.cmpTotal .gt (refScore cls (ix1 k)) (refScore cls (ix1 k')) == 1#1) ⟨p.val, hp⟩,
    topK_position (N := 22500) (K := 10240) (Ideal.cmpTotal .gt) (refScore cls) sliceFits_S22500_S10240 p hp,
    sorted_cnt (score cls) _ (fun a b => ?_) ⟨p.val, hp⟩⟩
  show (BitVec.ofBool (decide (refScore cls (ix1 b) < refScore cls (ix1 a))) == 1#1) = true ↔ _
  rw [refScore_apply, refScore_apply]
  by_cases h : score cls b.val < score cls a.val <;> simp [h]

theorem toInt_small (n : ℕ) (h : n < 2147483648) : (BitVec.ofNat 32 n).toInt = (n : Int) := by
  rw [BitVec.toInt_eq_toNat_of_lt, BitVec.toNat_ofNat, Nat.mod_eq_of_lt (by omega)]
  rw [BitVec.toNat_ofNat, Nat.mod_eq_of_lt (by omega)]
  omega

/-- The reference's result. -/
def refRows (x0 : FVec Ideal S23040x8 .f32) (cls : FVec Ideal S22500 .f32) : FVec Ideal S10240x8 .f32 :=
  select (andi (cmpi .eq (iotaInDim S10240x8 32 1) (broadcastInDim S10240x8 ![] bcast_S_S10240x8 (constantI S_ 32 5#32))) (cmpi .sge (iotaInDim S10240x8 32 0) (broadcastInDim S10240x8 ![] bcast_S_S10240x8 (constantI S_ 32 10000#32))))
    (broadcastInDim S10240x8 ![] bcast_S_S10240x8 (id (constant S_ .f32 0x00000000#32)))
    (Host.gather gather_S23040x8_S10240x1_S10240x8_1_0_n_n_0_1_18 x0 (broadcastInDim S10240x1 ![0] bcast_S10240_S10240x1_0
      (select (cmpi .slt (refIdx cls) (broadcastInDim S10240 ![] bcast_S_S10240 (constantI S_ 32 0#32)))
        (addi (refIdx cls) (broadcastInDim S10240 ![] bcast_S_S10240 (constantI S_ 32 23040#32))) (refIdx cls))))

/-- Row `p` of the reference's result: the payload row whose score has rank `p`, its sixth entry cleared past the ten thousandth row. -/
theorem refRows_apply (x0 : FVec Ideal S23040x8 .f32) (cls : FVec Ideal S22500 .f32) (p : Fin 10240) (l : Fin 8) :
    ∃ n : Fin 22500, cnt (score cls) 23040 n.val = p.val
      ∧ refRows x0 cls (ix2 p l) = if l.val = 5 ∧ 10000 ≤ p.val then 0 else x0 (ix2 (⟨n.val, by omega⟩ : Fin 23040) l) := by
  obtain ⟨n, hn, hc⟩ := refIdx_apply cls p
  refine ⟨n, (score_pad cls n.isLt).trans hc, ?_⟩
  have hg : Host.gather gather_S23040x8_S10240x1_S10240x8_1_0_n_n_0_1_18 x0 (broadcastInDim S10240x1 ![0] bcast_S10240_S10240x1_0
      (select (cmpi .slt (refIdx cls) (broadcastInDim S10240 ![] bcast_S_S10240 (constantI S_ 32 0#32)))
        (addi (refIdx cls) (broadcastInDim S10240 ![] bcast_S_S10240 (constantI S_ 32 23040#32))) (refIdx cls))) (ix2 p l)
      = x0 (ix2 (⟨n.val, by omega⟩ : Fin 23040) l) := by
    refine Routing.gather_row gather_S23040x8_S10240x1_S10240x8_1_0_n_n_0_1_18 rfl rfl rfl rfl rfl x0 _ p l _ ?_ (by norm_num)
    have e : ∀ w : IVec S10240 32, broadcastInDim S10240x1 ![0] bcast_S10240_S10240x1_0 w (ix2 p (0 : Fin 1)) = w (ix1 p) := by
      intro w
      refine congrArg w (funext fun a => ?_)
      obtain rfl : a = (0 : Fin 1) := Subsingleton.elim (α := Fin 1) _ _
      rfl
    refine (e _).trans ?_
    show (if IntOp.cmpi .slt (refIdx cls (ix1 p)) 0#32 = 1 then refIdx cls (ix1 p) + 23040#32 else refIdx cls (ix1 p)) = _
    rw [hn, if_neg]
    show ¬ BitVec.ofBool ((BitVec.ofNat 32 n.val).slt 0#32) = 1
    rw [BitVec.slt_eq_decide, toInt_small n.val (by omega), decide_eq_false (by simp)]
    decide
  show (if IntOp.andi (IntOp.cmpi .eq (BitVec.ofNat 32 l.val) 5#32) (IntOp.cmpi .sge (BitVec.ofNat 32 p.val) 10000#32) = 1
    then Ideal.ofBits .f32 0x00000000#32 else _) = _
  rw [hg, Ideal.ofBits_zero_f32]
  have h5 : IntOp.cmpi .eq (BitVec.ofNat 32 l.val) 5#32 = BitVec.ofBool (decide (l.val = 5)) := by
    clear hg
    revert l
    decide
  have hp : IntOp.cmpi .sge (BitVec.ofNat 32 p.val) 10000#32 = BitVec.ofBool (decide (10000 ≤ p.val)) := by
    show BitVec.ofBool ((10000#32).sle (BitVec.ofNat 32 p.val)) = _
    rw [BitVec.sle_eq_decide, toInt_small p.val (by omega)]
    have : (10000#32 : BitVec 32).toInt = 10000 := by decide
    rw [this]
    exact congrArg BitVec.ofBool (decide_eq_decide.2 ⟨fun h => by omega, fun h => by omega⟩)
  rw [h5, hp]
  by_cases a : l.val = 5 <;> by_cases b : 10000 ≤ p.val <;> simp [a, b, IntOp.andi]

end Cert.Proof.Sel

end
-- ==== Proof.Same.lean ====
module

public import proofs.«01_k».proof.Defs
public import proofs.«01_k».proof.Proof.Gen.Kernel
public import proofs.«01_k».proof.Proof.Gen.KernelIdeal

@[expose] public section

noncomputable section

namespace Cert.Proof.Sel

open Idealize.ShloMosaic Idealize.ShloMosaic.TcCoe Idealize.SL.Sem

variable {F : FTy → Type} [FloatOps F]

/-- The two programs' kernel bodies are the same text. -/
theorem defs_same : Kernel.defs₀ (F := F) = KernelIdeal.defs₀ (F := F) := by
  unfold Kernel.defs₀ KernelIdeal.defs₀
  refine congrArg Defs.onTc (funext fun l => ?_)
  match l with
  | 0 => exact funext fun ⟨t, s⟩ => rfl
  | 1 => exact funext fun ⟨t, s⟩ => rfl

set_option maxHeartbeats 4000000 in
/-- So are their host programs. -/
theorem main_same : Kernel.main (F := F) = KernelIdeal.main (F := F) := by
  funext c
  unfold Kernel.main KernelIdeal.main
  repeat' (first | rfl | refine congr (congrArg _ ?_) ?_ | refine funext fun _ => ?_)

/-- What holds of every run of the one holds of every run of the other. -/
theorem run_same (m : (ℓ : Loc Kernel.nD Kernel.τ Kernel.sig) → Buf (Elt F) ℓ) (ρ : Dev Kernel.nD → PrngReg) (P : _ → Prop)
    (h : θ_run (KernelIdeal.defs (F := F)) (onTc (τ := KernelIdeal.τ) (KernelIdeal.main (F := F))) ⟨m, fun _ => 0, ρ⟩ P) :
    θ_run (Kernel.defs (F := F)) (onTc (τ := Kernel.τ) (Kernel.main (F := F))) ⟨m, fun _ => 0, ρ⟩ P := by
  unfold Kernel.defs
  rw [defs_same, main_same]
  exact h

end Cert.Proof.Sel

end
-- ==== Proof.HeadsForm.lean ====
module

public import Idealize.ShloMosaic.PureOps.Ideal
public import Idealize.ShloMosaic.Lib.ValueIdx

@[expose] public section

set_option maxRecDepth 16384

noncomputable section

namespace Cert.Proof.Heads

open Idealize.ShloMosaic Idealize.ShloMosaic.ValueIdx
open scoped BigOperators

/-- Nine terms added in the order the taps are visited, starting from zero. -/
def nine (g : Fin 3 → Fin 3 → EReal) : EReal :=
  0 + g 0 0 + g 0 1 + g 0 2 + g 1 0 + g 1 1 + g 1 2 + g 2 0 + g 2 1 + g 2 2

theorem nine_congr {g g' : Fin 3 → Fin 3 → EReal} (h : ∀ dy dx, g dy dx = g' dy dx) : nine g = nine g' := by
  unfold nine
  simp only [h]

/-- One product of a row of `512` features with a column of `512` weights. -/
def prod (x w : Fin 512 → EReal) : EReal := ∑ k : Fin 512, x k * w k

theorem prod_comm (x w : Fin 512 → EReal) : prod x w = ∑ k : Fin 512, w k * x k :=
  Finset.sum_congr rfl fun _ _ => mul_comm _ _

/-- One channel of the shared convolution at one pixel: the nine products, the bias, and the ramp. -/
def hidden (g : Fin 3 → Fin 3 → EReal) (b : EReal) : EReal := max (nine g + b) 0

/-- The feature map with a border of zeros. -/
def bordered (feat : Vec Ideal ⟨4, ![1, 512, 50, 50]⟩ .f32) (ch : Fin 512) (Y X : ℕ) : EReal :=
  if h : (1 ≤ Y ∧ Y ≤ 50) ∧ (1 ≤ X ∧ X ≤ 50) then feat (ix4 (0 : Fin 1) ch (⟨Y - 1, by omega⟩ : Fin 50) (⟨X - 1, by omega⟩ : Fin 50)) else 0

/-- The hidden channel `h` at pixel `(y, x)`. -/
def hiddenAt (feat : Vec Ideal ⟨4, ![1, 512, 50, 50]⟩ .f32) (w : Vec Ideal ⟨4, ![512, 512, 3, 3]⟩ .f32) (b : Vec Ideal ⟨1, ![512]⟩ .f32)
    (y x : ℕ) (h : Fin 512) : EReal :=
  hidden (fun dy dx => prod (fun k => bordered feat k (y + dy.val) (x + dx.val)) (fun k => w (ix4 h k dy dx))) (b (ix1 h))

/-- Class scores: anchor `a` of pixel `(y, x)`. -/
def clsAt (feat : Vec Ideal ⟨4, ![1, 512, 50, 50]⟩ .f32) (w : Vec Ideal ⟨4, ![512, 512, 3, 3]⟩ .f32) (b : Vec Ideal ⟨1, ![512]⟩ .f32)
    (v : Vec Ideal ⟨4, ![9, 512, 1, 1]⟩ .f32) (d : Vec Ideal ⟨1, ![9]⟩ .f32) (y x : ℕ) (a : Fin 9) : EReal :=
  prod (fun h => hiddenAt feat w b y x h) (fun h => v (ix4 a h (0 : Fin 1) (0 : Fin 1))) + d (ix1 a)

/-- Box shifts: entry `b` of pixel `(y, x)`. -/
def regAt (feat : Vec Ideal ⟨4, ![1, 512, 50, 50]⟩ .f32) (w : Vec Ideal ⟨4, ![512, 512, 3, 3]⟩ .f32) (b : Vec Ideal ⟨1, ![512]⟩ .f32)
    (v : Vec Ideal ⟨4, ![36, 512, 1, 1]⟩ .f32) (d : Vec Ideal ⟨1, ![36]⟩ .f32) (y x : ℕ) (a : Fin 36) : EReal :=
  prod (fun h => hiddenAt feat w b y x h) (fun h => v (ix4 a h (0 : Fin 1) (0 : Fin 1))) + d (ix1 a)

/-- Every class score, in the order of the first result. -/
def clsAll (feat : Vec Ideal ⟨4, ![1, 512, 50, 50]⟩ .f32) (w : Vec Ideal ⟨4, ![512, 512, 3, 3]⟩ .f32) (b : Vec Ideal ⟨1, ![512]⟩ .f32)
    (v : Vec Ideal ⟨4, ![9, 512, 1, 1]⟩ .f32) (d : Vec Ideal ⟨1, ![9]⟩ .f32) : Vec Ideal ⟨1, ![22500]⟩ .f32 :=
  fun j => clsAt feat w b v d ((j 0).val / 9 / 50) ((j 0).val / 9 % 50) (⟨(j 0).val % 9, Nat.mod_lt _ (by decide)⟩ : Fin 9)

/-- Every box shift, in the order of the second result. -/
def regAll (feat : Vec Ideal ⟨4, ![1, 512, 50, 50]⟩ .f32) (w : Vec Ideal ⟨4, ![512, 512, 3, 3]⟩ .f32) (b : Vec Ideal ⟨1, ![512]⟩ .f32)
    (v : Vec Ideal ⟨4, ![36, 512, 1, 1]⟩ .f32) (d : Vec Ideal ⟨1, ![36]⟩ .f32) : Vec Ideal ⟨2, ![22500, 4]⟩ .f32 :=
  fun j => regAt feat w b v d ((4 * (j 0).val + (j 1).val) / 36 / 50) ((4 * (j 0).val + (j 1).val) / 36 % 50)
    (⟨(4 * (j 0).val + (j 1).val) % 36, Nat.mod_lt _ (by decide)⟩ : Fin 36)

end Cert.Proof.Heads

end
-- ==== Proof.HeadsBlock.lean ====
module

public import proofs.«01_k».proof.Proof.Gen.HeadsIdeal.Frame
public import proofs.«01_k».proof.Proof.HeadsForm
public import Idealize.ShloMosaic.Lib.Pointwise
public import Idealize.ShloMosaic.Lib.Pipeline.ValueKit

@[expose] public section

set_option maxRecDepth 16384

noncomputable section

namespace Cert.Proof.Heads

open Cert.HeadsIdeal Cert.HeadsIdeal.Gen
open Idealize.ShloMosaic Idealize.ShloMosaic.TcCoe Idealize.ShloMosaic.Tactic
open scoped BigOperators

theorem pay2_apply (xa xb xc : Vec Ideal S128x512 .f32) (wa wb wc : Vec Ideal S1x512x512 .f32) (p : Fin 128) (h : Fin 512) :
    k0_pay2 xa wa xb wb xc wc (ix2 p h)
      = 0 + prod (fun k => xa (ix2 p k)) (fun k => wa (ix3 (0 : Fin 1) k h)) + prod (fun k => xb (ix2 p k)) (fun k => wb (ix3 (0 : Fin 1) k h))
        + prod (fun k => xc (ix2 p k)) (fun k => wc (ix3 (0 : Fin 1) k h)) := by
  pointwise [k0_pay2, prod]

theorem pay3_apply (x : Vec Ideal S128x512 .f32) (w : Vec Ideal S1x512x512 .f32) (p : Fin 128) (h : Fin 512) :
    k0_pay3 x w (ix2 p h) = prod (fun k => x (ix2 p k)) (fun k => w (ix3 (0 : Fin 1) k h)) := by
  pointwise [k0_pay3, prod]

theorem pay4_apply (a b : FVec Ideal S128x512 .f32) (xa xb xc xd : Vec Ideal S128x512 .f32) (wa wb wc wd : Vec Ideal S1x512x512 .f32) (p : Fin 128) (h : Fin 512) :
    k0_pay4 a b xa wa xb wb xc wc xd wd (ix2 p h)
      = a (ix2 p h) + b (ix2 p h) + prod (fun k => xa (ix2 p k)) (fun k => wa (ix3 (0 : Fin 1) k h)) + prod (fun k => xb (ix2 p k)) (fun k => wb (ix3 (0 : Fin 1) k h))
        + prod (fun k => xc (ix2 p k)) (fun k => wc (ix3 (0 : Fin 1) k h)) + prod (fun k => xd (ix2 p k)) (fun k => wd (ix3 (0 : Fin 1) k h)) := by
  pointwise [k0_pay4, prod]

theorem pay1_apply (a : FVec Ideal S128x512 .f32) (x : Vec Ideal S128x512 .f32) (w : Vec Ideal S1x512x512 .f32) (b : Vec Ideal S1x512 .f32)
    (wh : Vec Ideal S512x128 .f32) (bh : Vec Ideal S1x128 .f32) (p o : Fin 128) :
    k0_pay1 a x w b wh bh (ix2 p o)
      = prod (fun h => max (a (ix2 p h) + prod (fun k => x (ix2 p k)) (fun k => w (ix3 (0 : Fin 1) k h)) + b (ix2 (0 : Fin 1) h)) 0) (fun h => wh (ix2 h o))
        + bh (ix2 (0 : Fin 1) o) := by
  pointwise [k0_pay1, prod]

section
variable (c : Dev nD) (i : grid0.Coords) (arg1 : Memref sig .tc .vmem S2944x512 .f32) (harg1 : arg1.IsWhole) (arg2 : Memref sig .tc .vmem S2944x512 .f32) (harg2 : arg2.IsWhole) (arg3 : Memref sig .tc .vmem S2944x512 .f32) (harg3 : arg3.IsWhole) (arg4 : Memref sig .tc .vmem S9x512x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S128x128 .f32) (harg8 : arg8.IsWhole)
    (x0 x1 x2 : Vec Ideal S2944x512 .f32) (x3 : Vec Ideal S9x512x512 .f32) (x4 : Vec Ideal S1x512 .f32) (x5 : Vec Ideal S512x128 .f32) (x6 : Vec Ideal S1x128 .f32)

/-- The rows a tap reads: `128` rows from row `128 i + 56 dy`. -/
theorem read_rows (arg : Memref sig .tc .vmem S2944x512 .f32) (harg : arg.IsWhole) (x : Vec Ideal S2944x512 .f32) (dy : Fin 3)
    (off : Fin 2 → ℕ) (hoff : off = ![128 * (i 0).val + 56 * dy.val, 0]) (inb) (p : Fin 128) (k : Fin 512) (hr : 128 * (i 0).val + p.val + 56 * dy.val < 2944) :
    arg.view.readAt (Elt Ideal) (Rect.unit (s := S2944x512) off S128x512.size inb).toLoadRect (harg.unread x) (ix2 p k)
      = x (ix2 (⟨128 * (i 0).val + p.val + 56 * dy.val, hr⟩ : Fin 2944) k) := by
  subst hoff
  rw [View.readAt_eq_ld, Memref.IsWhole.read_unread]
  refine View.ld_unit_apply_of x _ S128x512.size _ _ _ ?_
  intro a
  fin_cases a <;> simp [ix2]
  omega

/-- The weights a tap reads. -/
theorem read_tap (t : Fin 9) (off : Fin 3 → ℕ) (hoff : off = ![t.val, 0, 0]) (inb) (k h : Fin 512) :
    arg4.view.readAt (Elt Ideal) (Rect.unit (s := S9x512x512) off S1x512x512.size inb).toLoadRect (harg4.unread x3) (ix3 (0 : Fin 1) k h)
      = x3 (ix3 t k h) := by
  subst hoff
  rw [View.readAt_eq_ld, Memref.IsWhole.read_unread]
  refine View.ld_unit_apply_of x3 _ S1x512x512.size _ _ _ ?_
  intro a
  fin_cases a <;> simp [ix3]

theorem read_all {s : Shape} (arg : Memref sig .tc .vmem s .f32) (harg : arg.IsWhole) (x : Vec Ideal s .f32) (off : Fin s.rank → ℕ) (hoff : off = fun _ => 0) (inb) (y : s.Idx) :
    arg.view.readAt (Elt Ideal) (Rect.unit (s := s) off s.size inb).toLoadRect (harg.unread x) y = x y := by
  subst hoff
  rw [View.readAt_eq_ld, Memref.IsWhole.read_unread]
  refine View.ld_unit_apply_of x _ s.size _ _ _ ?_
  intro a
  simp

/-- The rows of the three shifted copies. -/
def shifted (x0 x1 x2 : Vec Ideal S2944x512 .f32) (dx : Fin 3) : Vec Ideal S2944x512 .f32 := ![x0, x1, x2] dx

/-- One hidden channel of row `r`. -/
def hiddenRow (r : ℕ) (hr : r < 2816) (h : Fin 512) : EReal :=
  hidden (fun dy dx => prod (fun k => shifted x0 x1 x2 dx (ix2 (⟨r + 56 * dy.val, by omega⟩ : Fin 2944) k))
    (fun k => x3 (ix3 (⟨3 * dy.val + dx.val, by omega⟩ : Fin 9) k h))) (x4 (ix2 (0 : Fin 1) h))

/-- The block that grid point `i` stores. -/
theorem out_eq (p o : Fin 128) (hr : 128 * (i 0).val + p.val < 2816) :
    out0_A_7 c i arg1 harg1 arg2 harg2 arg3 harg3 arg4 harg4 arg5 harg5 arg6 harg6 arg7 harg7 arg8 harg8 x0 x1 x2 x3 x4 x5 x6 (ix2 p o)
      = prod (hiddenRow x0 x1 x2 x3 x4 (128 * (i 0).val + p.val) hr) (fun h => x5 (ix2 h o)) + x6 (ix2 (0 : Fin 1) o) := by
  have R0 := fun (arg : Memref sig .tc .vmem S2944x512 .f32) (harg : arg.IsWhole) (x : Vec Ideal S2944x512 .f32) (inb) (k : Fin 512) =>
    read_rows i arg harg x 0 (k0_off1 i 0#32) (k0_off1_eq i 0) inb p k (by simp; omega)
  have R1 := fun (arg : Memref sig .tc .vmem S2944x512 .f32) (harg : arg.IsWhole) (x : Vec Ideal S2944x512 .f32) (inb) (k : Fin 512) =>
    read_rows i arg harg x 1 (k0_off1 i 56#32) (k0_off1_eq i 1) inb p k (by simp; omega)
  have R2 := fun (arg : Memref sig .tc .vmem S2944x512 .f32) (harg : arg.IsWhole) (x : Vec Ideal S2944x512 .f32) (inb) (k : Fin 512) =>
    read_rows i arg harg x 2 (k0_off1 i 112#32) (k0_off1_eq i 2) inb p k (by simp; omega)
  have T := fun (t : Fin 9) (inb) (k h : Fin 512) => read_tap arg4 harg4 x3 t ![t.val, 0, 0] rfl inb k h
  have e7 := read_all arg7 harg7 x6 ![0, 0] (by funext a; fin_cases a <;> rfl) inb_S1x128_S1x128_0_0
  have e6 := read_all arg6 harg6 x5 ![0, 0] (by funext a; fin_cases a <;> rfl) inb_S512x128_S512x128_0_0
  have e5 := read_all arg5 harg5 x4 ![0, 0] (by funext a; fin_cases a <;> rfl) inb_S1x512_S1x512_0_0
  unfold out0_A_7
  rw [View.read_writes_junk_eq_canon]
  unfold kernelRun0_A
  dsimp only
  rw [View.canon_unit_zero (by funext a; fin_cases a <;> rfl)]
  refine (pay1_apply _ _ _ _ _ _ p o).trans ?_
  refine congrArg₂ (· + ·) (congrArg₂ prod (funext fun h => ?_) (funext fun h => e6 _)) (e7 _)
  unfold hiddenRow hidden
  refine congrArg (max · 0) (congrArg₂ (· + ·) ?_ (e5 _))
  unfold nine
  refine congrArg₂ (· + ·) ?_ (congrArg₂ prod (funext fun k => R2 _ _ _ _ k) (funext fun k => T 8 _ k h))
  unfold kernelRun0_A.sl.r_2
  refine (pay4_apply _ _ _ _ _ _ _ _ _ _ p h).trans ?_
  refine congrArg₂ (· + ·) (congrArg₂ (· + ·) (congrArg₂ (· + ·) (congrArg₂ (· + ·) (congrArg₂ (· + ·) ?_ ?_) ?_) ?_) ?_) ?_
  · unfold kernelRun0_A.sl.r
    refine (pay2_apply _ _ _ _ _ _ p h).trans ?_
    refine congrArg₂ (· + ·) (congrArg₂ (· + ·) (congrArg (0 + ·) ?_) ?_) ?_
    · exact congrArg₂ prod (funext fun k => R0 _ _ _ _ k) (funext fun k => T 0 _ k h)
    · exact congrArg₂ prod (funext fun k => R0 _ _ _ _ k) (funext fun k => T 1 _ k h)
    · exact congrArg₂ prod (funext fun k => R0 _ _ _ _ k) (funext fun k => T 2 _ k h)
  · unfold kernelRun0_A.sl.r_1
    refine (pay3_apply _ _ p h).trans ?_
    exact congrArg₂ prod (funext fun k => R1 _ _ _ _ k) (funext fun k => T 3 _ k h)
  · exact congrArg₂ prod (funext fun k => R1 _ _ _ _ k) (funext fun k => T 4 _ k h)
  · exact congrArg₂ prod (funext fun k => R1 _ _ _ _ k) (funext fun k => T 5 _ k h)
  · exact congrArg₂ prod (funext fun k => R2 _ _ _ _ k) (funext fun k => T 6 _ k h)
  · exact congrArg₂ prod (funext fun k => R2 _ _ _ _ k) (funext fun k => T 7 _ k h)
end

end Cert.Proof.Heads

end
-- ==== Proof.HeadsArray.lean ====
module

public import proofs.«01_k».proof.Proof.HeadsBlock
public import Idealize.ShloMosaic.Lib.Claim

@[expose] public section

set_option maxRecDepth 16384

noncomputable section

namespace Cert.Proof.Heads

open Cert.HeadsIdeal Cert.HeadsIdeal.Gen
open Idealize.ShloMosaic Idealize.ShloMosaic.TcCoe Idealize.ShloMosaic.Tactic
open scoped BigOperators

/-! The block each window shows at a grid point. -/

theorem index0_0 : ∀ t : Fin cfg0.N, win0_0.index t = ![0, 0] := (by decide +kernel : ∀ t : Fin grid0.N, win0_0.index t = ![0, 0])
theorem index0_1 : ∀ t : Fin cfg0.N, win0_1.index t = ![0, 0] := (by decide +kernel : ∀ t : Fin grid0.N, win0_1.index t = ![0, 0])
theorem index0_2 : ∀ t : Fin cfg0.N, win0_2.index t = ![0, 0] := (by decide +kernel : ∀ t : Fin grid0.N, win0_2.index t = ![0, 0])
theorem index0_3 : ∀ t : Fin cfg0.N, win0_3.index t = ![0, 0, 0] := (by decide +kernel : ∀ t : Fin grid0.N, win0_3.index t = ![0, 0, 0])
theorem index0_4 : ∀ t : Fin cfg0.N, win0_4.index t = ![0, 0] := (by decide +kernel : ∀ t : Fin grid0.N, win0_4.index t = ![0, 0])
theorem index0_5 : ∀ t : Fin cfg0.N, win0_5.index t = ![0, 0] := (by decide +kernel : ∀ t : Fin grid0.N, win0_5.index t = ![0, 0])
theorem index0_6 : ∀ t : Fin cfg0.N, win0_6.index t = ![0, 0] := (by decide +kernel : ∀ t : Fin grid0.N, win0_6.index t = ![0, 0])
theorem index0_7 : ∀ t : Fin cfg0.N, win0_7.index t = ![(grid0.coords t 0).val, 0] := (by decide +kernel : ∀ t : Fin grid0.N, win0_7.index t = ![(grid0.coords t 0).val, 0])

variable (m : (ℓ : Loc nD τ sig) → Buf (Elt Ideal) ℓ) (c : Dev nD)

/-! The input windows hold their arrays whole. -/

theorem blk_0 (t : Fin cfg0.N) (x : Buf (Elt Ideal) ((c : Thread nD τ).loc (Pipeline.arrRef spec0 0))) (y : S2944x512.Idx) :
    ((cfg0.win 0).blk t).view.read (Elt Ideal) x y = (x : Vec Ideal S2944x512 .f32) y := by
  blk_ext [index0_0 t]
theorem blk_1 (t : Fin cfg0.N) (x : Buf (Elt Ideal) ((c : Thread nD τ).loc (Pipeline.arrRef spec0 1))) (y : S2944x512.Idx) :
    ((cfg0.win 1).blk t).view.read (Elt Ideal) x y = (x : Vec Ideal S2944x512 .f32) y := by
  blk_ext [index0_1 t]
theorem blk_2 (t : Fin cfg0.N) (x : Buf (Elt Ideal) ((c : Thread nD τ).loc (Pipeline.arrRef spec0 2))) (y : S2944x512.Idx) :
    ((cfg0.win 2).blk t).view.read (Elt Ideal) x y = (x : Vec Ideal S2944x512 .f32) y := by
  blk_ext [index0_2 t]
theorem blk_3 (t : Fin cfg0.N) (x : Buf (Elt Ideal) ((c : Thread nD τ).loc (Pipeline.arrRef spec0 3))) (y : S9x512x512.Idx) :
    ((cfg0.win 3).blk t).view.read (Elt Ideal) x y = (x : Vec Ideal S9x512x512 .f32) y := by
  blk_ext [index0_3 t]
theorem blk_4 (t : Fin cfg0.N) (x : Buf (Elt Ideal) ((c : Thread nD τ).loc (Pipeline.arrRef spec0 4))) (y : S1x512.Idx) :
    ((cfg0.win 4).blk t).view.read (Elt Ideal) x y = (x : Vec Ideal S1x512 .f32) y := by
  blk_ext [index0_4 t]
theorem blk_5 (t : Fin cfg0.N) (x : Buf (Elt Ideal) ((c : Thread nD τ).loc (Pipeline.arrRef spec0 5))) (y : S512x128.Idx) :
    ((cfg0.win 5).blk t).view.read (Elt Ideal) x y = (x : Vec Ideal S512x128 .f32) y := by
  blk_ext [index0_5 t]
theorem blk_6 (t : Fin cfg0.N) (x : Buf (Elt Ideal) ((c : Thread nD τ).loc (Pipeline.arrRef spec0 6))) (y : S1x128.Idx) :
    ((cfg0.win 6).blk t).view.read (Elt Ideal) x y = (x : Vec Ideal S1x128 .f32) y := by
  blk_ext [index0_6 t]

theorem iblk_0 (t : Fin cfg0.N) : iblk m c 0 t = V m c (Pipeline.arrRef spec0 0) := funext fun y => blk_0 c t _ y
theorem iblk_1 (t : Fin cfg0.N) : iblk m c 1 t = V m c (Pipeline.arrRef spec0 1) := funext fun y => blk_1 c t _ y
theorem iblk_2 (t : Fin cfg0.N) : iblk m c 2 t = V m c (Pipeline.arrRef spec0 2) := funext fun y => blk_2 c t _ y
theorem iblk_3 (t : Fin cfg0.N) : iblk m c 3 t = V m c (Pipeline.arrRef spec0 3) := funext fun y => blk_3 c t _ y
theorem iblk_4 (t : Fin cfg0.N) : iblk m c 4 t = V m c (Pipeline.arrRef spec0 4) := funext fun y => blk_4 c t _ y
theorem iblk_5 (t : Fin cfg0.N) : iblk m c 5 t = V m c (Pipeline.arrRef spec0 5) := funext fun y => blk_5 c t _ y
theorem iblk_6 (t : Fin cfg0.N) : iblk m c 6 t = V m c (Pipeline.arrRef spec0 6) := funext fun y => blk_6 c t _ y

/-- The region's array: both heads' rows, from the arrays the host lays out. -/
def headRows (x0 x1 x2 : Vec Ideal S2944x512 .f32) (x3 : Vec Ideal S9x512x512 .f32) (x4 : Vec Ideal S1x512 .f32) (x5 : Vec Ideal S512x128 .f32) (x6 : Vec Ideal S1x128 .f32) :
    Vec Ideal S2816x128 .f32 :=
  fun j => prod (hiddenRow x0 x1 x2 x3 x4 (j 0).val (j 0).isLt) (fun h => x5 (ix2 h (j 1))) + x6 (ix2 (0 : Fin 1) (j 1))

theorem block_rows (t : Fin cfg0.N) (p o : Fin 128) (hr : 128 * (grid0.coords t 0).val + p.val < 2816) :
    outsAt0 m c t (ix2 p o)
      = headRows (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6))
          (ix2 (⟨128 * (grid0.coords t 0).val + p.val, hr⟩ : Fin 2816) o) := by
  unfold outsAt0
  refine (out_eq c (grid0.coords t) _ _ _ _ _ _ _ _ _ _ _ _ _ _ _ _ _ _ _ _ _ _ _ p o hr).trans ?_
  rw [iblk_0, iblk_1, iblk_2, iblk_3, iblk_4, iblk_5, iblk_6]
  rfl

theorem heads_arr : (dats m 0 c).arrAt 7 cfg0.N
    = headRows (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) := by
  have h := block_rows m c
  generalize headRows (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) = G at h ⊢
  refine (dats m 0 c).arrAt_eq_of_covers 7 _ (by decide +kernel) fun t hf (y : S128x128.Idx) => ?_
  have hy0 : (y 0).val < 128 := (y 0).isLt
  have ht : (grid0.coords t 0).val < 22 := (grid0.coords t 0).isLt
  have hr : 128 * (grid0.coords t 0).val + (y 0).val < 2816 := by omega
  have e1 : (((cfg0.win 7).blk t).view.emb y) 1 = y 1 := by
    apply Fin.ext; blk_simp [index0_7 t]
  have e0 : (((cfg0.win 7).blk t).view.emb y) 0 = (⟨128 * (grid0.coords t 0).val + (y 0).val, hr⟩ : Fin 2816) := by
    apply Fin.ext; blk_simp [index0_7 t]; simp [mul_comm]
  have hy : y = (ix2 (y 0) (y 1) : S128x128.Idx) := by
    funext a; fin_cases a <;> rfl
  have h' := h t (y 0) (y 1) hr
  rw [← after0_7] at h'
  have e : ((cfg0.win 7).blk t).view.emb y = (ix2 (⟨128 * (grid0.coords t 0).val + (y 0).val, hr⟩ : Fin 2816) (y 1) : S2816x128.Idx) := by
    funext a
    match a with
    | ⟨0, _⟩ => exact e0
    | ⟨1, _⟩ => exact e1
  refine Eq.trans ?_ (h'.trans ?_)
  · rw [hy]; rfl
  · rw [e]

end Cert.Proof.Heads

end
-- ==== Proof.HeadsScatter.lean ====
module

public import proofs.«01_k».proof.Proof.HeadsArray
public import Idealize.ShloMosaic.Lib.Claim
public import Idealize.ShloMosaic.Lib.Routing.OpsOne
public import Idealize.ShloMosaic.Lib.Routing.OpsPair
public import Idealize.ShloMosaic.Lib.ValueLayout
public import Idealize.ShloMosaic.Lib.IdealHost

@[expose] public section

set_option maxRecDepth 16384

noncomputable section

namespace Cert.Proof.Heads

open Cert.HeadsIdeal Cert.HeadsIdeal.Gen
open Idealize.ShloMosaic Idealize.ShloMosaic.TcCoe Idealize.ShloMosaic.Tactic
open scoped BigOperators

/-! ## An array overwritten on a block -/

/-- An entry of the block, which update `k` overwrites. -/
theorem scatter_block {α : Type} {s si u : Shape} {w : ℕ} (d : ScatterDims s si u) (x0 : s.Idx → α) (idx : IVec si w) (upd : u.Idx → α) (ι : s.Idx)
    (k : u.Idx) (pos : u.Idx → Fin s.rank → ℕ) (hpos : ∀ j a, d.start j idx a + (d.window j a : Int) = (pos j a : Int))
    (hk : ∀ a, pos k a = (ι a).val) (hinj : ∀ j, (∀ a, pos j a = (ι a).val) → j = k) :
    Host.scatter d (fun _ b => b) x0 idx upd ι = upd k := by
  refine Routing.scatter_set_hit d x0 idx upd ι _ (fun j hj => ?_) k ?_
  · rw [Routing.resultIdx?_eq_some] at hj
    rw [hinj j fun a => by have := hj a; rw [hpos] at this; exact_mod_cast this]
  · rw [Routing.resultIdx?_eq_some]
    intro a
    rw [hpos, hk]

/-- An entry outside the block. -/
theorem scatter_out {α : Type} {s si u : Shape} {w : ℕ} (d : ScatterDims s si u) (x0 : s.Idx → α) (idx : IVec si w) (upd : u.Idx → α) (ι : s.Idx)
    (pos : u.Idx → Fin s.rank → ℕ) (hpos : ∀ j a, d.start j idx a + (d.window j a : Int) = (pos j a : Int))
    (h : ∀ j, ¬ ∀ a, pos j a = (ι a).val) :
    Host.scatter d (fun _ b => b) x0 idx upd ι = x0 ι := by
  refine Routing.scatter_set_miss d x0 idx upd ι fun j hj => h j fun a => ?_
  rw [Routing.resultIdx?_eq_some] at hj
  have := hj a
  rw [hpos] at this
  exact_mod_cast this

/-- One index word. -/
def word (a : BitVec 32) : IVec S1 32 := broadcastInDim S1 ![] bcast_S_S1 (constantI S_ 32 a)

/-- Two index words. -/
def pair (a b : BitVec 32) : IVec S2 32 := concatenate S2 0 [⟨S1, word a⟩, ⟨S1, word b⟩] concatenates_S1_S1_S2_d0

theorem pos_image (j : S50x50x512.Idx) (a : Fin 3) :
    scatter_S56x56x512_S2_S50x50x512_012_n_01_0.start j (pair 1#32 1#32) a + (scatter_S56x56x512_S2_S50x50x512_012_n_01_0.window j a : Int) = ((![(j 0).val + 1, (j 1).val + 1, (j 2).val] a : ℕ) : Int) := by
  fin_cases a
  · show (1 : Int) + (((j 0).val : ℕ) : Int) = _
    simp
    omega
  · show (1 : Int) + (((j 1).val : ℕ) : Int) = _
    simp
    omega
  · show (0 : Int) + (((j 2).val : ℕ) : Int) = _
    simp

theorem pos_rows (j : S2944x512.Idx) (a : Fin 2) :
    scatter_S2952x512_S1_S2944x512_01_n_0_0.start j (word 0#32) a + (scatter_S2952x512_S1_S2944x512_01_n_0_0.window j a : Int) = ((![(j 0).val, (j 1).val] a : ℕ) : Int) := by
  fin_cases a
  · show (0 : Int) + (((j 0).val : ℕ) : Int) = _
    simp
  · show (0 : Int) + (((j 1).val : ℕ) : Int) = _
    simp

theorem pos_cls (j : S512x9.Idx) (a : Fin 2) :
    scatter_S512x128_S1_S512x9_01_n_1_0.start j (word 0#32) a + (scatter_S512x128_S1_S512x9_01_n_1_0.window j a : Int) = ((![(j 0).val, (j 1).val] a : ℕ) : Int) := by
  fin_cases a
  · show (0 : Int) + (((j 0).val : ℕ) : Int) = _
    simp
  · show (0 : Int) + (((j 1).val : ℕ) : Int) = _
    simp

theorem pos_reg (j : S512x36.Idx) (a : Fin 2) :
    scatter_S512x128_S1_S512x36_01_n_1_0.start j (word 9#32) a + (scatter_S512x128_S1_S512x36_01_n_1_0.window j a : Int) = ((![(j 0).val, (j 1).val + 9] a : ℕ) : Int) := by
  fin_cases a
  · show (0 : Int) + (((j 0).val : ℕ) : Int) = _
    simp
  · show (9 : Int) + (((j 1).val : ℕ) : Int) = _
    simp
    omega

theorem pos_bcls (j : S9.Idx) (a : Fin 2) :
    scatter_S1x128_S2_S9_0_0_01_0.start j (pair 0#32 0#32) a + (scatter_S1x128_S2_S9_0_0_01_0.window j a : Int) = ((![0, (j 0).val] a : ℕ) : Int) := by
  fin_cases a
  · show (0 : Int) + ((0 : ℕ) : Int) = _
    simp
  · show (0 : Int) + (((j 0).val : ℕ) : Int) = _
    simp

theorem pos_breg (j : S36.Idx) (a : Fin 2) :
    scatter_S1x128_S2_S36_0_0_01_0.start j (pair 0#32 9#32) a + (scatter_S1x128_S2_S36_0_0_01_0.window j a : Int) = ((![0, (j 0).val + 9] a : ℕ) : Int) := by
  fin_cases a
  · show (0 : Int) + ((0 : ℕ) : Int) = _
    simp
  · show (9 : Int) + (((j 0).val : ℕ) : Int) = _
    simp
    omega

theorem pos_out (j : S2816x128.Idx) (a : Fin 2) :
    scatter_S3136x128_S1_S2816x128_01_n_0_0.start j (word 0#32) a + (scatter_S3136x128_S1_S2816x128_01_n_0_0.window j a : Int) = ((![(j 0).val, (j 1).val] a : ℕ) : Int) := by
  fin_cases a
  · show (0 : Int) + (((j 0).val : ℕ) : Int) = _
    simp
  · show (0 : Int) + (((j 1).val : ℕ) : Int) = _
    simp

end Cert.Proof.Heads

end
-- ==== Proof.HeadsHost.lean ====
module

public import proofs.«01_k».proof.Proof.HeadsScatter
public import Idealize.ShloMosaic.Lib.Claim
public import Idealize.ShloMosaic.Lib.Routing.OpsOne
public import Idealize.ShloMosaic.Lib.Routing.OpsPair
public import Idealize.ShloMosaic.Lib.ValueLayout
public import Idealize.ShloMosaic.Lib.IdealHost

@[expose] public section

set_option maxRecDepth 16384

noncomputable section

namespace Cert.Proof.Heads

open Cert.HeadsIdeal Cert.HeadsIdeal.Gen
open Idealize.ShloMosaic Idealize.ShloMosaic.TcCoe Idealize.ShloMosaic.Tactic
open scoped BigOperators

variable (m : (ℓ : Loc nD τ sig) → Buf (Elt Ideal) ℓ) (c : Dev nD)

/-- The buffers as the launch finds them. -/
theorem V_at (b : Ref sig .tc) : V m c b = StableHlo.after hostOps0 (fun b => m (c, b)) (Proc.devRef .tc b) := by
  have e : List.flatten [hostOps0 (F := Ideal)] = hostOps0 := List.append_nil _
  show StableHlo.after (List.flatten [hostOps0]) (fun b => m (c, b)) (Proc.devRef .tc b) = _
  rw [e]

/-- The feature map laid into a larger image of zeros. -/
theorem image_eq (Y X : Fin 56) (k : Fin 512) :
    (V m c main_v6 : Vec Ideal S56x56x512 .f32) (ix3 Y X k) = bordered (m ((c : Thread nD τ).loc main_arg0)) k Y.val X.val := by
  rw [V_at m c main_v6]
  entry_read
  unfold bordered
  by_cases h : (1 ≤ Y.val ∧ Y.val ≤ 50) ∧ (1 ≤ X.val ∧ X.val ≤ 50)
  · rw [dif_pos h]
    refine (scatter_block scatter_S56x56x512_S2_S50x50x512_012_n_01_0 _ (pair 1#32 1#32) _ (ix3 Y X k) (ix3 (⟨Y.val - 1, by omega⟩ : Fin 50) (⟨X.val - 1, by omega⟩ : Fin 50) k)
      (fun j a => (![(j 0).val + 1, (j 1).val + 1, (j 2).val] a : ℕ)) pos_image (fun a => ?_) (fun j hj => ?_)).trans ?_
    · match a with
      | ⟨0, _⟩ => show Y.val - 1 + 1 = Y.val; omega
      | ⟨1, _⟩ => show X.val - 1 + 1 = X.val; omega
      | ⟨2, _⟩ => rfl
    · funext a
      match a with
      | ⟨0, _⟩ => have := hj 0; apply Fin.ext; show (j 0).val = Y.val - 1; have e : (j 0).val + 1 = Y.val := this; omega
      | ⟨1, _⟩ => have := hj 1; apply Fin.ext; show (j 1).val = X.val - 1; have e : (j 1).val + 1 = X.val := this; omega
      | ⟨2, _⟩ => have := hj 2; apply Fin.ext; exact this
    · refine (transpose_apply _ _ _ _ (ix3 k (⟨Y.val - 1, by omega⟩ : Fin 50) (⟨X.val - 1, by omega⟩ : Fin 50)) fun b => ?_).trans ?_
      · match b with
        | ⟨0, _⟩ => rfl
        | ⟨1, _⟩ => rfl
        | ⟨2, _⟩ => rfl
      · refine shapeCast_apply _ _ _ _ ?_
        show (S1x512x50x50.rowMajor (ix4 _ _ _ _)).val = (S512x50x50.rowMajor (ix3 _ _ _)).val
        rw [Shape.rowMajor_val_four, Shape.rowMajor_val_three]
        simp
  · rw [dif_neg h]
    refine (scatter_out scatter_S56x56x512_S2_S50x50x512_012_n_01_0 _ (pair 1#32 1#32) _ (ix3 Y X k)
      (fun j a => (![(j 0).val + 1, (j 1).val + 1, (j 2).val] a : ℕ)) pos_image (fun j hj => h ?_)).trans ?_
    · have e0 : (j 0).val + 1 = Y.val := hj 0
      have e1 : (j 1).val + 1 = X.val := hj 1
      have l0 : (j 0).val < 50 := (j 0).isLt
      have l1 : (j 1).val < 50 := (j 1).isLt
      omega
    · exact Ideal.ofBits_zero_f32

/-- The image's rows one after another, as far as the launch reads them. -/
theorem rows_eq (n : Fin 2952) (hn : n.val < 2944) (k : Fin 512) :
    (V m c main_v11 : Vec Ideal S2952x512 .f32) (ix2 n k)
      = (V m c main_v6 : Vec Ideal S56x56x512 .f32) (ix3 (⟨n.val / 56, by omega⟩ : Fin 56) (⟨n.val % 56, by omega⟩ : Fin 56) k) := by
  have e : (V m c main_v11 : Vec Ideal S2952x512 .f32) = Host.scatter scatter_S2952x512_S1_S2944x512_01_n_0_0 (fun _ b => b)
      (broadcastInDim S2952x512 ![] bcast_S_S2952x512 (constant (F := Ideal) S_ .f32 0x00000000#32)) (word 0#32)
      (extractStridedSlice S2944x512 ![0, 0] (shapeCast S3136x512 (V m c main_v6 : Vec Ideal S56x56x512 .f32) shapeCasts_S56x56x512_S3136x512) slices_S3136x512_S2944x512_0_0) := by
    rw [V_at m c main_v11, V_at m c main_v6]
    entry_read
    rfl
  rw [e]
  generalize V m c main_v6 = x
  refine (scatter_block scatter_S2952x512_S1_S2944x512_01_n_0_0 _ (word 0#32) _ (ix2 n k) (ix2 (⟨n.val, hn⟩ : Fin 2944) k)
    (fun j a => (![(j 0).val, (j 1).val] a : ℕ)) pos_rows (fun a => ?_) (fun j hj => ?_)).trans ?_
  · match a with
    | ⟨0, _⟩ => rfl
    | ⟨1, _⟩ => rfl
  · funext a
    match a with
    | ⟨0, _⟩ => exact Fin.ext (hj 0)
    | ⟨1, _⟩ => exact Fin.ext (hj 1)
  · refine (extractStridedSlice_apply _ _ _ _ (ix2 (⟨n.val, by omega⟩ : Fin 3136) k) fun a => ?_).trans ?_
    · match a with
      | ⟨0, _⟩ => show n.val = 0 + n.val; omega
      | ⟨1, _⟩ => show k.val = 0 + k.val; omega
    · refine shapeCast_apply _ _ _ _ ?_
      show (S56x56x512.rowMajor (ix3 _ _ _)).val = _
      rw [Shape.rowMajor_val_three, Shape.rowMajor_val_two]
      simp
      omega

theorem slice_rows (x : Vec Ideal S2952x512 .f32) (d : ℕ) (hs : S2952x512.Slices ![d, 0] S2944x512) (n : Fin 2944) (k : Fin 512) (hd : n.val + d < 2952) :
    extractStridedSlice S2944x512 ![d, 0] x hs (ix2 n k) = x (ix2 (⟨n.val + d, hd⟩ : Fin 2952) k) := by
  refine extractStridedSlice_apply _ _ _ _ _ fun a => ?_
  match a with
  | ⟨0, _⟩ => show n.val + d = d + n.val; omega
  | ⟨1, _⟩ => show k.val = 0 + k.val; omega

theorem copies_of (x : Vec Ideal S2952x512 .f32) (dx : Fin 3) (n : Fin 2944) (k : Fin 512) :
    shifted (extractStridedSlice S2944x512 ![0, 0] x slices_S2952x512_S2944x512_0_0) (extractStridedSlice S2944x512 ![1, 0] x slices_S2952x512_S2944x512_1_0)
        (extractStridedSlice S2944x512 ![2, 0] x slices_S2952x512_S2944x512_2_0) dx (ix2 n k)
      = x (ix2 (⟨n.val + dx.val, by omega⟩ : Fin 2952) k) := by
  match dx with
  | ⟨0, _⟩ => exact slice_rows x 0 slices_S2952x512_S2944x512_0_0 n k (by omega)
  | ⟨1, _⟩ => exact slice_rows x 1 slices_S2952x512_S2944x512_1_0 n k (by omega)
  | ⟨2, _⟩ => exact slice_rows x 2 slices_S2952x512_S2944x512_2_0 n k (by omega)

/-- The three copies, shifted by no, one and two rows. -/
theorem copies_eq (dx : Fin 3) (n : Fin 2944) (k : Fin 512) :
    shifted (V m c main_v12) (V m c main_v13) (V m c main_v14) dx (ix2 n k)
      = (V m c main_v11 : Vec Ideal S2952x512 .f32) (ix2 (⟨n.val + dx.val, by omega⟩ : Fin 2952) k) := by
  have e0 : (V m c main_v12 : Vec Ideal S2944x512 .f32) = extractStridedSlice S2944x512 ![0, 0] (V m c main_v11 : Vec Ideal S2952x512 .f32) slices_S2952x512_S2944x512_0_0 := by
    rw [V_at m c main_v12, V_at m c main_v11]
    entry_read
    rfl
  have e1 : (V m c main_v13 : Vec Ideal S2944x512 .f32) = extractStridedSlice S2944x512 ![1, 0] (V m c main_v11 : Vec Ideal S2952x512 .f32) slices_S2952x512_S2944x512_1_0 := by
    rw [V_at m c main_v13, V_at m c main_v11]
    entry_read
    rfl
  have e2 : (V m c main_v14 : Vec Ideal S2944x512 .f32) = extractStridedSlice S2944x512 ![2, 0] (V m c main_v11 : Vec Ideal S2952x512 .f32) slices_S2952x512_S2944x512_2_0 := by
    rw [V_at m c main_v14, V_at m c main_v11]
    entry_read
    rfl
  rw [e0, e1, e2]
  exact copies_of _ dx n k

/-- The taps' weights, one matrix after another. -/
theorem taps_eq (dy dx : Fin 3) (k h : Fin 512) :
    (V m c main_v16 : Vec Ideal S9x512x512 .f32) (ix3 (⟨3 * dy.val + dx.val, by omega⟩ : Fin 9) k h)
      = (m ((c : Thread nD τ).loc main_arg1) : Vec Ideal S512x512x3x3 .f32) (ix4 h k dy dx) := by
  rw [V_at m c main_v16]
  entry_read
  refine (shapeCast_apply _ _ _ (ix4 dy dx k h) ?_).trans ?_
  · show (S3x3x512x512.rowMajor (ix4 _ _ _ _)).val = (S9x512x512.rowMajor (ix3 _ _ _)).val
    rw [Shape.rowMajor_val_four, Shape.rowMajor_val_three]
    simp
    omega
  · refine transpose_apply _ _ _ _ _ fun b => ?_
    match b with
    | ⟨0, _⟩ => rfl
    | ⟨1, _⟩ => rfl
    | ⟨2, _⟩ => rfl
    | ⟨3, _⟩ => rfl

theorem bias_eq (h : Fin 512) :
    (V m c main_v35 : Vec Ideal S1x512 .f32) (ix2 (0 : Fin 1) h) = (m ((c : Thread nD τ).loc main_arg2) : Vec Ideal S512 .f32) (ix1 h) := by
  rw [V_at m c main_v35]
  entry_read
  refine shapeCast_apply _ _ _ _ ?_
  show (S512.rowMajor (ix1 _)).val = (S1x512.rowMajor (ix2 _ _)).val
  rw [Shape.rowMajor_val_one, Shape.rowMajor_val_two]
  simp

/-- The class head's weights fill the first nine columns of the joint head. -/
theorem head_cls (h : Fin 512) (a : Fin 9) :
    (V m c main_v25 : Vec Ideal S512x128 .f32) (ix2 h (⟨a.val, by omega⟩ : Fin 128))
      = (m ((c : Thread nD τ).loc main_arg3) : Vec Ideal S9x512x1x1 .f32) (ix4 a h (0 : Fin 1) (0 : Fin 1)) := by
  rw [V_at m c main_v25]
  entry_read
  refine (scatter_out scatter_S512x128_S1_S512x36_01_n_1_0 _ (word 9#32) _ _
    (fun j a => (![(j 0).val, (j 1).val + 9] a : ℕ)) pos_reg (fun j hj => ?_)).trans ?_
  · have e : (j 1).val + 9 = a.val := hj 1
    omega
  refine (scatter_block scatter_S512x128_S1_S512x9_01_n_1_0 _ (word 0#32) _ _ (ix2 h a)
    (fun j a => (![(j 0).val, (j 1).val] a : ℕ)) pos_cls (fun b => ?_) (fun j hj => ?_)).trans ?_
  · match b with
    | ⟨0, _⟩ => rfl
    | ⟨1, _⟩ => rfl
  · funext b
    match b with
    | ⟨0, _⟩ => exact Fin.ext (hj 0)
    | ⟨1, _⟩ => exact Fin.ext (hj 1)
  refine (transpose_apply _ _ _ _ (ix2 a h) fun b => ?_).trans ?_
  · match b with
    | ⟨0, _⟩ => rfl
    | ⟨1, _⟩ => rfl
  · refine shapeCast_apply _ _ _ _ ?_
    show (S9x512x1x1.rowMajor (ix4 _ _ _ _)).val = (S9x512.rowMajor (ix2 _ _)).val
    rw [Shape.rowMajor_val_four, Shape.rowMajor_val_two]
    simp

/-- The box head's weights fill the thirty-six columns after. -/
theorem head_reg (h : Fin 512) (b : Fin 36) :
    (V m c main_v25 : Vec Ideal S512x128 .f32) (ix2 h (⟨9 + b.val, by omega⟩ : Fin 128))
      = (m ((c : Thread nD τ).loc main_arg5) : Vec Ideal S36x512x1x1 .f32) (ix4 b h (0 : Fin 1) (0 : Fin 1)) := by
  rw [V_at m c main_v25]
  entry_read
  refine (scatter_block scatter_S512x128_S1_S512x36_01_n_1_0 _ (word 9#32) _ _ (ix2 h b)
    (fun j a => (![(j 0).val, (j 1).val + 9] a : ℕ)) pos_reg (fun a => ?_) (fun j hj => ?_)).trans ?_
  · match a with
    | ⟨0, _⟩ => rfl
    | ⟨1, _⟩ => show b.val + 9 = 9 + b.val; omega
  · funext a
    match a with
    | ⟨0, _⟩ => exact Fin.ext (hj 0)
    | ⟨1, _⟩ =>
      have e : (j 1).val + 9 = 9 + b.val := hj 1
      apply Fin.ext
      show (j 1).val = b.val
      omega
  refine (transpose_apply _ _ _ _ (ix2 b h) fun a => ?_).trans ?_
  · match a with
    | ⟨0, _⟩ => rfl
    | ⟨1, _⟩ => rfl
  · refine shapeCast_apply _ _ _ _ ?_
    show (S36x512x1x1.rowMajor (ix4 _ _ _ _)).val = (S36x512.rowMajor (ix2 _ _)).val
    rw [Shape.rowMajor_val_four, Shape.rowMajor_val_two]
    simp

/-- The class head's bias. -/
theorem shift_cls (a : Fin 9) :
    (V m c main_v34 : Vec Ideal S1x128 .f32) (ix2 (0 : Fin 1) (⟨a.val, by omega⟩ : Fin 128))
      = (m ((c : Thread nD τ).loc main_arg4) : Vec Ideal S9 .f32) (ix1 a) := by
  rw [V_at m c main_v34]
  entry_read
  refine (scatter_out scatter_S1x128_S2_S36_0_0_01_0 _ (pair 0#32 9#32) _ _
    (fun j a => (![0, (j 0).val + 9] a : ℕ)) pos_breg (fun j hj => ?_)).trans ?_
  · have e : (j 0).val + 9 = a.val := hj 1
    omega
  refine scatter_block scatter_S1x128_S2_S9_0_0_01_0 _ (pair 0#32 0#32) _ _ (ix1 a)
    (fun j a => (![0, (j 0).val] a : ℕ)) pos_bcls (fun b => ?_) (fun j hj => ?_)
  · match b with
    | ⟨0, _⟩ => rfl
    | ⟨1, _⟩ => rfl
  · funext b
    match b with
    | ⟨0, _⟩ => exact Fin.ext (hj 1)

/-- The box head's bias. -/
theorem shift_reg (b : Fin 36) :
    (V m c main_v34 : Vec Ideal S1x128 .f32) (ix2 (0 : Fin 1) (⟨9 + b.val, by omega⟩ : Fin 128))
      = (m ((c : Thread nD τ).loc main_arg6) : Vec Ideal S36 .f32) (ix1 b) := by
  rw [V_at m c main_v34]
  entry_read
  refine scatter_block scatter_S1x128_S2_S36_0_0_01_0 _ (pair 0#32 9#32) _ _ (ix1 b)
    (fun j a => (![0, (j 0).val + 9] a : ℕ)) pos_breg (fun a => ?_) (fun j hj => ?_)
  · match a with
    | ⟨0, _⟩ => rfl
    | ⟨1, _⟩ => show b.val + 9 = 9 + b.val; omega
  · funext a
    match a with
    | ⟨0, _⟩ =>
      have e : (j 0).val + 9 = 9 + b.val := hj 1
      apply Fin.ext
      show (j 0).val = b.val
      omega

/-- The features at channel `h` of pixel `(y, x)`, as the launch computes them in row `56 y + x`. -/
theorem hidden_eq (y x : Fin 50) (h : Fin 512) (hr : 56 * y.val + x.val < 2816) :
    hiddenRow (V m c main_v12) (V m c main_v13) (V m c main_v14) (V m c main_v16) (V m c main_v35) (56 * y.val + x.val) hr h
      = hiddenAt (m ((c : Thread nD τ).loc main_arg0)) (m ((c : Thread nD τ).loc main_arg1)) (m ((c : Thread nD τ).loc main_arg2)) y.val x.val h := by
  unfold hiddenRow hiddenAt
  rw [bias_eq]
  congr 1
  funext dy dx
  congr 1
  · funext k
    rw [copies_eq, rows_eq m c _ (by show 56 * y.val + x.val + 56 * dy.val + dx.val < 2944; omega), image_eq]
    congr 1
    · show (56 * y.val + x.val + 56 * dy.val + dx.val) / 56 = y.val + dy.val
      omega
    · show (56 * y.val + x.val + 56 * dy.val + dx.val) % 56 = x.val + dx.val
      omega
  · funext k
    exact taps_eq m c dy dx k h

/-- The class scores the launch leaves. -/
theorem rows_cls (y x : Fin 50) (a : Fin 9) :
    headRows (V m c main_v12) (V m c main_v13) (V m c main_v14) (V m c main_v16) (V m c main_v35) (V m c main_v25) (V m c main_v34)
        (ix2 (⟨56 * y.val + x.val, by omega⟩ : Fin 2816) (⟨a.val, by omega⟩ : Fin 128))
      = prod (fun h => hiddenAt (m ((c : Thread nD τ).loc main_arg0)) (m ((c : Thread nD τ).loc main_arg1)) (m ((c : Thread nD τ).loc main_arg2)) y.val x.val h)
          (fun h => (m ((c : Thread nD τ).loc main_arg3) : Vec Ideal S9x512x1x1 .f32) (ix4 a h (0 : Fin 1) (0 : Fin 1)))
        + (m ((c : Thread nD τ).loc main_arg4) : Vec Ideal S9 .f32) (ix1 a) := by
  unfold headRows
  refine congrArg₂ (· + ·) (congrArg₂ prod (funext fun h => ?_) (funext fun h => ?_)) ?_
  · exact hidden_eq m c y x h _
  · exact head_cls m c h a
  · exact shift_cls m c a

/-- The box shifts the launch leaves. -/
theorem rows_reg (y x : Fin 50) (b : Fin 36) :
    headRows (V m c main_v12) (V m c main_v13) (V m c main_v14) (V m c main_v16) (V m c main_v35) (V m c main_v25) (V m c main_v34)
        (ix2 (⟨56 * y.val + x.val, by omega⟩ : Fin 2816) (⟨9 + b.val, by omega⟩ : Fin 128))
      = prod (fun h => hiddenAt (m ((c : Thread nD τ).loc main_arg0)) (m ((c : Thread nD τ).loc main_arg1)) (m ((c : Thread nD τ).loc main_arg2)) y.val x.val h)
          (fun h => (m ((c : Thread nD τ).loc main_arg5) : Vec Ideal S36x512x1x1 .f32) (ix4 b h (0 : Fin 1) (0 : Fin 1)))
        + (m ((c : Thread nD τ).loc main_arg6) : Vec Ideal S36 .f32) (ix1 b) := by
  unfold headRows
  refine congrArg₂ (· + ·) (congrArg₂ prod (funext fun h => ?_) (funext fun h => ?_)) ?_
  · exact hidden_eq m c y x h _
  · exact head_reg m c h b
  · exact shift_reg m c b

end Cert.Proof.Heads

end
-- ==== Proof.HeadsTail.lean ====
module

public import proofs.«01_k».proof.Proof.HeadsHost
public import Idealize.ShloMosaic.Lib.Claim
public import Idealize.ShloMosaic.Lib.Routing.OpsOne
public import Idealize.ShloMosaic.Lib.Routing.OpsPair
public import Idealize.ShloMosaic.Lib.ValueLayout
public import Idealize.ShloMosaic.Lib.IdealHost

@[expose] public section

set_option maxRecDepth 16384

noncomputable section

namespace Cert.Proof.Heads

open Cert.HeadsIdeal Cert.HeadsIdeal.Gen
open Idealize.ShloMosaic Idealize.ShloMosaic.TcCoe Idealize.ShloMosaic.Tactic
open scoped BigOperators

variable (m : (ℓ : Loc nD τ sig) → Buf (Elt Ideal) ℓ) (ρ : Dev nD → PrngReg) (c : Dev nD)

/-! ## What the host does with the launch's rows -/

/-- The launch's rows, followed by rows of zeros. -/
def stretched (z : Vec Ideal S2816x128 .f32) : Vec Ideal S3136x128 .f32 :=
  Host.scatter scatter_S3136x128_S1_S2816x128_01_n_0_0 (fun _ b => b)
    (broadcastInDim S3136x128 ![] bcast_S_S3136x128 (constant (F := Ideal) S_ .f32 0x00000000#32)) (word 0#32) z

/-- Read as an image, with the border columns cut off. -/
def image (z : Vec Ideal S2816x128 .f32) : Vec Ideal S50x50x128 .f32 :=
  extractStridedSlice S50x50x128 ![0, 0, 0] (shapeCast S56x56x128 (stretched z) shapeCasts_S3136x128_S56x56x128) slices_S56x56x128_S50x50x128_0_0_0

theorem image_apply (z : Vec Ideal S2816x128 .f32) (y x : Fin 50) (o : Fin 128) :
    image z (ix3 y x o) = z (ix2 (⟨56 * y.val + x.val, by omega⟩ : Fin 2816) o) := by
  refine (extractStridedSlice_apply _ _ _ _ (ix3 (⟨y.val, by omega⟩ : Fin 56) (⟨x.val, by omega⟩ : Fin 56) o) fun a => ?_).trans ?_
  · match a with
    | ⟨0, _⟩ => show y.val = 0 + y.val; omega
    | ⟨1, _⟩ => show x.val = 0 + x.val; omega
    | ⟨2, _⟩ => show o.val = 0 + o.val; omega
  refine (shapeCast_apply _ _ _ (ix2 (⟨56 * y.val + x.val, by omega⟩ : Fin 3136) o) ?_).trans ?_
  · show (S3136x128.rowMajor (ix2 _ _)).val = (S56x56x128.rowMajor (ix3 _ _ _)).val
    rw [Shape.rowMajor_val_two, Shape.rowMajor_val_three]
    simp
    omega
  refine scatter_block scatter_S3136x128_S1_S2816x128_01_n_0_0 _ (word 0#32) _ _ (ix2 (⟨56 * y.val + x.val, by omega⟩ : Fin 2816) o)
    (fun j a => (![(j 0).val, (j 1).val] a : ℕ)) pos_out (fun a => ?_) (fun j hj => ?_)
  · match a with
    | ⟨0, _⟩ => rfl
    | ⟨1, _⟩ => rfl
  · funext a
    match a with
    | ⟨0, _⟩ => exact Fin.ext (hj 0)
    | ⟨1, _⟩ => exact Fin.ext (hj 1)

/-- The first result from the launch's rows. -/
def clsOf (z : Vec Ideal S2816x128 .f32) : Vec Ideal S22500 .f32 :=
  shapeCast S22500 (extractStridedSlice S50x50x9 ![0, 0, 0] (image z) slices_S50x50x128_S50x50x9_0_0_0) shapeCasts_S50x50x9_S22500

/-- The second result from the launch's rows. -/
def regOf (z : Vec Ideal S2816x128 .f32) : Vec Ideal S22500x4 .f32 :=
  shapeCast S22500x4 (extractStridedSlice S50x50x36 ![0, 0, 9] (image z) slices_S50x50x128_S50x50x36_0_0_9) shapeCasts_S50x50x36_S22500x4

theorem clsOf_apply (z : Vec Ideal S2816x128 .f32) (n : Fin 22500) (y x : Fin 50) (a : Fin 9) (hn : n.val = 9 * (50 * y.val + x.val) + a.val) :
    clsOf z (ix1 n) = z (ix2 (⟨56 * y.val + x.val, by omega⟩ : Fin 2816) (⟨a.val, by omega⟩ : Fin 128)) := by
  refine (shapeCast_apply _ _ _ (ix3 y x a) ?_).trans ?_
  · show (S50x50x9.rowMajor (ix3 _ _ _)).val = (S22500.rowMajor (ix1 _)).val
    rw [Shape.rowMajor_val_one, Shape.rowMajor_val_three]
    simp
    omega
  refine (extractStridedSlice_apply _ _ _ _ (ix3 y x (⟨a.val, by omega⟩ : Fin 128)) fun b => ?_).trans (image_apply z y x _)
  match b with
  | ⟨0, _⟩ => show y.val = 0 + y.val; omega
  | ⟨1, _⟩ => show x.val = 0 + x.val; omega
  | ⟨2, _⟩ => show a.val = 0 + a.val; omega

theorem regOf_apply (z : Vec Ideal S2816x128 .f32) (n : Fin 22500) (q : Fin 4) (y x : Fin 50) (b : Fin 36)
    (hn : 4 * n.val + q.val = 36 * (50 * y.val + x.val) + b.val) :
    regOf z (ix2 n q) = z (ix2 (⟨56 * y.val + x.val, by omega⟩ : Fin 2816) (⟨9 + b.val, by omega⟩ : Fin 128)) := by
  refine (shapeCast_apply _ _ _ (ix3 y x b) ?_).trans ?_
  · show (S50x50x36.rowMajor (ix3 _ _ _)).val = (S22500x4.rowMajor (ix2 _ _)).val
    rw [Shape.rowMajor_val_two, Shape.rowMajor_val_three]
    simp
    omega
  refine (extractStridedSlice_apply _ _ _ _ (ix3 y x (⟨9 + b.val, by omega⟩ : Fin 128)) fun a => ?_).trans (image_apply z y x _)
  match a with
  | ⟨0, _⟩ => show y.val = 0 + y.val; omega
  | ⟨1, _⟩ => show x.val = 0 + x.val; omega
  | ⟨2, _⟩ => show 9 + b.val = 9 + b.val; rfl

/-- The buffers as the host operations after the launch leave them. -/
theorem tail_at (b : Ref sig .tc) :
    Pipeline.afterTail₀ cfgs (dats m) 0 (V0 m) [hostOps1] c b
      = StableHlo.after hostOps1 (Pipeline.withArrays spec0 c (V0 m c) fun w => (dats m 0 c).arrAt w cfg0.N) (Proc.devRef .tc b) := by
  have e : List.flatten [hostOps1 (F := Ideal)] = hostOps1 := List.append_nil _
  show StableHlo.after (List.flatten [hostOps1]) _ (Proc.devRef .tc b) = _
  rw [e]

theorem after_cls (σ : Valuation τ sig (Elt Ideal)) : (StableHlo.after hostOps1 σ (Proc.devRef .tc main_v43) : Vec Ideal S22500 .f32) = clsOf (σ (Proc.devRef .tc main_v36)) := by
  entry_read
  rfl

theorem after_reg (σ : Valuation τ sig (Elt Ideal)) : (StableHlo.after hostOps1 σ (Proc.devRef .tc main_v45) : Vec Ideal S22500x4 .f32) = regOf (σ (Proc.devRef .tc main_v36)) := by
  entry_read
  rfl

/-- The launch's rows as the host finds them. -/
theorem rows_at : (Pipeline.withArrays spec0 c (V0 m c) (fun w => (dats m 0 c).arrAt w cfg0.N) (Proc.devRef .tc main_v36) : Vec Ideal S2816x128 .f32)
    = headRows (V m c main_v12) (V m c main_v13) (V m c main_v14) (V m c main_v16) (V m c main_v35) (V m c main_v25) (V m c main_v34) :=
  (Pipeline.withArrays_arr spec0 launch0.win.arr_inj c (V0 m c) (fun w => (dats m 0 c).arrAt w cfg0.N) 7).trans (heads_arr m c)

theorem kernel_cls : (Pipeline.afterTail₀ cfgs (dats m) 0 (V0 m) [hostOps1] c main_v43 : Vec Ideal S22500 .f32)
    = clsAll (m ((c : Thread nD τ).loc main_arg0)) (m ((c : Thread nD τ).loc main_arg1)) (m ((c : Thread nD τ).loc main_arg2))
        (m ((c : Thread nD τ).loc main_arg3)) (m ((c : Thread nD τ).loc main_arg4)) := by
  rw [tail_at]
  refine (after_cls _).trans ?_
  rw [rows_at]
  funext j
  rw [ValueIdx.eq_ix1 j]
  have hj : (j 0).val < 22500 := (j 0).isLt
  refine (clsOf_apply _ (j 0) (⟨(j 0).val / 9 / 50, by omega⟩ : Fin 50) (⟨(j 0).val / 9 % 50, by omega⟩ : Fin 50)
    (⟨(j 0).val % 9, by omega⟩ : Fin 9) (by show (j 0).val = 9 * (50 * ((j 0).val / 9 / 50) + (j 0).val / 9 % 50) + (j 0).val % 9; omega)).trans ?_
  exact rows_cls m c _ _ _

theorem kernel_reg : (Pipeline.afterTail₀ cfgs (dats m) 0 (V0 m) [hostOps1] c main_v45 : Vec Ideal S22500x4 .f32)
    = regAll (m ((c : Thread nD τ).loc main_arg0)) (m ((c : Thread nD τ).loc main_arg1)) (m ((c : Thread nD τ).loc main_arg2))
        (m ((c : Thread nD τ).loc main_arg5)) (m ((c : Thread nD τ).loc main_arg6)) := by
  rw [tail_at]
  refine (after_reg _).trans ?_
  rw [rows_at]
  funext j
  rw [ValueIdx.eq_ix2 j]
  have hj : (j 0).val < 22500 := (j 0).isLt
  have hq : (j 1).val < 4 := (j 1).isLt
  refine (regOf_apply _ (j 0) (j 1) (⟨(4 * (j 0).val + (j 1).val) / 36 / 50, by omega⟩ : Fin 50) (⟨(4 * (j 0).val + (j 1).val) / 36 % 50, by omega⟩ : Fin 50)
    (⟨(4 * (j 0).val + (j 1).val) % 36, by omega⟩ : Fin 36)
    (by show 4 * (j 0).val + (j 1).val = 36 * (50 * ((4 * (j 0).val + (j 1).val) / 36 / 50) + (4 * (j 0).val + (j 1).val) / 36 % 50) + (4 * (j 0).val + (j 1).val) % 36; omega)).trans ?_
  exact rows_reg m c _ _ _

end Cert.Proof.Heads

end
-- ==== Proof.HeadsRef.lean ====
module

public import proofs.«01_k».proof.Proof.HeadsForm
public import proofs.«01_k».proof.Proof.Gen.HeadsReferenceIdeal
public import proofs.«01_k».proof.Proof.Gen.HeadsReferenceIdeal.Run
public import Idealize.ShloMosaic.Lib.KernelVsHost
public import Idealize.ShloMosaic.Lib.Claim
public import Idealize.ShloMosaic.Lib.Routing.OpsOne
public import Idealize.ShloMosaic.Lib.Routing.OpsPair
public import Idealize.ShloMosaic.Lib.ValueLayout
public import Idealize.ShloMosaic.Lib.IdealHost
public import Idealize.ShloMosaic.Lib.Pipeline.Value
public import Idealize.ShloMosaic.Lib.Pointwise
public import Idealize.ShloMosaic.Lib.Pipeline.ValueKit

@[expose] public section

set_option maxRecDepth 16384

noncomputable section

namespace Cert.Proof.HeadsRef

open Cert.HeadsReferenceIdeal Cert.HeadsReferenceIdeal.Gen Cert.Proof.Heads
open Idealize.ShloMosaic Idealize.ShloMosaic.TcCoe Idealize.ShloMosaic.Tactic
open scoped BigOperators

/-- The feature map with its border, as the reference pads it. -/
def padded (feat : FVec Ideal S1x512x50x50 .f32) : FVec Ideal S512x52x52 .f32 :=
  pad S512x52x52 ![0, 1, 1] ![0, 1, 1] ![0, 0, 0] (shapeCast _ feat shapeCasts_S1x512x50x50_S512x50x50) (sitofp .f32 (constantI S_ 32 0#32))
    pads_S512x50x50_S512x52x52_000_110_110 h_S_

theorem padded_apply (feat : FVec Ideal S1x512x50x50 .f32) (k : Fin 512) (Y X : Fin 52) : padded feat (ix3 k Y X) = bordered feat k Y.val X.val := by
  unfold padded bordered
  by_cases h : (1 ≤ Y.val ∧ Y.val ≤ 50) ∧ (1 ≤ X.val ∧ X.val ≤ 50)
  · rw [dif_pos h]
    refine (pad_apply_of_inside (s := S512x50x50) ![0, 1, 1] ![0, 1, 1] ![0, 0, 0] _ _ _ _ _ (ix3 k (⟨Y.val - 1, by omega⟩ : Fin 50) (⟨X.val - 1, by omega⟩ : Fin 50)) fun a => ?_).trans ?_
    · match a with
      | ⟨0, _⟩ => show k.val = 0 + k.val * (0 + 1); omega
      | ⟨1, _⟩ => show Y.val = 1 + (Y.val - 1) * (0 + 1); omega
      | ⟨2, _⟩ => show X.val = 1 + (X.val - 1) * (0 + 1); omega
    · refine shapeCast_apply _ _ _ _ ?_
      rw [Shape.rowMajor_val_four, Shape.rowMajor_val_three]
      simp
  · rw [dif_neg h]
    have hz : (sitofp (F := Ideal) .f32 (constantI S_ 32 0#32) : FVec Ideal S_ .f32) (Shape.Idx.first h_S_) = (0 : EReal) := by
      show (((0#32 : BitVec 32).toInt : ℝ) : EReal) = 0
      simp
    by_cases hy : 1 ≤ Y.val ∧ Y.val ≤ 50
    · refine (pad_apply_of_not_inside (s := S512x50x50) ![0, 1, 1] ![0, 1, 1] ![0, 0, 0] _ _ _ _ _ (2 : Fin 3) ?_).trans hz
      show ¬(1 ≤ X.val ∧ (X.val - 1) % (0 + 1) = 0 ∧ (X.val - 1) / (0 + 1) < 50)
      omega
    · refine (pad_apply_of_not_inside (s := S512x50x50) ![0, 1, 1] ![0, 1, 1] ![0, 0, 0] _ _ _ _ _ (1 : Fin 3) ?_).trans hz
      show ¬(1 ≤ Y.val ∧ (Y.val - 1) % (0 + 1) = 0 ∧ (Y.val - 1) / (0 + 1) < 50)
      omega

/-- One tap's product: its weights with the shifted map. -/
def tapDot (feat : FVec Ideal S1x512x50x50 .f32) (w : FVec Ideal S512x512x3x3 .f32) {dy dx : ℕ}
    (hw : S512x512x3x3.Slices ![0, 0, dy, dx] S512x512x1x1) (hf : S512x52x52.Slices ![0, dy, dx] S512x50x50) : FVec Ideal S512x2500 .f32 :=
  Host.dotGeneral dot_S512x512_S512x2500_S512x2500_1_0_0_1_n_n none
    (shapeCast _ (extractStridedSlice S512x512x1x1 ![0, 0, dy, dx] w hw) shapeCasts_S512x512x1x1_S512x512)
    (shapeCast _ (extractStridedSlice S512x50x50 ![0, dy, dx] (padded feat) hf) shapeCasts_S512x50x50_S512x2500)

theorem tapDot_apply (feat : FVec Ideal S1x512x50x50 .f32) (w : FVec Ideal S512x512x3x3 .f32) (dy dx : Fin 3)
    (hw : S512x512x3x3.Slices ![0, 0, dy.val, dx.val] S512x512x1x1) (hf : S512x52x52.Slices ![0, dy.val, dx.val] S512x50x50)
    (h : Fin 512) (y x : Fin 50) :
    tapDot feat w hw hf (ix2 h (⟨50 * y.val + x.val, by omega⟩ : Fin 2500))
      = prod (fun k => bordered feat k (y.val + dy.val) (x.val + dx.val)) (fun k => w (ix4 h k dy dx)) := by
  unfold tapDot
  rw [prod_comm]
  simp only [pointwise]
  rw [zero_add]
  refine Finset.sum_congr rfl fun k _ => congrArg₂ (fun p q : EReal => p * q) (congrArg w (funext fun a => Fin.ext ?_)) ?_
  · match a with
    | ⟨0, _⟩ => show 0 + h.val = h.val; omega
    | ⟨1, _⟩ => show 0 + k.val = k.val; omega
    | ⟨2, _⟩ => show dy.val + 0 = dy.val; omega
    | ⟨3, _⟩ => show dx.val + 0 = dx.val; omega
  · refine (congrArg (padded feat) (funext fun a => Fin.ext ?_)).trans
      (padded_apply feat k (⟨y.val + dy.val, by omega⟩ : Fin 52) (⟨x.val + dx.val, by omega⟩ : Fin 52))
    match a with
    | ⟨0, _⟩ => show 0 + k.val = k.val; omega
    | ⟨1, _⟩ => show dy.val + y.val = y.val + dy.val; omega
    | ⟨2, _⟩ => show dx.val + x.val = x.val + dx.val; omega

/-- The reference's hidden features, a column per pixel. -/
def refHidden (feat : FVec Ideal S1x512x50x50 .f32) (w : FVec Ideal S512x512x3x3 .f32) (b : FVec Ideal S512 .f32) : FVec Ideal S512x2500 .f32 :=
  maximumf (addf (addf (addf (addf (addf (addf (addf (addf (addf (addf (broadcastInDim S512x2500 ![] bcast_S_S512x2500 (constant S_ .f32 0x00000000#32))
      (tapDot feat w slices_S512x512x3x3_S512x512x1x1_0_0_0_0 slices_S512x52x52_S512x50x50_0_0_0))
      (tapDot feat w slices_S512x512x3x3_S512x512x1x1_0_0_0_1 slices_S512x52x52_S512x50x50_0_0_1))
      (tapDot feat w slices_S512x512x3x3_S512x512x1x1_0_0_0_2 slices_S512x52x52_S512x50x50_0_0_2))
      (tapDot feat w slices_S512x512x3x3_S512x512x1x1_0_0_1_0 slices_S512x52x52_S512x50x50_0_1_0))
      (tapDot feat w slices_S512x512x3x3_S512x512x1x1_0_0_1_1 slices_S512x52x52_S512x50x50_0_1_1))
      (tapDot feat w slices_S512x512x3x3_S512x512x1x1_0_0_1_2 slices_S512x52x52_S512x50x50_0_1_2))
      (tapDot feat w slices_S512x512x3x3_S512x512x1x1_0_0_2_0 slices_S512x52x52_S512x50x50_0_2_0))
      (tapDot feat w slices_S512x512x3x3_S512x512x1x1_0_0_2_1 slices_S512x52x52_S512x50x50_0_2_1))
      (tapDot feat w slices_S512x512x3x3_S512x512x1x1_0_0_2_2 slices_S512x52x52_S512x50x50_0_2_2))
      (broadcastInDim S512x2500 ![0, 1] bcast_S512x1_S512x2500_0_1 (broadcastInDim S512x1 ![0] bcast_S512_S512x1_0 b)))
    (broadcastInDim S512x2500 ![] bcast_S_S512x2500 (constant S_ .f32 0x00000000#32))

theorem refHidden_apply (feat : FVec Ideal S1x512x50x50 .f32) (w : FVec Ideal S512x512x3x3 .f32) (b : FVec Ideal S512 .f32) (h : Fin 512) (y x : Fin 50) :
    refHidden feat w b (ix2 h (⟨50 * y.val + x.val, by omega⟩ : Fin 2500)) = hiddenAt feat w b y.val x.val h := by
  unfold hiddenAt Heads.hidden nine
  have z : (broadcastInDim S512x2500 ![] bcast_S_S512x2500 (constant (F := Ideal) S_ .f32 0x00000000#32)) (ix2 h (⟨50 * y.val + x.val, by omega⟩ : Fin 2500)) = (0 : EReal) :=
    Ideal.ofBits_zero_f32
  refine congrArg₂ max (congrArg₂ (· + ·) ?_ ?_) z
  · refine congrArg₂ (· + ·) (congrArg₂ (· + ·) (congrArg₂ (· + ·) (congrArg₂ (· + ·) (congrArg₂ (· + ·) (congrArg₂ (· + ·) (congrArg₂ (· + ·)
      (congrArg₂ (· + ·) (congrArg₂ (· + ·) z ?_) ?_) ?_) ?_) ?_) ?_) ?_) ?_) ?_
    · exact tapDot_apply feat w 0 0 _ _ h y x
    · exact tapDot_apply feat w 0 1 _ _ h y x
    · exact tapDot_apply feat w 0 2 _ _ h y x
    · exact tapDot_apply feat w 1 0 _ _ h y x
    · exact tapDot_apply feat w 1 1 _ _ h y x
    · exact tapDot_apply feat w 1 2 _ _ h y x
    · exact tapDot_apply feat w 2 0 _ _ h y x
    · exact tapDot_apply feat w 2 1 _ _ h y x
    · exact tapDot_apply feat w 2 2 _ _ h y x
  · refine (broadcastInDim_apply _ _ _ _ (ix2 h (0 : Fin 1)) fun a => ?_).trans (broadcastInDim_apply _ _ _ _ (ix1 h) fun a => ?_)
    · match a with
      | ⟨0, _⟩ => rfl
      | ⟨1, _⟩ => rfl
    · match a with
      | ⟨0, _⟩ => rfl

variable (m : (ℓ : Loc nD τ sig) → Buf (Elt Ideal) ℓ) (c : Dev nD)

/-- A head's scores: its weights with the hidden features, and its bias. -/
theorem cls_apply (g : FVec Ideal S512x2500 .f32) (v : FVec Ideal S9x512x1x1 .f32) (d : FVec Ideal S9 .f32) (n : Fin 22500) (p : Fin 2500) (a : Fin 9)
    (hn : n.val = 9 * p.val + a.val) :
    shapeCast S22500 (transpose S2500x9 [1, 0] (addf (Host.dotGeneral dot_S9x512_S512x2500_S9x2500_1_0_0_1_n_n none (shapeCast S9x512 v shapeCasts_S9x512x1x1_S9x512) g)
        (broadcastInDim S9x2500 ![0, 1] bcast_S9x1_S9x2500_0_1 (broadcastInDim S9x1 ![0] bcast_S9_S9x1_0 d))) transposes_S9x2500_S2500x9_1_0)
        shapeCasts_S2500x9_S22500 (ix1 n)
      = prod (fun h => g (ix2 h p)) (fun h => v (ix4 a h (0 : Fin 1) (0 : Fin 1))) + d (ix1 a) := by
  refine (shapeCast_apply _ _ _ (ix2 p a) ?_).trans ?_
  · show (S2500x9.rowMajor (ix2 _ _)).val = (S22500.rowMajor (ix1 _)).val
    rw [Shape.rowMajor_val_one, Shape.rowMajor_val_two]
    simp
    omega
  refine (transpose_apply _ _ _ _ (ix2 a p) fun b => ?_).trans ?_
  · match b with
    | ⟨0, _⟩ => rfl
    | ⟨1, _⟩ => rfl
  refine congrArg₂ (· + ·) ?_ ?_
  · rw [prod_comm]
    simp only [pointwise]
    rw [zero_add]
  · refine (broadcastInDim_apply _ _ _ _ (ix2 a (0 : Fin 1)) fun b => ?_).trans (broadcastInDim_apply _ _ _ _ (ix1 a) fun b => ?_)
    · match b with
      | ⟨0, _⟩ => rfl
      | ⟨1, _⟩ => rfl
    · match b with
      | ⟨0, _⟩ => rfl

theorem reg_apply (g : FVec Ideal S512x2500 .f32) (v : FVec Ideal S36x512x1x1 .f32) (d : FVec Ideal S36 .f32) (n : Fin 22500) (q : Fin 4) (p : Fin 2500) (a : Fin 36)
    (hn : 4 * n.val + q.val = 36 * p.val + a.val) :
    shapeCast S22500x4 (transpose S2500x36 [1, 0] (addf (Host.dotGeneral dot_S36x512_S512x2500_S36x2500_1_0_0_1_n_n none (shapeCast S36x512 v shapeCasts_S36x512x1x1_S36x512) g)
        (broadcastInDim S36x2500 ![0, 1] bcast_S36x1_S36x2500_0_1 (broadcastInDim S36x1 ![0] bcast_S36_S36x1_0 d))) transposes_S36x2500_S2500x36_1_0)
        shapeCasts_S2500x36_S22500x4 (ix2 n q)
      = prod (fun h => g (ix2 h p)) (fun h => v (ix4 a h (0 : Fin 1) (0 : Fin 1))) + d (ix1 a) := by
  refine (shapeCast_apply _ _ _ (ix2 p a) ?_).trans ?_
  · show (S2500x36.rowMajor (ix2 _ _)).val = (S22500x4.rowMajor (ix2 _ _)).val
    rw [Shape.rowMajor_val_two, Shape.rowMajor_val_two]
    simp
    omega
  refine (transpose_apply _ _ _ _ (ix2 a p) fun b => ?_).trans ?_
  · match b with
    | ⟨0, _⟩ => rfl
    | ⟨1, _⟩ => rfl
  refine congrArg₂ (· + ·) ?_ ?_
  · rw [prod_comm]
    simp only [pointwise]
    rw [zero_add]
  · refine (broadcastInDim_apply _ _ _ _ (ix2 a (0 : Fin 1)) fun b => ?_).trans (broadcastInDim_apply _ _ _ _ (ix1 a) fun b => ?_)
    · match b with
      | ⟨0, _⟩ => rfl
      | ⟨1, _⟩ => rfl
    · match b with
      | ⟨0, _⟩ => rfl

/-- The reference's class scores. -/
theorem ref_cls : (Value.res_main_v72 m c : FVec Ideal S22500 .f32)
    = clsAll (m ((c : Thread nD τ).loc main_arg0)) (m ((c : Thread nD τ).loc main_arg1)) (m ((c : Thread nD τ).loc main_arg2))
        (m ((c : Thread nD τ).loc main_arg3)) (m ((c : Thread nD τ).loc main_arg4)) := by
  funext j
  rw [ValueIdx.eq_ix1 j]
  have hj : (j 0).val < 22500 := (j 0).isLt
  unfold Value.res_main_v72
  refine (cls_apply (refHidden (m ((c : Thread nD τ).loc main_arg0)) (m ((c : Thread nD τ).loc main_arg1)) (m ((c : Thread nD τ).loc main_arg2)))
    (m ((c : Thread nD τ).loc main_arg3)) (m ((c : Thread nD τ).loc main_arg4)) (j 0)
    (⟨50 * ((j 0).val / 9 / 50) + (j 0).val / 9 % 50, by omega⟩ : Fin 2500)
    (⟨(j 0).val % 9, by omega⟩ : Fin 9) (by show (j 0).val = 9 * (50 * ((j 0).val / 9 / 50) + (j 0).val / 9 % 50) + (j 0).val % 9; omega)).trans ?_
  unfold clsAll clsAt
  refine congrArg (· + _) (congrArg (prod · _) (funext fun h => ?_))
  exact refHidden_apply _ _ _ h (⟨(j 0).val / 9 / 50, by omega⟩ : Fin 50) (⟨(j 0).val / 9 % 50, by omega⟩ : Fin 50)

/-- The reference's box shifts. -/
theorem ref_reg : (Value.res_main_v74 m c : FVec Ideal S22500x4 .f32)
    = regAll (m ((c : Thread nD τ).loc main_arg0)) (m ((c : Thread nD τ).loc main_arg1)) (m ((c : Thread nD τ).loc main_arg2))
        (m ((c : Thread nD τ).loc main_arg5)) (m ((c : Thread nD τ).loc main_arg6)) := by
  funext j
  rw [ValueIdx.eq_ix2 j]
  have hj : (j 0).val < 22500 := (j 0).isLt
  have hq : (j 1).val < 4 := (j 1).isLt
  unfold Value.res_main_v74
  refine (reg_apply (refHidden (m ((c : Thread nD τ).loc main_arg0)) (m ((c : Thread nD τ).loc main_arg1)) (m ((c : Thread nD τ).loc main_arg2)))
    (m ((c : Thread nD τ).loc main_arg5)) (m ((c : Thread nD τ).loc main_arg6)) (j 0) (j 1)
    (⟨50 * ((4 * (j 0).val + (j 1).val) / 36 / 50) + (4 * (j 0).val + (j 1).val) / 36 % 50, by omega⟩ : Fin 2500)
    (⟨(4 * (j 0).val + (j 1).val) % 36, by omega⟩ : Fin 36)
    (by show 4 * (j 0).val + (j 1).val = 36 * (50 * ((4 * (j 0).val + (j 1).val) / 36 / 50) + (4 * (j 0).val + (j 1).val) / 36 % 50) + (4 * (j 0).val + (j 1).val) % 36; omega)).trans ?_
  unfold regAll regAt
  refine congrArg (· + _) (congrArg (prod · _) (funext fun h => ?_))
  exact refHidden_apply _ _ _ h (⟨(4 * (j 0).val + (j 1).val) / 36 / 50, by omega⟩ : Fin 50) (⟨(4 * (j 0).val + (j 1).val) / 36 % 50, by omega⟩ : Fin 50)

end Cert.Proof.HeadsRef

end
-- ==== Proof.CompactForm.lean ====
module

public import proofs.«01_k».proof.Proof.Pick

@[expose] public section

noncomputable section

namespace Cert.Proof.Comp

open Cert.Proof.Sel
open scoped BigOperators
open Finset

/-- The place a kept row moves to: how many rows before it are kept. -/
def slot (g : ℕ → Prop) (n : ℕ) : ℕ := by classical exact ((range n).filter g).card

/-- The same number, as a sum of ones. -/
def slotSum (g : ℕ → Prop) (n : ℕ) : EReal := ∑ m ∈ range n, ind (g m)

theorem slotSum_eq (g : ℕ → Prop) (n : ℕ) : slotSum g n = ((slot g n : ℝ) : EReal) := by
  classical
  unfold slotSum slot
  rw [sum_ind_card]

theorem ind_real (p : Prop) : ∃ r : ℝ, ind p = (r : EReal) := by
  by_cases h : p
  · exact ⟨1, by rw [ind_pos h]; rfl⟩
  · exact ⟨0, by rw [ind_neg h]; rfl⟩

/-- The number of kept rows up to and including row `M + j`, less the row itself. -/
theorem slotSum_at (g : ℕ → Prop) (M c : ℕ) (j : Fin c) :
    slotSum g M + (∑ k : Fin c, ind (g (M + k.val)) * ind (k.val ≤ j.val)) - ind (g (M + j.val)) = slotSum g (M + j.val) := by
  have e : (∑ k : Fin c, ind (g (M + k.val)) * ind (k.val ≤ j.val)) = ∑ k ∈ range (j.val + 1), ind (g (M + k)) := by
    rw [← Finset.sum_range fun k => ind (g (M + k)) * ind (k ≤ j.val)]
    rw [← Finset.sum_subset (range_subset_range.2 (show j.val + 1 ≤ c from j.isLt))]
    · refine sum_congr rfl fun k hk => ?_
      rw [ind_pos (Nat.lt_succ_iff.1 (mem_range.1 hk)), mul_one]
    · intro k _ hk
      rw [ind_neg (fun h => hk (mem_range.2 (Nat.lt_succ_iff.2 h))), mul_zero]
  rw [e]
  have e2 : slotSum g M + ∑ k ∈ range (j.val + 1), ind (g (M + k)) = slotSum g (M + j.val) + ind (g (M + j.val)) := by
    unfold slotSum
    rw [← sum_range_add, ← Nat.add_assoc, sum_range_succ]
  rw [e2]
  obtain ⟨r, hr⟩ := ind_real (g (M + j.val))
  rw [hr, EReal.add_sub_cancel_right]

theorem slotSum_add (g : ℕ → Prop) (M c : ℕ) : slotSum g (M + c) = slotSum g M + ∑ k : Fin c, ind (g (M + k.val)) := by
  unfold slotSum
  rw [sum_range_add]
  exact congrArg _ (Finset.sum_range _)

open Classical in
/-- The scores the kept rows are ordered by: -1 for a row that is not kept. -/
def masked (g : ℕ → Prop) (s : ℕ → EReal) (n : ℕ) : EReal := if g n then s n else ((-1 : ℝ) : EReal)

/-- Of rows in the order of their scores, each above -1, a kept row has as many rows before it as kept rows stand before it. -/
theorem cnt_masked (g : ℕ → Prop) (s : ℕ → EReal) (N n : ℕ) (hn : n < N) (hg : g n)
    (hs : ∀ a b, a ≤ b → b < N → s b ≤ s a) (h0 : ∀ a, a < N → ((-1 : ℝ) : EReal) < s a) : cnt (masked g s) N n = slot g n := by
  classical
  unfold cnt slot
  congr 1
  ext m
  simp only [mem_filter, mem_range]
  have en : masked g s n = s n := if_pos hg
  unfold beats
  rw [en]
  constructor
  · rintro ⟨hm, hb⟩
    by_cases h : g m
    · have em : masked g s m = s m := if_pos h
      rw [em] at hb
      refine ⟨?_, h⟩
      rcases hb with hb | ⟨_, hb⟩
      · by_contra hc
        exact absurd (hs n m (by omega) hm) (not_le.2 hb)
      · exact hb
    · exfalso
      have em : masked g s m = ((-1 : ℝ) : EReal) := if_neg h
      have hlt := h0 n hn
      rw [em] at hb
      rcases hb with hb | ⟨hb, _⟩
      · exact absurd hb (not_lt.2 hlt.le)
      · exact absurd hb hlt.ne
  · rintro ⟨hm, h⟩
    have em : masked g s m = s m := if_pos h
    rw [em]
    refine ⟨by omega, ?_⟩
    rcases (hs m n hm.le hn).lt_or_eq with h' | h'
    · exact Or.inl h'
    · exact Or.inr ⟨h'.symm, hm⟩

open Classical in
/-- What lands at place `p`: the row of rank `p` among the masked scores where that row is kept, nothing otherwise. -/
theorem sum_slot (g : ℕ → Prop) (s : ℕ → EReal) (N p n : ℕ) (hn : n < N) (hp : cnt (masked g s) N n = p)
    (hs : ∀ a b, a ≤ b → b < N → s b ≤ s a) (h0 : ∀ a, a < N → ((-1 : ℝ) : EReal) < s a) (f : ℕ → EReal) :
    ∑ m ∈ range N, ind (g m ∧ slot g m = p) * f m = if g n then f n else 0 := by
  have hne : ∀ m, m < N → g m → slot g m = p → m = n := fun m hm hg h =>
    cnt_inj (s := masked g s) hm hn (((cnt_masked g s N m hm hg hs h0).trans h).trans hp.symm)
  by_cases hg : g n
  · rw [if_pos hg, Finset.sum_eq_single_of_mem n (mem_range.2 hn), ind_pos ⟨hg, (cnt_masked g s N n hn hg hs h0).symm.trans hp⟩, one_mul]
    intro m hm hmn
    rw [ind_neg (fun h => hmn (hne m (mem_range.1 hm) h.1 h.2)), zero_mul]
  · rw [if_neg hg]
    refine Finset.sum_eq_zero fun m hm => ?_
    rw [ind_neg, zero_mul]
    intro h
    exact hg (hne m (mem_range.1 hm) h.1 h.2 ▸ h.1)

end Cert.Proof.Comp

end
-- ==== Proof.CompactBlock.lean ====
module

public import proofs.«01_k».proof.Proof.Gen.CompactIdeal.Frame
public import proofs.«01_k».proof.Proof.CompactForm
public import Idealize.ShloMosaic.Lib.Pointwise
public import Idealize.ShloMosaic.Lib.Pipeline.ValueKit

@[expose] public section

set_option maxRecDepth 16384

noncomputable section

namespace Cert.Proof.Comp

open Cert.CompactIdeal Cert.CompactIdeal.Gen
open Cert.Proof.Sel (ind ind_pos ind_neg ind_congr decide_num sitofp_nat)
open Idealize.ShloMosaic Idealize.ShloMosaic.TcCoe Idealize.ShloMosaic.Tactic
open scoped BigOperators

theorem ofBits_half : Ideal.ofBits .f32 0x3F000000#32 = ((0.5 : ℝ) : EReal) := by
  simp [Ideal.ofBits, Ideal.ieee]
  rw [← EReal.coe_mul]; norm_num

theorem half_nonneg : (0 : EReal) ≤ ((0.5 : ℝ) : EReal) := by exact_mod_cast (by norm_num : (0 : ℝ) ≤ 0.5)

theorem pay1_apply (p : Fin 128) (l : Fin 8) : k0_pay1 (F := Ideal) (ix2 p l) = 0 := by
  pointwise [k0_pay1]

theorem pay4_apply (b : EReal) (x : Vec Ideal S1x1x128 .f32) :
    k0_pay4 (F := Ideal) b x = b + ∑ k : Fin 128, x (ix3 (0 : Fin 1) (0 : Fin 1) k) := by
  pointwise [k0_pay4, k0_pay2]
  exact congrArg _ (Fin.sum_univ_one _)

theorem row_num (i : grid0.Coords) (p : Fin 128) :
    FloatOps.sitofp (F := Ideal) .f32 (IntOp.addi (BitVec.ofNat 32 p.val) (Scalar.muli (BitVec.ofNat 32 (i 0).val) 128#32)) = (((128 * (i 0).val + p.val : ℕ) : ℝ) : EReal) := by
  have h : (i 0).val < 16 := (i 0).isLt
  have e : IntOp.addi (BitVec.ofNat 32 p.val) (Scalar.muli (BitVec.ofNat 32 (i 0).val) 128#32) = BitVec.ofNat 32 (128 * (i 0).val + p.val) := by
    show BitVec.ofNat 32 p.val + BitVec.ofNat 32 (i 0).val * 128#32 = _
    apply BitVec.eq_of_toNat_eq
    simp [BitVec.toNat_ofNat, BitVec.toNat_add, BitVec.toNat_mul]
    omega
  rw [e, sitofp_nat _ (by omega)]

theorem both_num (a b : Prop) [Decidable a] [Decidable b] :
    FloatOps.sitofp (F := Ideal) .f32 ((IntOp.andi (BitVec.ofBool (decide a)) (BitVec.ofBool (decide b))).setWidth 32) = ind (b ∧ a) := by
  rw [← decide_num (b ∧ a)]
  by_cases ha : a <;> by_cases hb : b <;> simp [ha, hb] <;> rfl

theorem pay3_apply (i : grid0.Coords) (t : Vec Ideal S128x128 .f32) (acc : FVec Ideal S128x8 .f32) (b : EReal) (x : Vec Ideal S1x1x128 .f32) (y : Vec Ideal S128x8 .f32) (p : Fin 128) (l : Fin 8) :
    k0_pay3 (F := Ideal) i t acc b x y (ix2 p l)
      = acc (ix2 p l) + ∑ k : Fin 128, ind (x (ix3 (0 : Fin 1) (0 : Fin 1) k) > ((0.5 : ℝ) : EReal) ∧
          b + (∑ j : Fin 128, x (ix3 (0 : Fin 1) (0 : Fin 1) j) * t (ix2 j k)) - x (ix3 (0 : Fin 1) (0 : Fin 1) k) = (((128 * (i 0).val + p.val : ℕ) : ℝ) : EReal)) * y (ix2 k l) := by
  pointwise [k0_pay3, k0_pay2]
  refine congrArg _ (Finset.sum_congr rfl fun k _ => ?_)
  rw [row_num, both_num, ofBits_half]

/-! ## The loop -/

/-- The flag of row `n`. -/
def flag (x1 : Vec Ideal S80x1x128 .f32) (n : ℕ) : EReal :=
  if h : n < 10240 then x1 (ix3 (⟨n / 128, by omega⟩ : Fin 80) (0 : Fin 1) (⟨n % 128, by omega⟩ : Fin 128)) else 0

/-- Whether row `n` is kept. -/
def kept (x1 : Vec Ideal S80x1x128 .f32) (n : ℕ) : Prop := ((0.5 : ℝ) : EReal) < flag x1 n

/-- Column `l` of the rows, by row number. -/
def col (x0 : Vec Ideal S10240x8 .f32) (l : Fin 8) (n : ℕ) : EReal := if h : n < 10240 then x0 (ix2 (⟨n, h⟩ : Fin 10240) l) else 0

/-- Every flag is zero or one. -/
def Flags (x1 : Vec Ideal S80x1x128 .f32) : Prop := ∀ n, n < 10240 → flag x1 n = 0 ∨ flag x1 n = 1

theorem flag_ind (x1 : Vec Ideal S80x1x128 .f32) (h : Flags x1) (n : ℕ) (hn : n < 10240) : flag x1 n = ind (kept x1 n) := by
  unfold kept
  rcases h n hn with e | e
  · rw [e, ind_neg]
    exact not_lt.2 half_nonneg
  · rw [e, ind_pos]
    exact_mod_cast (by norm_num : (0.5 : ℝ) < 1)

theorem trips : k0_t1_loop.trips = 80 := by decide +kernel

section
variable (c : Dev nD) (i : grid0.Coords) (arg1 : Memref sig .tc .vmem S10240x8 .f32) (harg1 : arg1.IsWhole) (arg2 : Memref sig .tc .vmem S80x1x128 .f32) (harg2 : arg2.IsWhole) (arg3 : Memref sig .tc .vmem S128x128 .f32) (harg3 : arg3.IsWhole) (arg4 : Memref sig .tc .vmem S128x8 .f32) (harg4 : arg4.IsWhole)
    (x0 : Vec Ideal S10240x8 .f32) (x1 : Vec Ideal S80x1x128 .f32) (x2 : Vec Ideal S128x128 .f32)

theorem load_flags (k : Fin k0_t1_loop.trips) (l : Fin 128) :
    arg2.view.readAt (Elt Ideal) (Rect.unit (s := S80x1x128) (k0_off1 k) S1x1x128.size (k0_off1_inb k)).toLoadRect (harg2.unread x1) (ix3 (0 : Fin 1) (0 : Fin 1) l) = flag x1 (128 * k.val + l.val) := by
  have hk : k.val < 80 := Nat.lt_of_lt_of_le k.isLt k0_t1_abs.2.1
  rw [View.readAt_eq_ld, Memref.IsWhole.read_unread]
  rw [View.ld_unit_apply_of x1 (k0_off1 k) S1x1x128.size _ _ (ix3 (⟨k.val, hk⟩ : Fin 80) (0 : Fin 1) l) (by
    intro a; rw [show k0_off1 k a = (![k.val, 0, 0] : Fin 3 → ℕ) a from congrFun (k0_off1_eq k) a]; fin_cases a <;> simp [ix3])]
  unfold flag
  rw [dif_pos (by omega)]
  have e1 : (⟨k.val, hk⟩ : Fin 80) = ⟨(128 * k.val + l.val) / 128, by omega⟩ := Fin.ext (by show k.val = (128 * k.val + l.val) / 128; omega)
  have e2 : l = (⟨(128 * k.val + l.val) % 128, by omega⟩ : Fin 128) := Fin.ext (by show l.val = (128 * k.val + l.val) % 128; omega)
  rw [← e1, ← e2]

theorem load_rows (k : Fin k0_t1_loop.trips) (m : Fin 128) (l : Fin 8) :
    arg1.view.readAt (Elt Ideal) (Rect.unit (s := S10240x8) (k0_off2 k) S128x8.size (k0_off2_inb k)).toLoadRect (harg1.unread x0) (ix2 m l) = col x0 l (128 * k.val + m.val) := by
  have hk : k.val < 80 := Nat.lt_of_lt_of_le k.isLt k0_t1_abs.2.1
  rw [View.readAt_eq_ld, Memref.IsWhole.read_unread]
  rw [View.ld_unit_apply_of x0 (k0_off2 k) S128x8.size _ _ (ix2 (⟨128 * k.val + m.val, by omega⟩ : Fin 10240) l) (by
    intro a; rw [show k0_off2 k a = (![128 * k.val, 0] : Fin 2 → ℕ) a from congrFun (k0_off2_eq k) a]; fin_cases a <;> simp [ix2])]
  unfold col
  rw [dif_pos (by omega : 128 * k.val + m.val < 10240)]

/-- What a trip makes of the rows moved so far and of the number of kept rows so far. -/
theorem trip_eq (k : Fin k0_t1_loop.trips) (v5 : Vec Ideal S128x128 .f32) (acc : FVec Ideal S128x8 .f32 × EReal) :
    tripR_k0_t1 (F := Ideal) Variants.none c none i arg1 harg1 arg2 harg2 arg3 harg3 arg4 harg4 v5 (harg1.unread x0) (harg2.unread x1) k acc
      = (k0_pay3 i v5 acc.1 acc.2 (arg2.view.readAt (Elt Ideal) (Rect.unit (s := S80x1x128) (k0_off1 k) S1x1x128.size (k0_off1_inb k)).toLoadRect (harg2.unread x1))
          (arg1.view.readAt (Elt Ideal) (Rect.unit (s := S10240x8) (k0_off2 k) S128x8.size (k0_off2_inb k)).toLoadRect (harg1.unread x0)),
        k0_pay4 acc.2 (arg2.view.readAt (Elt Ideal) (Rect.unit (s := S80x1x128) (k0_off1 k) S1x1x128.size (k0_off1_inb k)).toLoadRect (harg2.unread x1))) := by
  unfold tripR_k0_t1 trip_k0_t1
  rfl

/-- The matrix of ones above the diagonal. -/
def Upper (t : Vec Ideal S128x128 .f32) : Prop := ∀ j k : Fin 128, t (ix2 j k) = ind (j.val ≤ k.val)

variable (hx : Flags x1) (v5 : Vec Ideal S128x128 .f32) (hv : Upper v5)

include hx hv in
theorem st_apply (p : Fin 128) (l : Fin 8) : ∀ k, k ≤ k0_t1_loop.trips →
    (st_k0_t1 (F := Ideal) Variants.none c none i arg1 harg1 arg2 harg2 arg3 harg3 arg4 harg4 v5 (harg1.unread x0) (harg2.unread x1) (k0_pay1 (F := Ideal), Scalar.ofBits .f32 0x00000000#32) k).1 (ix2 p l)
        = ∑ m ∈ Finset.range (128 * k), ind (kept x1 m ∧ slot (kept x1) m = 128 * (i 0).val + p.val) * col x0 l m
      ∧ (st_k0_t1 (F := Ideal) Variants.none c none i arg1 harg1 arg2 harg2 arg3 harg3 arg4 harg4 v5 (harg1.unread x0) (harg2.unread x1) (k0_pay1 (F := Ideal), Scalar.ofBits .f32 0x00000000#32) k).2
        = slotSum (kept x1) (128 * k) := by
  intro k
  induction k with
  | zero =>
    intro _
    rw [st_k0_t1_zero]
    refine ⟨(pay1_apply p l).trans (by simp), ?_⟩
    show Ideal.ofBits .f32 0x00000000#32 = _
    rw [Ideal.ofBits_zero_f32]
    simp [slotSum]
  | succ k ih =>
    intro hk
    have hk' : k < 80 := by rw [trips] at hk; omega
    obtain ⟨e1, e2⟩ := ih (Nat.le_of_succ_le hk)
    rw [st_k0_t1_succ (F := Ideal) Variants.none c none i arg1 harg1 arg2 harg2 arg3 harg3 arg4 harg4 v5 _ _ _ ⟨k, hk⟩, trip_eq]
    dsimp only
    generalize st_k0_t1 (F := Ideal) Variants.none c none i arg1 harg1 arg2 harg2 arg3 harg3 arg4 harg4 v5 (harg1.unread x0) (harg2.unread x1) (k0_pay1 (F := Ideal), Scalar.ofBits .f32 0x00000000#32) k = z at e1 e2 ⊢
    have hf : ∀ j : Fin 128, arg2.view.readAt (Elt Ideal) (Rect.unit (s := S80x1x128) (k0_off1 ⟨k, hk⟩) S1x1x128.size (k0_off1_inb ⟨k, hk⟩)).toLoadRect (harg2.unread x1) (ix3 (0 : Fin 1) (0 : Fin 1) j) = ind (kept x1 (128 * k + j.val)) := fun j =>
      (load_flags arg2 harg2 x1 ⟨k, hk⟩ j).trans (flag_ind x1 hx (128 * k + j.val) (by omega))
    constructor
    · refine (pay3_apply i v5 z.1 z.2 _ _ p l).trans ?_
      rw [e1, e2, Nat.mul_succ, Finset.sum_range_add]
      refine congrArg _ ((Finset.sum_congr rfl fun j _ => ?_).trans (Finset.sum_range fun m => ind (kept x1 (128 * k + m) ∧ slot (kept x1) (128 * k + m) = 128 * (i 0).val + p.val) * col x0 l (128 * k + m)).symm)
      rw [load_rows arg1 harg1 x0 ⟨k, hk⟩ j l]
      refine congrArg (· * _) (ind_congr ?_)
      simp only [hf, hv _ _]
      rw [slotSum_at (kept x1) (128 * k) 128 j, slotSum_eq, EReal.coe_eq_coe_iff]
      refine and_congr ?_ (by exact_mod_cast Iff.rfl)
      by_cases hg : kept x1 (128 * k + j.val)
      · rw [ind_pos hg]
        exact ⟨fun _ => hg, fun _ => by show ((0.5 : ℝ) : EReal) < 1; exact_mod_cast (by norm_num : (0.5 : ℝ) < 1)⟩
      · rw [ind_neg hg]
        exact ⟨fun h => absurd h (not_lt.2 half_nonneg), fun h => absurd h hg⟩
    · refine (pay4_apply z.2 _).trans ?_
      rw [e2, Nat.mul_succ, slotSum_add]
      exact congrArg _ (Finset.sum_congr rfl fun j _ => hf j)

include hx in
/-- The block of rows that grid point `i` stores. -/
theorem out_rows (hv : Upper x2) (p : Fin 128) (l : Fin 8) :
    out0_A_3 c i arg1 harg1 arg2 harg2 arg3 harg3 arg4 harg4 x0 x1 x2 (ix2 p l)
      = ∑ m ∈ Finset.range 10240, ind (kept x1 m ∧ slot (kept x1) m = 128 * (i 0).val + p.val) * col x0 l m := by
  have ev : arg3.view.readAt (Elt Ideal) (Rect.unit (s := S128x128) ![0, 0] S128x128.size inb_S128x128_S128x128_0_0).toLoadRect (harg3.unread x2) = x2 := by
    funext y
    rw [View.readAt_eq_ld, Memref.IsWhole.read_unread]
    refine View.ld_unit_apply_of x2 _ S128x128.size _ _ _ fun a => ?_
    fin_cases a <;> simp
  have e := (st_apply c i arg1 harg1 arg2 harg2 arg3 harg3 arg4 harg4 x0 x1 hx x2 hv p l _ (le_refl k0_t1_loop.trips)).1
  rw [show 128 * k0_t1_loop.trips = 10240 from by rw [trips]] at e
  rw [← e]
  unfold out0_A_3
  rw [View.read_writes_junk_eq_canon]
  unfold kernelRun0_A
  dsimp only
  sl_unfold_run_names
  rw [View.canon_unit_zero (by funext a; fin_cases a <;> rfl)]
  rw [ev]
end

end Cert.Proof.Comp

end
-- ==== Proof.CompactHost.lean ====
module

public import proofs.«01_k».proof.Proof.CompactBlock
public import Idealize.ShloMosaic.Lib.Claim
public import Idealize.ShloMosaic.Lib.Routing.OpsOne
public import Idealize.ShloMosaic.Lib.Routing.OpsPair
public import Idealize.ShloMosaic.Lib.ValueLayout
public import Idealize.ShloMosaic.Lib.IdealHost

@[expose] public section

set_option maxRecDepth 16384

noncomputable section

namespace Cert.Proof.Comp

open Cert.CompactIdeal Cert.CompactIdeal.Gen
open Cert.Proof.Sel (ind ind_pos ind_neg ind_congr)
open Idealize.ShloMosaic Idealize.ShloMosaic.TcCoe Idealize.ShloMosaic.Tactic
open scoped BigOperators

theorem index0_0 : ∀ t : Fin cfg0.N, win0_0.index t = ![0, 0] := (by decide +kernel : ∀ t : Fin grid0.N, win0_0.index t = ![0, 0])
theorem index0_1 : ∀ t : Fin cfg0.N, win0_1.index t = ![0, 0, 0] := (by decide +kernel : ∀ t : Fin grid0.N, win0_1.index t = ![0, 0, 0])
theorem index0_2 : ∀ t : Fin cfg0.N, win0_2.index t = ![0, 0] := (by decide +kernel : ∀ t : Fin grid0.N, win0_2.index t = ![0, 0])
theorem index0_3 : ∀ t : Fin cfg0.N, win0_3.index t = ![(grid0.coords t 0).val, 0] := (by decide +kernel : ∀ t : Fin grid0.N, win0_3.index t = ![(grid0.coords t 0).val, 0])

variable (m : (ℓ : Loc nD τ sig) → Buf (Elt Ideal) ℓ) (c : Dev nD)

/-! The input windows hold their arrays whole. -/

theorem blk_0 (t : Fin cfg0.N) (x : Buf (Elt Ideal) ((c : Thread nD τ).loc (Pipeline.arrRef spec0 0))) (y : S10240x8.Idx) :
    ((cfg0.win 0).blk t).view.read (Elt Ideal) x y = (x : Vec Ideal S10240x8 .f32) y := by
  blk_ext [index0_0 t]
theorem blk_1 (t : Fin cfg0.N) (x : Buf (Elt Ideal) ((c : Thread nD τ).loc (Pipeline.arrRef spec0 1))) (y : S80x1x128.Idx) :
    ((cfg0.win 1).blk t).view.read (Elt Ideal) x y = (x : Vec Ideal S80x1x128 .f32) y := by
  blk_ext [index0_1 t]
theorem blk_2 (t : Fin cfg0.N) (x : Buf (Elt Ideal) ((c : Thread nD τ).loc (Pipeline.arrRef spec0 2))) (y : S128x128.Idx) :
    ((cfg0.win 2).blk t).view.read (Elt Ideal) x y = (x : Vec Ideal S128x128 .f32) y := by
  blk_ext [index0_2 t]

theorem iblk_0 (t : Fin cfg0.N) : iblk m c 0 t = V m c (Pipeline.arrRef spec0 0) := funext fun y => blk_0 c t _ y
theorem iblk_1 (t : Fin cfg0.N) : iblk m c 1 t = V m c (Pipeline.arrRef spec0 1) := funext fun y => blk_1 c t _ y
theorem iblk_2 (t : Fin cfg0.N) : iblk m c 2 t = V m c (Pipeline.arrRef spec0 2) := funext fun y => blk_2 c t _ y

/-- The array of the launch: at each place the kept row that has as many kept rows before it. -/
def movedRows (x0 : Vec Ideal S10240x8 .f32) (x1 : Vec Ideal S80x1x128 .f32) : Vec Ideal S2048x8 .f32 :=
  fun j => ∑ n ∈ Finset.range 10240, ind (kept x1 n ∧ slot (kept x1) n = (j 0).val) * col x0 (j 1) n

theorem block_rows (hx : Flags (V m c main_arg1)) (hv : Upper (V m c main_v3)) (t : Fin cfg0.N) (p : Fin 128) (l : Fin 8) (hr : 128 * (grid0.coords t 0).val + p.val < 2048) :
    outsAt0 m c t (ix2 p l) = movedRows (V m c main_arg0) (V m c main_arg1) (ix2 (⟨128 * (grid0.coords t 0).val + p.val, hr⟩ : Fin 2048) l) := by
  unfold outsAt0
  rw [iblk_0, iblk_1, iblk_2]
  exact out_rows c (grid0.coords t) _ _ _ _ _ _ _ _ _ _ _ hx hv p l

theorem moved_arr (hx : Flags (V m c main_arg1)) (hv : Upper (V m c main_v3)) :
    (dats m 0 c).arrAt 3 cfg0.N = movedRows (V m c main_arg0) (V m c main_arg1) := by
  have h := block_rows m c hx hv
  generalize movedRows (V m c main_arg0) (V m c main_arg1) = G at h ⊢
  refine (dats m 0 c).arrAt_eq_of_covers 3 _ (by decide +kernel) fun t hf (y : S128x8.Idx) => ?_
  have hy0 : (y 0).val < 128 := (y 0).isLt
  have ht : (grid0.coords t 0).val < 16 := (grid0.coords t 0).isLt
  have hr : 128 * (grid0.coords t 0).val + (y 0).val < 2048 := by omega
  have e1 : (((cfg0.win 3).blk t).view.emb y) 1 = y 1 := by
    apply Fin.ext; blk_simp [index0_3 t]
  have e0 : (((cfg0.win 3).blk t).view.emb y) 0 = (⟨128 * (grid0.coords t 0).val + (y 0).val, hr⟩ : Fin 2048) := by
    apply Fin.ext; blk_simp [index0_3 t]; simp [mul_comm]
  have hy : y = (ix2 (y 0) (y 1) : S128x8.Idx) := by
    funext a; fin_cases a <;> rfl
  have h' := h t (y 0) (y 1) hr
  rw [← after0_3] at h'
  have e : ((cfg0.win 3).blk t).view.emb y = (ix2 (⟨128 * (grid0.coords t 0).val + (y 0).val, hr⟩ : Fin 2048) (y 1) : S2048x8.Idx) := by
    funext a
    match a with
    | ⟨0, _⟩ => exact e0
    | ⟨1, _⟩ => exact e1
  refine Eq.trans ?_ (h'.trans ?_)
  · rw [hy]; rfl
  · rw [e]

/-! ## The host -/

theorem V_at (b : Ref sig .tc) : V m c b = StableHlo.after hostOps0 (fun b => m (c, b)) (Proc.devRef .tc b) := by
  have e : List.flatten [hostOps0 (F := Ideal)] = hostOps0 := List.append_nil _
  show StableHlo.after (List.flatten [hostOps0]) _ (Proc.devRef .tc b) = _
  rw [e]

theorem le_word (a b : Fin 128) : IntOp.cmpi .sle (BitVec.ofNat 32 a.val) (BitVec.ofNat 32 b.val) = BitVec.ofBool (decide (a.val ≤ b.val)) := by
  show BitVec.ofBool ((BitVec.ofNat 32 a.val).sle (BitVec.ofNat 32 b.val)) = _
  have h : ∀ n < 128, (BitVec.ofNat 32 n).toInt = (n : ℤ) := fun n hn => by
    rw [BitVec.toInt_eq_toNat_of_lt] <;> simp [BitVec.toNat_ofNat] <;> omega
  rw [BitVec.sle_eq_decide, h a.val a.isLt, h b.val b.isLt]
  exact congrArg BitVec.ofBool (decide_eq_decide.2 (by omega))

/-- The matrix the host lays out has ones on and above its diagonal. -/
theorem upper_at : Upper (V m c main_v3) := by
  have e : (V m c main_v3 : Vec Ideal S128x128 .f32) = (uitofp (F := Ideal) .f32 (cmpi .sle (iotaInDim S128x128 32 0) (iotaInDim S128x128 32 1)) : Vec Ideal S128x128 .f32) := by
    rw [V_at m c main_v3]
    entry_read
    rfl
  intro j k
  rw [e]
  show FloatOps.uitofp (F := Ideal) .f32 (IntOp.cmpi .sle (BitVec.ofNat 32 j.val) (BitVec.ofNat 32 k.val)) = _
  rw [le_word]
  by_cases h : j.val ≤ k.val
  · rw [ind_pos h, decide_eq_true h]
    show (((BitVec.ofBool true).toNat : ℝ) : EReal) = 1
    simp
  · rw [ind_neg h, decide_eq_false h]
    show (((BitVec.ofBool false).toNat : ℝ) : EReal) = 0
    simp

/-- The first result from the launch's rows. -/
def boxesOf (z : Vec Ideal S2048x8 .f32) : Vec Ideal S2000x4 .f32 := extractStridedSlice S2000x4 ![0, 0] z slices_S2048x8_S2000x4_0_0

/-- The second result from the launch's rows. -/
def scoresOf (z : Vec Ideal S2048x8 .f32) : Vec Ideal S2000 .f32 :=
  shapeCast S2000 (extractStridedSlice S2000x1 ![0, 6] z slices_S2048x8_S2000x1_0_6) shapeCasts_S2000x1_S2000

theorem boxesOf_apply (z : Vec Ideal S2048x8 .f32) (p : Fin 2000) (l : Fin 4) : boxesOf z (ix2 p l) = z (ix2 (⟨p.val, by omega⟩ : Fin 2048) (⟨l.val, by omega⟩ : Fin 8)) := by
  refine extractStridedSlice_apply _ _ _ _ _ fun a => ?_
  match a with
  | ⟨0, _⟩ => show p.val = 0 + p.val; omega
  | ⟨1, _⟩ => show l.val = 0 + l.val; omega

theorem scoresOf_apply (z : Vec Ideal S2048x8 .f32) (p : Fin 2000) : scoresOf z (ix1 p) = z (ix2 (⟨p.val, by omega⟩ : Fin 2048) (6 : Fin 8)) := by
  refine (shapeCast_apply _ _ _ (ix2 p (0 : Fin 1)) ?_).trans ?_
  · show (S2000x1.rowMajor (ix2 _ _)).val = (S2000.rowMajor (ix1 _)).val
    rw [Shape.rowMajor_val_one, Shape.rowMajor_val_two]
    simp
  refine extractStridedSlice_apply _ _ _ _ _ fun a => ?_
  match a with
  | ⟨0, _⟩ => show p.val = 0 + p.val; omega
  | ⟨1, _⟩ => rfl

theorem tail_at (b : Ref sig .tc) :
    Pipeline.afterTail₀ cfgs (dats m) 0 (V0 m) [hostOps1] c b
      = StableHlo.after hostOps1 (Pipeline.withArrays spec0 c (V0 m c) fun w => (dats m 0 c).arrAt w cfg0.N) (Proc.devRef .tc b) := by
  have e : List.flatten [hostOps1 (F := Ideal)] = hostOps1 := List.append_nil _
  show StableHlo.after (List.flatten [hostOps1]) _ (Proc.devRef .tc b) = _
  rw [e]

theorem after_boxes (σ : Valuation τ sig (Elt Ideal)) : (StableHlo.after hostOps1 σ (Proc.devRef .tc main_v5) : Vec Ideal S2000x4 .f32) = boxesOf (σ (Proc.devRef .tc main_v4)) := by
  entry_read
  rfl

theorem after_scores (σ : Valuation τ sig (Elt Ideal)) : (StableHlo.after hostOps1 σ (Proc.devRef .tc main_v7) : Vec Ideal S2000 .f32) = scoresOf (σ (Proc.devRef .tc main_v4)) := by
  entry_read
  rfl

theorem rows_at (hx : Flags (m ((c : Thread nD τ).loc main_arg1))) :
    (Pipeline.withArrays spec0 c (V0 m c) (fun w => (dats m 0 c).arrAt w cfg0.N) (Proc.devRef .tc main_v4) : Vec Ideal S2048x8 .f32)
      = movedRows (m ((c : Thread nD τ).loc main_arg0)) (m ((c : Thread nD τ).loc main_arg1)) := by
  have e0 := V_main_arg0 m c
  have e1 := V_main_arg1 m c
  have h := moved_arr m c (by rw [e1]; exact hx) (upper_at m c)
  rw [e0, e1] at h
  exact (Pipeline.withArrays_arr spec0 launch0.win.arr_inj c (V0 m c) (fun w => (dats m 0 c).arrAt w cfg0.N) 3).trans h

theorem kernel_boxes (hx : Flags (m ((c : Thread nD τ).loc main_arg1))) : (Pipeline.afterTail₀ cfgs (dats m) 0 (V0 m) [hostOps1] c main_v5 : Vec Ideal S2000x4 .f32)
    = boxesOf (movedRows (m ((c : Thread nD τ).loc main_arg0)) (m ((c : Thread nD τ).loc main_arg1))) := by
  rw [tail_at]
  refine (after_boxes _).trans ?_
  rw [rows_at m c hx]

theorem kernel_scores (hx : Flags (m ((c : Thread nD τ).loc main_arg1))) : (Pipeline.afterTail₀ cfgs (dats m) 0 (V0 m) [hostOps1] c main_v7 : Vec Ideal S2000 .f32)
    = scoresOf (movedRows (m ((c : Thread nD τ).loc main_arg0)) (m ((c : Thread nD τ).loc main_arg1))) := by
  rw [tail_at]
  refine (after_scores _).trans ?_
  rw [rows_at m c hx]

end Cert.Proof.Comp

end
-- ==== Proof.CompactPre.lean ====
module

public import proofs.«01_k».proof.Proof.CompactBlock
public import proofs.«01_k».proof.Proof.Score
public import proofs.«01_k».proof.Proof.Gen.Pre_in_order
public import Idealize.ShloMosaic.Lib.ReduceAll
public import Idealize.ShloMosaic.Lib.ValueLayout

@[expose] public section

set_option maxRecDepth 16384

noncomputable section

namespace Cert.Proof.CompPre

open Cert.Pre_in_order Cert.Pre_in_order.Gen
open Cert.Proof.Comp (flag kept col Flags)
open Idealize.ShloMosaic Idealize.ShloMosaic.TcCoe

variable (x0 : FVec Ideal S10240x8 .f32) (x1 : FVec Ideal S80x1x128 .f32)

/-- The scores the precondition reads. -/
def scores : FVec Ideal S10240 .f32 := shapeCast S10240 (extractStridedSlice S10240x1 ![0, 6] x0 slices_S10240x8_S10240x1_0_6) shapeCasts_S10240x1_S10240

theorem scores_apply (n : Fin 10240) : scores x0 (ix1 n) = col x0 6 n.val := by
  unfold col
  rw [dif_pos n.isLt]
  refine (shapeCast_apply _ _ _ (ix2 n (0 : Fin 1)) ?_).trans ?_
  · show (S10240x1.rowMajor (ix2 _ _)).val = (S10240.rowMajor (ix1 _)).val
    rw [Shape.rowMajor_val_one, Shape.rowMajor_val_two]
    simp
  refine extractStridedSlice_apply _ _ _ _ _ fun a => ?_
  match a with
  | ⟨0, _⟩ => show n.val = 0 + n.val; omega
  | ⟨1, _⟩ => rfl

theorem ofBool_true (p : Prop) [Decidable p] (h : BitVec.ofBool (decide p) = 1#1) : p := by
  by_contra hp
  rw [decide_eq_false hp] at h
  exact absurd h (by decide)

/-- What the precondition says: the scores fall, each is above -1, and every flag is zero or one. -/
theorem in_order (h : Cert.Pre_in_order.fn (F := Ideal) x0 x1 = fun _ => 1#1) :
    Flags x1 ∧ (∀ a b, a ≤ b → b < 10240 → col x0 6 b ≤ col x0 6 a) ∧ ∀ a, a < 10240 → ((-1 : ℝ) : EReal) < col x0 6 a := by
  have hsub : Subsingleton S_.Idx := ⟨fun a b => funext fun k => k.elim0⟩
  have h0 := congrFun h (fun k => k.elim0 : S_.Idx)
  obtain ⟨h12, h3⟩ := IntOp.andi_eq_one.1 h0
  obtain ⟨h1, h2⟩ := IntOp.andi_eq_one.1 h12
  have k1 := Host.reduce_andi_all _ _ reducesTo_S10239_S_d0 h_S_ _ h1
  have k2 := Host.reduce_andi_all _ _ reducesTo_S10240_S_d0 h_S_ _ h2
  have k3 := Host.reduce_andi_all _ _ reducesTo_S80x1x128_S_d0_1_2 h_S_ _ h3
  clear h h0 h12 h1 h2 h3
  refine ⟨fun n hn => ?_, ?_, fun a ha => ?_⟩
  · have k : IntOp.ori (BitVec.ofBool (decide (x1 (ix3 (⟨n / 128, by omega⟩ : Fin 80) (0 : Fin 1) (⟨n % 128, by omega⟩ : Fin 128)) = Ideal.ofBits .f32 0x00000000#32)))
        (BitVec.ofBool (decide (x1 (ix3 (⟨n / 128, by omega⟩ : Fin 80) (0 : Fin 1) (⟨n % 128, by omega⟩ : Fin 128)) = Ideal.ofBits .f32 0x3F800000#32))) = 1#1 :=
      k3 (ix3 (⟨n / 128, by omega⟩ : Fin 80) (0 : Fin 1) (⟨n % 128, by omega⟩ : Fin 128))
    rw [Ideal.ofBits_zero_f32, Ideal.ofBits_one_f32] at k
    unfold flag
    rw [dif_pos hn]
    by_cases e0 : x1 (ix3 (⟨n / 128, by omega⟩ : Fin 80) (0 : Fin 1) (⟨n % 128, by omega⟩ : Fin 128)) = 0
    · exact Or.inl e0
    · by_cases e1 : x1 (ix3 (⟨n / 128, by omega⟩ : Fin 80) (0 : Fin 1) (⟨n % 128, by omega⟩ : Fin 128)) = 1
      · exact Or.inr e1
      · rw [decide_eq_false e0, decide_eq_false e1] at k
        exact absurd k (by decide)
  · have step : ∀ n, n + 1 < 10240 → col x0 6 (n + 1) ≤ col x0 6 n := fun n hn => by
      have k := k1 (ix1 (⟨n, by omega⟩ : Fin 10239))
      have ea : extractStridedSlice S10239 ![0] (scores x0) slices_S10240_S10239_0 (ix1 (⟨n, by omega⟩ : Fin 10239)) = col x0 6 n := by
        refine Eq.trans (extractStridedSlice_apply _ _ _ _ (ix1 (⟨n, by omega⟩ : Fin 10240)) fun a => ?_) (scores_apply x0 ⟨n, by omega⟩)
        obtain rfl : a = (0 : Fin 1) := Subsingleton.elim (α := Fin 1) _ _
        show n = 0 + n
        omega
      have eb : extractStridedSlice S10239 ![1] (scores x0) slices_S10240_S10239_1 (ix1 (⟨n, by omega⟩ : Fin 10239)) = col x0 6 (n + 1) := by
        refine Eq.trans (extractStridedSlice_apply _ _ _ _ (ix1 (⟨n + 1, hn⟩ : Fin 10240)) fun a => ?_) (scores_apply x0 ⟨n + 1, hn⟩)
        obtain rfl : a = (0 : Fin 1) := Subsingleton.elim (α := Fin 1) _ _
        show n + 1 = 1 + n
        omega
      have k' : BitVec.ofBool (decide (extractStridedSlice S10239 ![1] (scores x0) slices_S10240_S10239_1 (ix1 (⟨n, by omega⟩ : Fin 10239))
        ≤ extractStridedSlice S10239 ![0] (scores x0) slices_S10240_S10239_0 (ix1 (⟨n, by omega⟩ : Fin 10239)))) = 1#1 := k
      rw [ea, eb] at k'
      exact ofBool_true _ k'
    intro a b hab
    induction b, hab using Nat.le_induction with
    | base => exact fun _ => le_refl _
    | succ b _ ih => exact fun hb => (step b hb).trans (ih (by omega))
  · have k : BitVec.ofBool (decide (Ideal.ofBits .f32 0xBF800000#32 < scores x0 (ix1 (⟨a, ha⟩ : Fin 10240)))) = 1#1 := k2 (ix1 (⟨a, ha⟩ : Fin 10240))
    rw [scores_apply, Sel.ofBits_neg_one] at k
    exact ofBool_true _ k

end Cert.Proof.CompPre

end
-- ==== Proof.CompactRef.lean ====
module

public import proofs.«01_k».proof.Proof.CompactBlock
public import proofs.«01_k».proof.Proof.RefVals
public import proofs.«01_k».proof.Proof.Gen.CompactReferenceIdeal.Run
public import Idealize.ShloMosaic.Lib.Routing.OpsSet
public import Idealize.ShloMosaic.Lib.ValueLayout

@[expose] public section

set_option maxRecDepth 16384

noncomputable section

namespace Cert.Proof.CompRef

open Cert.CompactReferenceIdeal Cert.CompactReferenceIdeal.Gen
open Cert.Proof.Comp (flag kept col masked)
open Cert.Proof.Sel (cnt)
open Idealize.ShloMosaic Idealize.ShloMosaic.TcCoe

variable (x0 : FVec Ideal S10240x8 .f32) (x1 : FVec Ideal S80x1x128 .f32)

/-- The reference's flags. -/
def keepBits : IVec S10240 1 :=
  cmpf .ogt (shapeCast _ x1 shapeCasts_S80x1x128_S10240) (broadcastInDim S10240 ![] bcast_S_S10240 (constant (F := Ideal) S_ .f32 0x3F000000#32))

/-- The reference's scores. -/
def rowScores : FVec Ideal S10240 .f32 := shapeCast _ (extractStridedSlice S10240x1 ![0, 6] x0 slices_S10240x8_S10240x1_0_6) shapeCasts_S10240x1_S10240

/-- The reference's scores, -1 where the row is not kept. -/
def maskedScores : FVec Ideal S10240 .f32 :=
  select (keepBits x1) (rowScores x0) (broadcastInDim S10240 ![] bcast_S_S10240 (id (constant (F := Ideal) S_ .f32 0xBF800000#32)))

/-- The positions of the highest of them. -/
def highest : IVec S2000 32 := (Host.topK S2000 0 (FloatOps.cmpfTotal (F := Ideal) .gt) (maskedScores x0 x1) sliceFits_S10240_S2000).2

/-- The same positions, as the reference reads rows at them. -/
def rowsAt : IVec S2000x1 32 :=
  broadcastInDim S2000x1 ![0] bcast_S2000_S2000x1_0
    (select (cmpi .slt (highest x0 x1) (broadcastInDim S2000 ![] bcast_S_S2000 (constantI S_ 32 0#32)))
      (addi (highest x0 x1) (broadcastInDim S2000 ![] bcast_S_S2000 (constantI S_ 32 10240#32))) (highest x0 x1))

/-- The reference's first result. -/
def refBoxes : FVec Ideal S2000x4 .f32 :=
  select (broadcastInDim S2000x4 ![0, 1] bcast_S2000x1_S2000x4_0_1 (broadcastInDim S2000x1 ![0] bcast_S2000_S2000x1_0 (Host.gather gather_S10240_S2000x1_S2000_n_0_n_n_0_1_1 (keepBits x1) (rowsAt x0 x1))))
    (Host.gather gather_S10240x4_S2000x1_S2000x4_1_0_n_n_0_1_14 (extractStridedSlice S10240x4 ![0, 0] x0 slices_S10240x8_S10240x4_0_0) (rowsAt x0 x1))
    (broadcastInDim S2000x4 ![] bcast_S_S2000x4 (id (constant (F := Ideal) S_ .f32 0x00000000#32)))

/-- The reference's second result. -/
def refScores : FVec Ideal S2000 .f32 :=
  select (Host.gather gather_S10240_S2000x1_S2000_n_0_n_n_0_1_1 (keepBits x1) (rowsAt x0 x1))
    (Host.gather gather_S10240_S2000x1_S2000_n_0_n_n_0_1_1 (rowScores x0) (rowsAt x0 x1))
    (broadcastInDim S2000 ![] bcast_S_S2000 (id (constant (F := Ideal) S_ .f32 0x00000000#32)))

theorem flag_cast (n : Fin 10240) : shapeCast S10240 x1 shapeCasts_S80x1x128_S10240 (ix1 n) = flag x1 n.val := by
  unfold flag
  rw [dif_pos n.isLt]
  refine shapeCast_apply _ _ _ (ix3 (⟨n.val / 128, by omega⟩ : Fin 80) (0 : Fin 1) (⟨n.val % 128, by omega⟩ : Fin 128)) ?_
  show (S80x1x128.rowMajor (ix3 _ _ _)).val = (S10240.rowMajor (ix1 _)).val
  rw [Shape.rowMajor_val_one, Shape.rowMajor_val_three]
  show ((n.val / 128 * 1 + 0) * 128 + n.val % 128 : ℕ) = n.val
  omega

open Classical in
theorem keepBits_apply (n : Fin 10240) : keepBits x1 (ix1 n) = BitVec.ofBool (decide (kept x1 n.val)) := by
  unfold kept
  rw [← flag_cast x1 n, ← Comp.ofBits_half]
  show BitVec.ofBool (decide (Ideal.ofBits .f32 0x3F000000#32 < shapeCast S10240 x1 shapeCasts_S80x1x128_S10240 (ix1 n))) = _
  exact congrArg BitVec.ofBool (decide_eq_decide.2 Iff.rfl)

theorem rowScores_apply (n : Fin 10240) : rowScores x0 (ix1 n) = col x0 6 n.val := by
  unfold col
  rw [dif_pos n.isLt]
  refine (shapeCast_apply _ _ _ (ix2 n (0 : Fin 1)) ?_).trans ?_
  · show (S10240x1.rowMajor (ix2 _ _)).val = (S10240.rowMajor (ix1 _)).val
    rw [Shape.rowMajor_val_one, Shape.rowMajor_val_two]
    simp
  refine extractStridedSlice_apply _ _ _ _ _ fun a => ?_
  match a with
  | ⟨0, _⟩ => show n.val = 0 + n.val; omega
  | ⟨1, _⟩ => rfl

theorem boxes_apply (n : Fin 10240) (l : Fin 4) :
    extractStridedSlice S10240x4 ![0, 0] x0 slices_S10240x8_S10240x4_0_0 (ix2 n l) = col x0 ⟨l.val, by omega⟩ n.val := by
  unfold col
  rw [dif_pos n.isLt]
  refine extractStridedSlice_apply _ _ _ _ _ fun a => ?_
  match a with
  | ⟨0, _⟩ => show n.val = 0 + n.val; omega
  | ⟨1, _⟩ => show l.val = 0 + l.val; omega

theorem ofBool_one (p : Prop) [Decidable p] : BitVec.ofBool (decide p) = 1 ↔ p := by
  by_cases h : p <;> simp [h]

theorem maskedScores_apply (n : Fin 10240) : maskedScores x0 x1 (ix1 n) = masked (kept x1) (col x0 6) n.val := by
  classical
  show (if keepBits x1 (ix1 n) = 1 then rowScores x0 (ix1 n) else Ideal.ofBits .f32 0xBF800000#32) = _
  rw [keepBits_apply, rowScores_apply, Sel.ofBits_neg_one]
  unfold masked
  by_cases h : kept x1 n.val
  · rw [if_pos ((ofBool_one _).2 h), if_pos h]
  · rw [if_neg (fun e => h ((ofBool_one _).1 e)), if_neg h]

/-- Place `p` names the row of rank `p` among the masked scores. -/
theorem rowsAt_apply (p : Fin 2000) :
    ∃ n : Fin 10240, rowsAt x0 x1 (ix2 p (0 : Fin 1)) = BitVec.ofNat 32 n.val ∧ cnt (masked (kept x1) (col x0 6)) 10240 n.val = p.val := by
  have hp : p.val < 10240 := by omega
  refine ⟨sortedFrom (fun k k' : Fin 10240 => Ideal.cmpTotal .gt (maskedScores x0 x1 (ix1 k)) (maskedScores x0 x1 (ix1 k')) == 1#1) ⟨p.val, hp⟩,
    ?_, Sel.sorted_cnt (masked (kept x1) (col x0 6)) _ (fun a b => ?_) ⟨p.val, hp⟩⟩
  · have hn := Sel.topK_position (N := 10240) (K := 2000) (Ideal.cmpTotal .gt) (maskedScores x0 x1) sliceFits_S10240_S2000 p hp
    generalize sortedFrom (fun k k' : Fin 10240 => Ideal.cmpTotal .gt (maskedScores x0 x1 (ix1 k)) (maskedScores x0 x1 (ix1 k')) == 1#1) ⟨p.val, hp⟩ = n at hn ⊢
    have hn : highest x0 x1 (ix1 p) = BitVec.ofNat 32 n.val := hn
    have e : ∀ w : IVec S2000 32, broadcastInDim S2000x1 ![0] bcast_S2000_S2000x1_0 w (ix2 p (0 : Fin 1)) = w (ix1 p) := by
      intro w
      refine congrArg w (funext fun a => ?_)
      obtain rfl : a = (0 : Fin 1) := Subsingleton.elim (α := Fin 1) _ _
      rfl
    refine (e _).trans ?_
    show (if IntOp.cmpi .slt (highest x0 x1 (ix1 p)) 0#32 = 1 then highest x0 x1 (ix1 p) + 10240#32 else highest x0 x1 (ix1 p)) = _
    rw [hn, if_neg]
    show ¬ BitVec.ofBool ((BitVec.ofNat 32 n.val).slt 0#32) = 1
    rw [BitVec.slt_eq_decide, Sel.toInt_small n.val (by omega), decide_eq_false (by simp)]
    decide
  · show (BitVec.ofBool (decide (maskedScores x0 x1 (ix1 b) < maskedScores x0 x1 (ix1 a))) == 1#1) = true ↔ _
    rw [maskedScores_apply, maskedScores_apply]
    by_cases h : masked (kept x1) (col x0 6) b.val < masked (kept x1) (col x0 6) a.val <;> simp [h]

open Classical in
/-- Place `p` of both results: the row of rank `p` where it is kept, zero otherwise. -/
theorem ref_apply (p : Fin 2000) :
    ∃ n : Fin 10240, cnt (masked (kept x1) (col x0 6)) 10240 n.val = p.val
      ∧ (∀ l : Fin 4, refBoxes x0 x1 (ix2 p l) = if kept x1 n.val then col x0 ⟨l.val, by omega⟩ n.val else 0)
      ∧ refScores x0 x1 (ix1 p) = if kept x1 n.val then col x0 6 n.val else 0 := by
  obtain ⟨n, hn, hc⟩ := rowsAt_apply x0 x1 p
  have hk : Host.gather gather_S10240_S2000x1_S2000_n_0_n_n_0_1_1 (keepBits x1) (rowsAt x0 x1) (ix1 p) = BitVec.ofBool (decide (kept x1 n.val)) :=
    (Routing.gather_take1 gather_S10240_S2000x1_S2000_n_0_n_n_0_1_1 rfl rfl rfl rfl (keepBits x1) _ p n hn (by norm_num)).trans (keepBits_apply x1 n)
  have hs : Host.gather gather_S10240_S2000x1_S2000_n_0_n_n_0_1_1 (rowScores x0) (rowsAt x0 x1) (ix1 p) = col x0 6 n.val :=
    (Routing.gather_take1 gather_S10240_S2000x1_S2000_n_0_n_n_0_1_1 rfl rfl rfl rfl (rowScores x0) _ p n hn (by norm_num)).trans (rowScores_apply x0 n)
  refine ⟨n, hc, fun l => ?_, ?_⟩
  · have hb : Host.gather gather_S10240x4_S2000x1_S2000x4_1_0_n_n_0_1_14 (extractStridedSlice S10240x4 ![0, 0] x0 slices_S10240x8_S10240x4_0_0) (rowsAt x0 x1) (ix2 p l)
        = col x0 ⟨l.val, by omega⟩ n.val :=
      (Routing.gather_row gather_S10240x4_S2000x1_S2000x4_1_0_n_n_0_1_14 rfl rfl rfl rfl rfl _ _ p l n hn (by norm_num)).trans (boxes_apply x0 n l)
    have e : ∀ w : IVec S2000 1, broadcastInDim S2000x4 ![0, 1] bcast_S2000x1_S2000x4_0_1 (broadcastInDim S2000x1 ![0] bcast_S2000_S2000x1_0 w) (ix2 p l) = w (ix1 p) := by
      intro w
      refine congrArg w (funext fun a => ?_)
      obtain rfl : a = (0 : Fin 1) := Subsingleton.elim (α := Fin 1) _ _
      rfl
    show (if broadcastInDim S2000x4 ![0, 1] bcast_S2000x1_S2000x4_0_1 (broadcastInDim S2000x1 ![0] bcast_S2000_S2000x1_0 (Host.gather gather_S10240_S2000x1_S2000_n_0_n_n_0_1_1 (keepBits x1) (rowsAt x0 x1))) (ix2 p l) = 1
      then _ else Ideal.ofBits .f32 0x00000000#32) = _
    rw [e, hk, hb, Ideal.ofBits_zero_f32]
    by_cases h : kept x1 n.val
    · rw [if_pos ((ofBool_one _).2 h), if_pos h]
    · rw [if_neg (fun e => h ((ofBool_one _).1 e)), if_neg h]
  · show (if Host.gather gather_S10240_S2000x1_S2000_n_0_n_n_0_1_1 (keepBits x1) (rowsAt x0 x1) (ix1 p) = 1
      then _ else Ideal.ofBits .f32 0x00000000#32) = _
    rw [hk, hs, Ideal.ofBits_zero_f32]
    by_cases h : kept x1 n.val
    · rw [if_pos ((ofBool_one _).2 h), if_pos h]
    · rw [if_neg (fun e => h ((ofBool_one _).1 e)), if_neg h]

end Cert.Proof.CompRef

end
-- ==== Proof.DecodeForm.lean ====
module

public import proofs.«01_k».proof.Proof.Gen.DecodeIdeal
public import proofs.«01_k».proof.Proof.CompactBlock
public import Idealize.ShloMosaic.Lib.Pointwise
public import Idealize.ShloMosaic.Lib.IdealHost

@[expose] public section

set_option maxRecDepth 16384

noncomputable section

namespace Cert.Proof.Decode

open Cert.DecodeIdeal Cert.DecodeIdeal.Gen
open Idealize.ShloMosaic Idealize.ShloMosaic.TcCoe

/-! ## Real entries -/

/-- The value is a real number, neither infinity. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.div {x : EReal} (hx : IsReal x) {b : ℝ} (hb : b ≠ 0) : IsReal (Ideal.div x (b : EReal)) := by
  obtain ⟨a, rfl⟩ := hx
  refine ⟨a * b⁻¹, ?_⟩
  unfold Ideal.div
  rw [if_neg (by exact_mod_cast hb), EReal.coe_mul, EReal.coe_inv]

theorem IsReal.round {x : EReal} (hx : IsReal x) (f : ℝ → ℤ) : IsReal (Ideal.liftRound f x) := by
  obtain ⟨a, rfl⟩ := hx
  exact ⟨_, rfl⟩

/-- A shift drops out of a difference. -/
theorem sub_shift {s a b : EReal} (hs : IsReal s) (ha : IsReal a) (hb : IsReal b) : (s + b) - (s + a) = b - a := by
  obtain ⟨s, rfl⟩ := hs; obtain ⟨a, rfl⟩ := ha; obtain ⟨b, rfl⟩ := hb
  norm_cast
  ring_nf

/-- What holds of every entry of the pieces holds of every entry of their concatenation. -/
theorem concatenate_forall {α : Type} (P : α → Prop) (t : Shape) (a : Fin t.rank) (xs : List ((s : Shape) × (s.Idx → α)))
    (h : Shape.Concatenates (xs.map (·.1)) t a) (j : t.Idx) (hp : ∀ p ∈ xs, ∀ i, P (p.2 i)) : P (concatenate t a xs h j) := by
  unfold concatenate
  exact hp _ (List.getElem_mem _) _

theorem ofBits_two : Ideal.ofBits .f32 0x40000000#32 = ((2 : ℝ) : EReal) := by
  simp [Ideal.ofBits, Ideal.ieee, -EReal.coe_mul]; norm_num

/-! ## The nine boxes centred at the origin -/

section
variable (rat sc : FVec Ideal S3 .f32)

/-- Their widths: a scale over the root of a ratio. -/
def widths : FVec Ideal S9 .f32 :=
  shapeCast S9 (mulf (broadcastInDim S3x3 ![0, 1] bcast_S3x1_S3x3_0_1 (broadcastInDim S3x1 ![0] bcast_S3_S3x1_0 (Host.divf (broadcastInDim S3 ![] bcast_S_S3 (constant S_ .f32 0x3F800000#32)) (Host.sqrt rat))))
    (broadcastInDim S3x3 ![0, 1] bcast_S1x3_S3x3_0_1 (broadcastInDim S1x3 ![1] bcast_S3_S1x3_1 sc))) shapeCasts_S3x3_S9

/-- Their heights: a scale times the root of a ratio. -/
def heights : FVec Ideal S9 .f32 :=
  shapeCast S9 (mulf (broadcastInDim S3x3 ![0, 1] bcast_S3x1_S3x3_0_1 (broadcastInDim S3x1 ![0] bcast_S3_S3x1_0 (Host.sqrt rat)))
    (broadcastInDim S3x3 ![0, 1] bcast_S1x3_S3x3_0_1 (broadcastInDim S1x3 ![1] bcast_S3_S1x3_1 sc))) shapeCasts_S3x3_S9

/-- Their corners, before they are halved and rounded. -/
def corners : FVec Ideal S9x4 .f32 :=
  concatenate S9x4 1 [⟨S9x1, broadcastInDim S9x1 ![0] bcast_S9_S9x1_0 (Host.negf (widths rat sc))⟩, ⟨S9x1, broadcastInDim S9x1 ![0] bcast_S9_S9x1_0 (Host.negf (heights rat sc))⟩,
    ⟨S9x1, broadcastInDim S9x1 ![0] bcast_S9_S9x1_0 (widths rat sc)⟩, ⟨S9x1, broadcastInDim S9x1 ![0] bcast_S9_S9x1_0 (heights rat sc)⟩] concatenates_S9x1_S9x1_S9x1_S9x1_S9x4_d1

/-- Their corners. -/
def base : FVec Ideal S9x4 .f32 :=
  Host.roundeven (Host.divf (corners rat sc) (broadcastInDim S9x4 ![] bcast_S_S9x4 (constant S_ .f32 0x40000000#32)))

variable (hr : ∀ i, ∃ r : ℝ, 0 < r ∧ rat i = (r : EReal)) (hs : ∀ i, IsReal (sc i))
include hr

theorem root_pos (i : S3.Idx) : ∃ r : ℝ, 0 < r ∧ (Host.sqrt rat : FVec Ideal S3 .f32) i = (r : EReal) := by
  obtain ⟨r, h, e⟩ := hr i
  refine ⟨Real.sqrt r, Real.sqrt_pos.2 h, ?_⟩
  show Ideal.sqrt (rat i) = _
  rw [e, Ideal.sqrt_coe, if_neg (not_lt.2 h.le)]

include hs

theorem widths_real (i : S9.Idx) : IsReal (widths rat sc i) := by
  have h : ∀ j : S3.Idx, IsReal ((Host.divf (broadcastInDim S3 ![] bcast_S_S3 (constant S_ .f32 0x3F800000#32)) (Host.sqrt rat) : FVec Ideal S3 .f32) j) := fun j => by
    obtain ⟨r, h, e⟩ := root_pos rat hr j
    show IsReal (Ideal.div (Ideal.ofBits .f32 0x3F800000#32) ((Host.sqrt rat : FVec Ideal S3 .f32) j))
    rw [e, Ideal.ofBits_one_f32]
    exact IsReal.div ⟨1, rfl⟩ h.ne'
  exact IsReal.mul (h _) (hs _)

theorem heights_real (i : S9.Idx) : IsReal (heights rat sc i) := by
  have h : ∀ j : S3.Idx, IsReal ((Host.sqrt rat : FVec Ideal S3 .f32) j) := fun j => by
    obtain ⟨r, _, e⟩ := root_pos rat hr j
    exact ⟨r, e⟩
  exact IsReal.mul (h _) (hs _)

theorem corners_real (i : S9x4.Idx) : IsReal (corners rat sc i) := by
  unfold corners
  refine concatenate_forall IsReal _ _ _ _ _ fun p hp j => ?_
  simp only [List.mem_cons, List.not_mem_nil, or_false] at hp
  rcases hp with rfl | rfl | rfl | rfl
  · exact IsReal.neg (widths_real rat sc hr hs _)
  · exact IsReal.neg (heights_real rat sc hr hs _)
  · exact widths_real rat sc hr hs _
  · exact heights_real rat sc hr hs _

/-- Every corner is a real number. -/
theorem base_real (i : S9x4.Idx) : IsReal (base rat sc i) := by
  show IsReal (Ideal.liftRound Ideal.roundHalfEven (Ideal.div (corners rat sc i) (Ideal.ofBits .f32 0x40000000#32)))
  rw [ofBits_two]
  exact IsReal.round (IsReal.div (corners_real rat sc hr hs i) two_ne_zero) _

end

/-! ## A row -/

/-- Clipped to the image. -/
def clip (x : EReal) : EReal := min (Ideal.ofBits .f32 0x44480000#32) (max (Ideal.ofBits .f32 0x00000000#32) x)

/-- The middle, the corner below and the corner above of one side of an anchor, moved by two outputs. -/
def mid (d a c : EReal) : EReal := d * a + c
def low (d e a c : EReal) : EReal := clip (mid d a c - Ideal.ofBits .f32 0x3F000000#32 * (Ideal.exp e * a))
def high (d e a c : EReal) : EReal := clip (mid d a c + Ideal.ofBits .f32 0x3F000000#32 * (Ideal.exp e * a))

/-- Whether a side is long enough. -/
def long (x : EReal) : BitVec 1 := FloatOps.cmpf (F := Ideal) (φ := .f32) .oge x (Ideal.ofBits .f32 0x41800000#32)

/-- The row of one anchor: its sides `aw`, `ah`, its centre `cx`, `cy`, the four outputs and the score. -/
def row (dx dy dw dh s aw ah cx cy : EReal) : Fin 8 → EReal
  | 0 => low dx dw aw cx
  | 1 => low dy dh ah cy
  | 2 => high dx dw aw cx
  | 3 => high dy dh ah cy
  | 4 => (high dx dw aw cx - low dx dw aw cx) * (high dy dh ah cy - low dy dh ah cy)
  | 5 => FloatOps.uitofp (F := Ideal) .f32 (IntOp.andi (long (high dx dw aw cx - low dx dw aw cx)) (long (high dy dh ah cy - low dy dh ah cy)))
  | 6 => s
  | 7 => Ideal.ofBits .f32 0x00000000#32

theorem flag_num (b : BitVec 1) : FloatOps.sitofp (F := Ideal) .f32 (b.setWidth 32) = FloatOps.uitofp (F := Ideal) .f32 b := by
  have h : ∀ b : BitVec 1, (b.setWidth 32).toInt = (b.toNat : ℤ) := by decide
  show (((b.setWidth 32).toInt : ℝ) : EReal) = ((b.toNat : ℝ) : EReal)
  rw [h b]
  simp

/-- A row without an anchor. -/
theorem row_zero (s : EReal) (l : Fin 8) : row 0 0 0 0 s 0 0 0 0 l = if l = 6 then s else 0 := by
  have h8 : (0 : EReal) ≤ Ideal.ofBits .f32 0x44480000#32 := by
    have e : Ideal.ofBits .f32 0x44480000#32 = ((800 : ℝ) : EReal) := by
      simp [Ideal.ofBits, Ideal.ieee, -EReal.coe_mul]; norm_num
    rw [e]; exact_mod_cast (by norm_num : (0 : ℝ) ≤ 800)
  have hl : low 0 0 0 0 = 0 := by simp [low, clip, mid, Ideal.ofBits_zero_f32, h8]
  have hh : high 0 0 0 0 = 0 := by simp [high, clip, mid, Ideal.ofBits_zero_f32, h8]
  have hg : long 0 = 0#1 := by
    have e : Ideal.ofBits .f32 0x41800000#32 = ((16 : ℝ) : EReal) := by
      simp [Ideal.ofBits, Ideal.ieee, -EReal.coe_mul]; norm_num
    have h : ¬ ((16 : ℝ) : EReal) ≤ 0 := by
      rw [not_le]; exact_mod_cast (by norm_num : (0 : ℝ) < 16)
    unfold long
    rw [e]
    show BitVec.ofBool (decide (((16 : ℝ) : EReal) ≤ 0)) = _
    rw [decide_eq_false h]
    rfl
  fin_cases l
  · exact hl
  · exact hl
  · exact hh
  · exact hh
  · show (high 0 0 0 0 - low 0 0 0 0) * (high 0 0 0 0 - low 0 0 0 0) = 0
    rw [hl, hh]; simp
  · show FloatOps.uitofp (F := Ideal) .f32 (IntOp.andi (long (high 0 0 0 0 - low 0 0 0 0)) (long (high 0 0 0 0 - low 0 0 0 0))) = 0
    rw [hl, hh, sub_zero, hg]
    show (((IntOp.andi 0#1 0#1).toNat : ℝ) : EReal) = 0
    simp [IntOp.andi]
  · rfl
  · exact Ideal.ofBits_zero_f32

end Cert.Proof.Decode

end
-- ==== Proof.DecodeBlock.lean ====
module

public import proofs.«01_k».proof.Proof.Gen.DecodeIdeal.Frame
public import proofs.«01_k».proof.Proof.DecodeForm
public import Idealize.ShloMosaic.Lib.Pointwise
public import Idealize.ShloMosaic.Lib.Pipeline.ValueKit

@[expose] public section

set_option maxRecDepth 16384

noncomputable section

namespace Cert.Proof.Decode

open Cert.DecodeIdeal Cert.DecodeIdeal.Gen
open Idealize.ShloMosaic Idealize.ShloMosaic.TcCoe Idealize.ShloMosaic.Tactic

/-! ## One block of rows -/

section
variable (x y : Vec Ideal S128x8 .f32) (p : Fin 128)

theorem pay2_apply (l : Fin 8) : k0_pay2 x (ix2 p l) = x (ix2 p l) := by
  pointwise [k0_pay2]

theorem pay3_apply (l : Fin 8) : k0_pay3 x (ix2 p l) = x (ix2 p l) := by
  pointwise [k0_pay3]

theorem pay4_apply : k0_pay4 x (ix2 p (0 : Fin 1)) = x (ix2 p (4 : Fin 8)) := by
  pointwise [k0_pay4, k0_pay2]

theorem pay7_apply : k0_pay7 x y (ix2 p (0 : Fin 1)) = mid (x (ix2 p (0 : Fin 8))) (y (ix2 p (0 : Fin 8))) (y (ix2 p (2 : Fin 8))) := by
  pointwise [k0_pay7, k0_pay5, k0_pay2, k0_pay3, mid]

theorem pay8_apply : k0_pay8 x y (ix2 p (0 : Fin 1)) = mid (x (ix2 p (1 : Fin 8))) (y (ix2 p (1 : Fin 8))) (y (ix2 p (3 : Fin 8))) := by
  pointwise [k0_pay8, k0_pay6, k0_pay2, k0_pay3, mid]

theorem pay9_apply : k0_pay9 x y (ix2 p (0 : Fin 1)) = Ideal.exp (x (ix2 p (2 : Fin 8))) * y (ix2 p (0 : Fin 8)) := by
  pointwise [k0_pay9, k0_pay5, k0_pay2, k0_pay3]

theorem pay10_apply : k0_pay10 x y (ix2 p (0 : Fin 1)) = Ideal.exp (x (ix2 p (3 : Fin 8))) * y (ix2 p (1 : Fin 8)) := by
  pointwise [k0_pay10, k0_pay6, k0_pay2, k0_pay3]

theorem pay11_apply : k0_pay11 x y (ix2 p (0 : Fin 1)) = low (x (ix2 p (0 : Fin 8))) (x (ix2 p (2 : Fin 8))) (y (ix2 p (0 : Fin 8))) (y (ix2 p (2 : Fin 8))) := by
  unfold low
  rw [← pay7_apply, ← pay9_apply]
  rfl

theorem pay12_apply : k0_pay12 x y (ix2 p (0 : Fin 1)) = low (x (ix2 p (1 : Fin 8))) (x (ix2 p (3 : Fin 8))) (y (ix2 p (1 : Fin 8))) (y (ix2 p (3 : Fin 8))) := by
  unfold low
  rw [← pay8_apply, ← pay10_apply]
  rfl

theorem pay13_apply : k0_pay13 x y (ix2 p (0 : Fin 1)) = high (x (ix2 p (0 : Fin 8))) (x (ix2 p (2 : Fin 8))) (y (ix2 p (0 : Fin 8))) (y (ix2 p (2 : Fin 8))) := by
  unfold high
  rw [← pay7_apply, ← pay9_apply]
  rfl

theorem pay14_apply : clip (k0_pay14 x y (ix2 p (0 : Fin 1))) = high (x (ix2 p (1 : Fin 8))) (x (ix2 p (3 : Fin 8))) (y (ix2 p (1 : Fin 8))) (y (ix2 p (3 : Fin 8))) := by
  unfold high
  rw [← pay8_apply, ← pay10_apply]
  rfl

end

/-- One of eight columns put side by side. -/
theorem column (u0 u1 u2 u3 u4 u5 u6 u7 : FVec Ideal S128x1 .f32) (p : Fin 128) (l : Fin 8) :
    concatenate S128x8 1 [⟨S128x1, u0⟩, ⟨S128x1, u1⟩, ⟨S128x1, u2⟩, ⟨S128x1, u3⟩, ⟨S128x1, u4⟩, ⟨S128x1, u5⟩, ⟨S128x1, u6⟩, ⟨S128x1, u7⟩]
        concatenates_S128x1_S128x1_S128x1_S128x1_S128x1_S128x1_S128x1_S128x1_S128x8_d1 (ix2 p l)
      = (![u0, u1, u2, u3, u4, u5, u6, u7] l) (ix2 p (0 : Fin 1)) := by
  refine concatenate_apply_piece (t := S128x8) 1 _ _ (ix2 p l) l.val (by simp) S128x1 _ ?_ rfl l.val ?_ (ix2 p (0 : Fin 1)) ?_ ?_
  · fin_cases l <;> rfl
  · fin_cases l <;> rfl
  · intro b hb
    match b with
    | ⟨0, _⟩ => rfl
    | ⟨1, _⟩ => exact absurd rfl hb
  · show l.val + 0 = l.val
    rfl

/-- The rows the body writes. -/
theorem out_rows (x y : Vec Ideal S128x8 .f32) (p : Fin 128) (l : Fin 8) :
    out0_2 x y (ix2 p l)
      = row (x (ix2 p (0 : Fin 8))) (x (ix2 p (1 : Fin 8))) (x (ix2 p (2 : Fin 8))) (x (ix2 p (3 : Fin 8))) (x (ix2 p (4 : Fin 8)))
          (y (ix2 p (0 : Fin 8))) (y (ix2 p (1 : Fin 8))) (y (ix2 p (2 : Fin 8))) (y (ix2 p (3 : Fin 8))) l := by
  have hz : (![0, 0] : Fin S128x8.rank → ℕ) = fun _ => 0 := by
    funext a; fin_cases a <;> rfl
  have ex : View.ld x r0_0 = x := View.ld_unit_zero hz inb_S128x8_S128x8_0_0 x
  have ey : View.ld y r0_0 = y := View.ld_unit_zero hz inb_S128x8_S128x8_0_0 y
  unfold out0_2
  rw [ex, ey]
  refine (congrFun (View.canon_unit_zero hz inb_S128x8_S128x8_0_0 _) (ix2 p l)).trans ?_
  unfold k0_pay1
  refine (column _ _ _ _ _ _ _ _ p l).trans ?_
  match l with
  | 0 => exact pay11_apply x y p
  | 1 => exact pay12_apply x y p
  | 2 => exact pay13_apply x y p
  | 3 => exact pay14_apply x y p
  | 4 =>
    show (k0_pay13 x y (ix2 p (0 : Fin 1)) - k0_pay11 x y (ix2 p (0 : Fin 1))) * (clip (k0_pay14 x y (ix2 p (0 : Fin 1))) - k0_pay12 x y (ix2 p (0 : Fin 1))) = _
    rw [pay11_apply, pay12_apply, pay13_apply, pay14_apply]
    rfl
  | 5 =>
    show FloatOps.sitofp (F := Ideal) .f32 ((IntOp.andi (long (k0_pay13 x y (ix2 p (0 : Fin 1)) - k0_pay11 x y (ix2 p (0 : Fin 1))))
      (long (clip (k0_pay14 x y (ix2 p (0 : Fin 1))) - k0_pay12 x y (ix2 p (0 : Fin 1))))).setWidth 32) = _
    rw [pay11_apply, pay12_apply, pay13_apply, pay14_apply, flag_num]
    rfl
  | 6 => exact pay4_apply x p
  | 7 => rfl

end Cert.Proof.Decode

end
-- ==== Proof.DecodeHost.lean ====
module

public import proofs.«01_k».proof.Proof.DecodeBlock
public import proofs.«01_k».proof.Proof.HeadsScatter
public import proofs.«01_k».proof.Proof.HostVals
public import Idealize.ShloMosaic.Lib.Claim
public import Idealize.ShloMosaic.Lib.ValueLayout

@[expose] public section

set_option maxRecDepth 16384

noncomputable section

namespace Cert.Proof.Decode

open Cert.DecodeIdeal Cert.DecodeIdeal.Gen
open Cert.Proof.Heads (pair word scatter_block scatter_out)
open Idealize.ShloMosaic Idealize.ShloMosaic.TcCoe Idealize.ShloMosaic.Tactic

/-! ## What the host lays out -/

/-- The ratios and the scales. -/
def ratios : FVec Ideal S3 .f32 := fun i => FloatOps.ofBits .f32 (lit1 (S3.rowMajor i))
def scales : FVec Ideal S3 .f32 := fun i => FloatOps.ofBits .f32 (lit0 (S3.rowMajor i))

/-- The pixels' columns and rows. -/
def pixelX : FVec Ideal S2500 .f32 := shapeCast S2500 (broadcastInDim S50x50 ![1] bcast_S50_S50x50_1 (sitofp (F := Ideal) .f32 (iotaInDim S50 32 0))) shapeCasts_S50x50_S2500
def pixelY : FVec Ideal S2500 .f32 := shapeCast S2500 (broadcastInDim S50x50 ![0] bcast_S50_S50x50_0 (sitofp (F := Ideal) .f32 (iotaInDim S50 32 0))) shapeCasts_S50x50_S2500

section
variable (b : FVec Ideal S9x4 .f32)

def sideX : FVec Ideal S9 .f32 :=
  subf (shapeCast S9 (extractStridedSlice S9x1 ![0, 2] b slices_S9x4_S9x1_0_2) shapeCasts_S9x1_S9) (shapeCast S9 (extractStridedSlice S9x1 ![0, 0] b slices_S9x4_S9x1_0_0) shapeCasts_S9x1_S9)
def sideY : FVec Ideal S9 .f32 :=
  subf (shapeCast S9 (extractStridedSlice S9x1 ![0, 3] b slices_S9x4_S9x1_0_3) shapeCasts_S9x1_S9) (shapeCast S9 (extractStridedSlice S9x1 ![0, 1] b slices_S9x4_S9x1_0_1) shapeCasts_S9x1_S9)
def centreX : FVec Ideal S9 .f32 :=
  addf (shapeCast S9 (extractStridedSlice S9x1 ![0, 0] b slices_S9x4_S9x1_0_0) shapeCasts_S9x1_S9) (mulf (broadcastInDim S9 ![] bcast_S_S9 (constant S_ .f32 0x3F000000#32)) (sideX b))
def centreY : FVec Ideal S9 .f32 :=
  addf (shapeCast S9 (extractStridedSlice S9x1 ![0, 1] b slices_S9x4_S9x1_0_1) shapeCasts_S9x1_S9) (mulf (broadcastInDim S9 ![] bcast_S_S9 (constant S_ .f32 0x3F000000#32)) (sideY b))

/-- One value per box, at every pixel. -/
def perBox (v : FVec Ideal S9 .f32) : FVec Ideal S22500 .f32 :=
  shapeCast S22500 (broadcastInDim S2500x9 ![0, 1] bcast_S1x9_S2500x9_0_1 (broadcastInDim S1x9 ![1] bcast_S9_S1x9_1 v)) shapeCasts_S2500x9_S22500

/-- One value per pixel added to one per box. -/
def placed (u : FVec Ideal S2500 .f32) (v : FVec Ideal S9 .f32) : FVec Ideal S22500 .f32 :=
  shapeCast S22500 (addf (broadcastInDim S2500x9 ![0, 1] bcast_S2500x1_S2500x9_0_1 (broadcastInDim S2500x1 ![0] bcast_S2500_S2500x1_0 u))
    (broadcastInDim S2500x9 ![0, 1] bcast_S1x9_S2500x9_0_1 (broadcastInDim S1x9 ![1] bcast_S9_S1x9_1 v))) shapeCasts_S2500x9_S22500

/-- A column of the first rows overwritten. -/
def setTop (x : FVec Ideal S23040x8 .f32) (w : BitVec 32) (u : FVec Ideal S22500 .f32) : FVec Ideal S23040x8 .f32 :=
  Host.scatter scatter_S23040x8_S2_S22500_0_1_01_0 (fun _ b => b) x (pair 0#32 w) u

def zeros : FVec Ideal S23040x8 .f32 := broadcastInDim S23040x8 ![] bcast_S_S23040x8 (constant S_ .f32 0x00000000#32)

/-- The anchors' sides and centres. -/
def anchorRows : FVec Ideal S23040x8 .f32 :=
  setTop (setTop (setTop (setTop zeros 0#32 (perBox (sideX b))) 1#32 (perBox (sideY b))) 2#32 (placed pixelX (centreX b))) 3#32 (placed pixelY (centreY b))

end

/-- The scores. -/
def scored (x : FVec Ideal S22500 .f32) : FVec Ideal S22500 .f32 :=
  Host.divf (broadcastInDim S22500 ![] bcast_S_S22500 (constant S_ .f32 0x3F800000#32)) (addf (broadcastInDim S22500 ![] bcast_S_S22500 (constant S_ .f32 0x3F800000#32)) (Host.exp (Host.negf x)))

/-- The scores, followed by the rest's. -/
def scoredAll (x : FVec Ideal S22500 .f32) : FVec Ideal S23040 .f32 :=
  concatenate S23040 0 [⟨S22500, scored x⟩, ⟨S540, broadcastInDim S540 ![] bcast_S_S540 (constant S_ .f32 0xBF800000#32)⟩] concatenates_S22500_S540_S23040_d0

/-- The regression outputs and the scores. -/
def outputRows (x : FVec Ideal S22500 .f32) (z : FVec Ideal S22500x4 .f32) : FVec Ideal S23040x8 .f32 :=
  Host.scatter scatter_S23040x8_S1_S23040_0_1_1_0 (fun _ b => b)
    (Host.scatter scatter_S23040x8_S2_S22500x4_01_n_01_0 (fun _ b => b) zeros (pair 0#32 0#32) z) (word 4#32) (scoredAll x)

section
variable (σ : Valuation τ sig (Elt Ideal))

theorem after_outputs : (StableHlo.after hostOps0 σ (Proc.devRef .tc main_v14) : Vec Ideal S23040x8 .f32) = outputRows (σ (Proc.devRef .tc main_arg0)) (σ (Proc.devRef .tc main_arg1)) := by
  entry_read
  rfl

/-- The operations that put the corners together, after those that compute the sides. -/
theorem split_corners : (hostOps0 : List (HloOp τ sig (Elt Ideal))) = hostOps0.take 46 ++ hostOps0.drop 46 := (List.take_append_drop 46 _).symm

theorem join_corners : (StableHlo.after (hostOps0.drop 46) σ (Proc.devRef .tc main_v38) : Vec Ideal S9x4 .f32)
    = Host.divf (F := Ideal) (φ := .f32) (concatenate S9x4 1 [⟨S9x1, (σ (Proc.devRef .tc main_v32) : FVec Ideal S9x1 .f32)⟩, ⟨S9x1, (σ (Proc.devRef .tc main_v33) : FVec Ideal S9x1 .f32)⟩,
        ⟨S9x1, (σ (Proc.devRef .tc main_v34) : FVec Ideal S9x1 .f32)⟩, ⟨S9x1, (σ (Proc.devRef .tc main_v35) : FVec Ideal S9x1 .f32)⟩] concatenates_S9x1_S9x1_S9x1_S9x1_S9x4_d1)
      (broadcastInDim S9x4 ![] bcast_S_S9x4 (constant (F := Ideal) S_ .f32 0x40000000#32)) := by
  simp only [hostOps0, List.drop_succ_cons, List.drop_zero]
  entry_read
  rfl

theorem side_32 : (StableHlo.after (hostOps0.take 46) σ (Proc.devRef .tc main_v32) : Vec Ideal S9x1 .f32) = broadcastInDim S9x1 ![0] bcast_S9_S9x1_0 (Host.negf (widths ratios scales)) := by
  simp only [hostOps0, List.take_succ_cons, List.take_zero]
  entry_read
  rfl

theorem side_33 : (StableHlo.after (hostOps0.take 46) σ (Proc.devRef .tc main_v33) : Vec Ideal S9x1 .f32) = broadcastInDim S9x1 ![0] bcast_S9_S9x1_0 (Host.negf (heights ratios scales)) := by
  simp only [hostOps0, List.take_succ_cons, List.take_zero]
  entry_read
  rfl

theorem side_34 : (StableHlo.after (hostOps0.take 46) σ (Proc.devRef .tc main_v34) : Vec Ideal S9x1 .f32) = broadcastInDim S9x1 ![0] bcast_S9_S9x1_0 (widths ratios scales) := by
  simp only [hostOps0, List.take_succ_cons, List.take_zero]
  entry_read
  rfl

theorem side_35 : (StableHlo.after (hostOps0.take 46) σ (Proc.devRef .tc main_v35) : Vec Ideal S9x1 .f32) = broadcastInDim S9x1 ![0] bcast_S9_S9x1_0 (heights ratios scales) := by
  simp only [hostOps0, List.take_succ_cons, List.take_zero]
  entry_read
  rfl

theorem after_corners : (StableHlo.after hostOps0 σ (Proc.devRef .tc main_v38) : Vec Ideal S9x4 .f32)
    = Host.divf (corners ratios scales) (broadcastInDim S9x4 ![] bcast_S_S9x4 (constant (F := Ideal) S_ .f32 0x40000000#32)) := by
  rw [split_corners, StableHlo.after_append, join_corners, side_32, side_33, side_34, side_35]
  rfl

theorem round_base : (StableHlo.after hostOps0_1 σ (Proc.devRef .tc main_v39) : Vec Ideal S9x4 .f32) = Host.roundeven (F := Ideal) (s := S9x4) (φ := .f32) (σ (Proc.devRef .tc main_v38)) := by
  entry_read
  rfl

theorem round_outputs : (StableHlo.after hostOps0_1 σ (Proc.devRef .tc main_v14) : Vec Ideal S23040x8 .f32) = σ (Proc.devRef .tc main_v14) := by
  entry_read
  rfl

theorem last_outputs : (StableHlo.after hostOps0_2 σ (Proc.devRef .tc main_v14) : Vec Ideal S23040x8 .f32) = σ (Proc.devRef .tc main_v14) := by
  entry_read
  rfl

theorem last_anchors : (StableHlo.after hostOps0_2 σ (Proc.devRef .tc main_v100) : Vec Ideal S23040x8 .f32) = anchorRows (σ (Proc.devRef .tc main_v39)) := by
  entry_read
  rfl

end

variable (m : (ℓ : Loc nD τ sig) → Buf (Elt Ideal) ℓ) (c : Dev nD)

theorem V_at (b : Ref sig .tc) :
    V m c b = StableHlo.after hostOps0_2 (StableHlo.after hostOps0_1 (StableHlo.after hostOps0 (fun b => m (c, b)))) (Proc.devRef .tc b) := by
  have e : List.flatten [hostOps0 (F := Ideal), hostOps0_1, hostOps0_2] = hostOps0 ++ (hostOps0_1 ++ hostOps0_2) := by
    simp only [List.flatten_cons, List.flatten_nil, List.append_nil]
  show StableHlo.after (List.flatten [hostOps0, hostOps0_1, hostOps0_2]) _ (Proc.devRef .tc b) = _
  rw [e, StableHlo.after_append, StableHlo.after_append]

theorem outputs_at : (V m c main_v14 : Vec Ideal S23040x8 .f32) = outputRows (m ((c : Thread nD τ).loc main_arg0)) (m ((c : Thread nD τ).loc main_arg1)) := by
  rw [V_at]
  exact (last_outputs _).trans ((round_outputs _).trans (after_outputs _))

theorem anchors_at : (V m c main_v100 : Vec Ideal S23040x8 .f32) = anchorRows (base ratios scales) := by
  rw [V_at]
  refine (last_anchors _).trans (congrArg anchorRows ?_)
  refine (round_base _).trans ?_
  rw [after_corners]
  rfl

end Cert.Proof.Decode

end
-- ==== Proof.DecodeArray.lean ====
module

public import proofs.«01_k».proof.Proof.DecodeBlock
public import Idealize.ShloMosaic.Lib.Claim
public import Idealize.ShloMosaic.Lib.ValueLayout

@[expose] public section

set_option maxRecDepth 16384

noncomputable section

namespace Cert.Proof.Decode

open Cert.DecodeIdeal Cert.DecodeIdeal.Gen
open Idealize.ShloMosaic Idealize.ShloMosaic.TcCoe Idealize.ShloMosaic.Tactic

theorem index0_0 : ∀ t : Fin cfg0.N, win0_0.index t = ![(grid0.coords t 0).val, 0] := (by decide +kernel : ∀ t : Fin grid0.N, win0_0.index t = ![(grid0.coords t 0).val, 0])
theorem index0_1 : ∀ t : Fin cfg0.N, win0_1.index t = ![(grid0.coords t 0).val, 0] := (by decide +kernel : ∀ t : Fin grid0.N, win0_1.index t = ![(grid0.coords t 0).val, 0])
theorem index0_2 : ∀ t : Fin cfg0.N, win0_2.index t = ![(grid0.coords t 0).val, 0] := (by decide +kernel : ∀ t : Fin grid0.N, win0_2.index t = ![(grid0.coords t 0).val, 0])

variable (m : (ℓ : Loc nD τ sig) → Buf (Elt Ideal) ℓ) (c : Dev nD)

/-! The windows hold 128 rows of their arrays. -/

theorem emb_0 (t : Fin cfg0.N) (p : Fin 128) (l : Fin 8) (hr : 128 * (grid0.coords t 0).val + p.val < 23040) :
    ((cfg0.win 0).blk t).view.emb (ix2 p l : S128x8.Idx) = (ix2 (⟨128 * (grid0.coords t 0).val + p.val, hr⟩ : Fin 23040) l : S23040x8.Idx) := by
  funext a
  match a with
  | ⟨0, _⟩ => apply Fin.ext; blk_simp [index0_0 t]; simp [mul_comm]
  | ⟨1, _⟩ => apply Fin.ext; blk_simp [index0_0 t]

theorem emb_1 (t : Fin cfg0.N) (p : Fin 128) (l : Fin 8) (hr : 128 * (grid0.coords t 0).val + p.val < 23040) :
    ((cfg0.win 1).blk t).view.emb (ix2 p l : S128x8.Idx) = (ix2 (⟨128 * (grid0.coords t 0).val + p.val, hr⟩ : Fin 23040) l : S23040x8.Idx) := by
  funext a
  match a with
  | ⟨0, _⟩ => apply Fin.ext; blk_simp [index0_1 t]; simp [mul_comm]
  | ⟨1, _⟩ => apply Fin.ext; blk_simp [index0_1 t]

theorem emb_2 (t : Fin cfg0.N) (p : Fin 128) (l : Fin 8) (hr : 128 * (grid0.coords t 0).val + p.val < 23040) :
    ((cfg0.win 2).blk t).view.emb (ix2 p l : S128x8.Idx) = (ix2 (⟨128 * (grid0.coords t 0).val + p.val, hr⟩ : Fin 23040) l : S23040x8.Idx) := by
  funext a
  match a with
  | ⟨0, _⟩ => apply Fin.ext; blk_simp [index0_2 t]; simp [mul_comm]
  | ⟨1, _⟩ => apply Fin.ext; blk_simp [index0_2 t]

theorem iblk_0 (t : Fin cfg0.N) (p : Fin 128) (l : Fin 8) (hr : 128 * (grid0.coords t 0).val + p.val < 23040) :
    (iblk m c 0 t : Vec Ideal S128x8 .f32) (ix2 p l) = (V m c main_v14 : Vec Ideal S23040x8 .f32) (ix2 (⟨128 * (grid0.coords t 0).val + p.val, hr⟩ : Fin 23040) l) := by
  rw [← emb_0 t p l hr]
  rfl

theorem iblk_1 (t : Fin cfg0.N) (p : Fin 128) (l : Fin 8) (hr : 128 * (grid0.coords t 0).val + p.val < 23040) :
    (iblk m c 1 t : Vec Ideal S128x8 .f32) (ix2 p l) = (V m c main_v100 : Vec Ideal S23040x8 .f32) (ix2 (⟨128 * (grid0.coords t 0).val + p.val, hr⟩ : Fin 23040) l) := by
  rw [← emb_1 t p l hr]
  rfl

/-- The rows of the anchors, from the outputs and the anchors as the host lays them out. -/
def allRows (x y : Vec Ideal S23040x8 .f32) : Vec Ideal S23040x8 .f32 := fun j =>
  row (x (ix2 (j 0) (0 : Fin 8))) (x (ix2 (j 0) (1 : Fin 8))) (x (ix2 (j 0) (2 : Fin 8))) (x (ix2 (j 0) (3 : Fin 8))) (x (ix2 (j 0) (4 : Fin 8)))
    (y (ix2 (j 0) (0 : Fin 8))) (y (ix2 (j 0) (1 : Fin 8))) (y (ix2 (j 0) (2 : Fin 8))) (y (ix2 (j 0) (3 : Fin 8))) (j 1)

theorem block_rows (t : Fin cfg0.N) (p : Fin 128) (l : Fin 8) (hr : 128 * (grid0.coords t 0).val + p.val < 23040) :
    out0_2 (iblk m c 0 t) (iblk m c 1 t) (ix2 p l)
      = allRows (V m c main_v14) (V m c main_v100) (ix2 (⟨128 * (grid0.coords t 0).val + p.val, hr⟩ : Fin 23040) l) := by
  refine (out_rows _ _ p l).trans ?_
  rw [iblk_0 m c t p _ hr, iblk_0 m c t p _ hr, iblk_0 m c t p _ hr, iblk_0 m c t p _ hr, iblk_0 m c t p _ hr,
    iblk_1 m c t p _ hr, iblk_1 m c t p _ hr, iblk_1 m c t p _ hr, iblk_1 m c t p _ hr]
  rfl

/-- The launch's array. -/
theorem rows_arr : (dats m 0 c).arrAt 2 cfg0.N = allRows (V m c main_v14) (V m c main_v100) := by
  have h := block_rows m c
  generalize allRows (V m c main_v14) (V m c main_v100) = G at h ⊢
  refine (dats m 0 c).arrAt_eq_of_covers 2 _ (by decide +kernel) fun t hf (y : S128x8.Idx) => ?_
  have hy0 : (y 0).val < 128 := (y 0).isLt
  have ht : (grid0.coords t 0).val < 180 := (grid0.coords t 0).isLt
  have hr : 128 * (grid0.coords t 0).val + (y 0).val < 23040 := by omega
  have hy : y = (ix2 (y 0) (y 1) : S128x8.Idx) := by
    funext a; fin_cases a <;> rfl
  have h' := h t (y 0) (y 1) hr
  rw [← after0_2] at h'
  have e := emb_2 t (y 0) (y 1) hr
  rw [← hy] at e
  refine Eq.trans ?_ (h'.trans ?_)
  · rw [hy]; rfl
  · rw [e]

end Cert.Proof.Decode

end
-- ==== Proof.DecodeVals.lean ====
module

public import proofs.«01_k».proof.Proof.DecodeHost
public import proofs.«01_k».proof.Proof.DecodeArray

@[expose] public section

set_option maxRecDepth 16384

noncomputable section

namespace Cert.Proof.Decode

open Cert.DecodeIdeal Cert.DecodeIdeal.Gen
open Cert.Proof.Heads (pair word scatter_block scatter_out)
open Idealize.ShloMosaic Idealize.ShloMosaic.TcCoe

/-! ## The anchors' rows -/

theorem pos_top (w : BitVec 32) (k : ℕ) (hw : w.toInt = (k : ℤ)) (j : S22500.Idx) (a : Fin 2) :
    scatter_S23040x8_S2_S22500_0_1_01_0.start j (pair 0#32 w) a + (scatter_S23040x8_S2_S22500_0_1_01_0.window j a : Int) = ((![(j 0).val, k] a : ℕ) : Int) := by
  fin_cases a
  · show (0 : Int) + (((j 0).val : ℕ) : Int) = _
    simp
  · show w.toInt + ((0 : ℕ) : Int) = _
    rw [hw]
    simp

theorem setTop_hit (x : FVec Ideal S23040x8 .f32) (w : BitVec 32) (k : Fin 8) (hw : w.toInt = (k.val : ℤ)) (u : FVec Ideal S22500 .f32) (n : Fin 23040) (hn : n.val < 22500) :
    setTop x w u (ix2 n k) = u (ix1 (⟨n.val, hn⟩ : Fin 22500)) := by
  refine scatter_block scatter_S23040x8_S2_S22500_0_1_01_0 _ (pair 0#32 w) _ _ (ix1 (⟨n.val, hn⟩ : Fin 22500))
    (fun j => ![(j 0).val, k.val]) (fun j a => pos_top w k.val hw j a) (fun a => ?_) (fun j h => ?_)
  · match a with
    | ⟨0, _⟩ => rfl
    | ⟨1, _⟩ => rfl
  · have h0 : (j 0).val = n.val := h 0
    rw [ValueIdx.eq_ix1 j]
    exact congrArg ix1 (Fin.ext h0)

theorem setTop_miss (x : FVec Ideal S23040x8 .f32) (w : BitVec 32) (k : Fin 8) (hw : w.toInt = (k.val : ℤ)) (u : FVec Ideal S22500 .f32) (n : Fin 23040) (l : Fin 8)
    (h : l ≠ k ∨ 22500 ≤ n.val) : setTop x w u (ix2 n l) = x (ix2 n l) := by
  refine scatter_out scatter_S23040x8_S2_S22500_0_1_01_0 _ (pair 0#32 w) _ _ (fun j => ![(j 0).val, k.val]) (fun j a => pos_top w k.val hw j a) (fun j e => ?_)
  have e0 : (j 0).val = n.val := e 0
  have e1 : k.val = l.val := e 1
  have hj : (j 0).val < 22500 := (j 0).isLt
  rcases h with h | h
  · exact h (Fin.ext e1.symm)
  · omega

section
variable (b : FVec Ideal S9x4 .f32) (n : Fin 23040)

theorem zeros_apply (l : Fin 8) : zeros (ix2 n l) = 0 := Ideal.ofBits_zero_f32

/-- The rows after the last anchor hold zeros. -/
theorem anchorRows_rest (h : 22500 ≤ n.val) (l : Fin 8) : anchorRows b (ix2 n l) = 0 := by
  unfold anchorRows
  rw [setTop_miss _ 3#32 3 (by decide) _ n l (.inr h), setTop_miss _ 2#32 2 (by decide) _ n l (.inr h), setTop_miss _ 1#32 1 (by decide) _ n l (.inr h),
    setTop_miss _ 0#32 0 (by decide) _ n l (.inr h), zeros_apply]

variable (hn : n.val < 22500)

theorem anchorRows_3 : anchorRows b (ix2 n (3 : Fin 8)) = placed pixelY (centreY b) (ix1 (⟨n.val, hn⟩ : Fin 22500)) := by
  unfold anchorRows
  rw [setTop_hit _ 3#32 3 (by decide) _ n hn]

theorem anchorRows_2 : anchorRows b (ix2 n (2 : Fin 8)) = placed pixelX (centreX b) (ix1 (⟨n.val, hn⟩ : Fin 22500)) := by
  unfold anchorRows
  rw [setTop_miss _ 3#32 3 (by decide) _ n 2 (.inl (by decide)), setTop_hit _ 2#32 2 (by decide) _ n hn]

theorem anchorRows_1 : anchorRows b (ix2 n (1 : Fin 8)) = perBox (sideY b) (ix1 (⟨n.val, hn⟩ : Fin 22500)) := by
  unfold anchorRows
  rw [setTop_miss _ 3#32 3 (by decide) _ n 1 (.inl (by decide)), setTop_miss _ 2#32 2 (by decide) _ n 1 (.inl (by decide)), setTop_hit _ 1#32 1 (by decide) _ n hn]

theorem anchorRows_0 : anchorRows b (ix2 n (0 : Fin 8)) = perBox (sideX b) (ix1 (⟨n.val, hn⟩ : Fin 22500)) := by
  unfold anchorRows
  rw [setTop_miss _ 3#32 3 (by decide) _ n 0 (.inl (by decide)), setTop_miss _ 2#32 2 (by decide) _ n 0 (.inl (by decide)),
    setTop_miss _ 1#32 1 (by decide) _ n 0 (.inl (by decide)), setTop_hit _ 0#32 0 (by decide) _ n hn]

end

/-- The pixel and the box of an anchor. -/
def pixel (n : Fin 22500) : Fin 2500 := ⟨n.val / 9, by omega⟩
def box (n : Fin 22500) : Fin 9 := ⟨n.val % 9, by omega⟩

theorem cast_box (v : FVec Ideal S2500x9 .f32) (n : Fin 22500) : shapeCast S22500 v shapeCasts_S2500x9_S22500 (ix1 n) = v (ix2 (pixel n) (box n)) := by
  refine shapeCast_apply _ _ _ (ix2 (pixel n) (box n)) ?_
  show (S2500x9.rowMajor (ix2 _ _)).val = (S22500.rowMajor (ix1 _)).val
  rw [Shape.rowMajor_val_one, Shape.rowMajor_val_two]
  show n.val / 9 * 9 + n.val % 9 = n.val
  omega

theorem rows_box (v : FVec Ideal S9 .f32) (p : Fin 2500) (k : Fin 9) :
    broadcastInDim S2500x9 ![0, 1] bcast_S1x9_S2500x9_0_1 (broadcastInDim S1x9 ![1] bcast_S9_S1x9_1 v) (ix2 p k) = v (ix1 k) := by
  refine congrArg v (funext fun a => ?_)
  obtain rfl : a = (0 : Fin 1) := Subsingleton.elim (α := Fin 1) _ _
  rfl

theorem rows_pixel (u : FVec Ideal S2500 .f32) (p : Fin 2500) (k : Fin 9) :
    broadcastInDim S2500x9 ![0, 1] bcast_S2500x1_S2500x9_0_1 (broadcastInDim S2500x1 ![0] bcast_S2500_S2500x1_0 u) (ix2 p k) = u (ix1 p) := by
  refine congrArg u (funext fun a => ?_)
  obtain rfl : a = (0 : Fin 1) := Subsingleton.elim (α := Fin 1) _ _
  rfl

theorem perBox_apply (v : FVec Ideal S9 .f32) (n : Fin 22500) : perBox v (ix1 n) = v (ix1 (box n)) := by
  unfold perBox
  rw [cast_box, rows_box]

theorem placed_apply (u : FVec Ideal S2500 .f32) (v : FVec Ideal S9 .f32) (n : Fin 22500) : placed u v (ix1 n) = u (ix1 (pixel n)) + v (ix1 (box n)) := by
  unfold placed
  rw [cast_box]
  show broadcastInDim S2500x9 ![0, 1] bcast_S2500x1_S2500x9_0_1 (broadcastInDim S2500x1 ![0] bcast_S2500_S2500x1_0 u) (ix2 (pixel n) (box n))
    + broadcastInDim S2500x9 ![0, 1] bcast_S1x9_S2500x9_0_1 (broadcastInDim S1x9 ![1] bcast_S9_S1x9_1 v) (ix2 (pixel n) (box n)) = _
  rw [rows_box, rows_pixel]

theorem corner_col (b : FVec Ideal S9x4 .f32) (l : Fin 4) (h : S9x4.Slices (![0, l.val] : Fin 2 → ℕ) S9x1) (k : Fin 9) :
    shapeCast S9 (extractStridedSlice S9x1 ![0, l.val] b h) shapeCasts_S9x1_S9 (ix1 k) = b (ix2 k l) := by
  refine (shapeCast_apply _ _ _ (ix2 k (0 : Fin 1)) ?_).trans ?_
  · show (S9x1.rowMajor (ix2 _ _)).val = (S9.rowMajor (ix1 _)).val
    rw [Shape.rowMajor_val_one, Shape.rowMajor_val_two]
    simp
  refine extractStridedSlice_apply _ _ _ _ _ fun a => ?_
  match a with
  | ⟨0, _⟩ => show k.val = 0 + k.val; omega
  | ⟨1, _⟩ => rfl

section
variable (b : FVec Ideal S9x4 .f32) (k : Fin 9)

theorem sideX_apply : sideX b (ix1 k) = b (ix2 k (2 : Fin 4)) - b (ix2 k (0 : Fin 4)) := by
  rw [← corner_col b 2 slices_S9x4_S9x1_0_2 k, ← corner_col b 0 slices_S9x4_S9x1_0_0 k]
  rfl

theorem sideY_apply : sideY b (ix1 k) = b (ix2 k (3 : Fin 4)) - b (ix2 k (1 : Fin 4)) := by
  rw [← corner_col b 3 slices_S9x4_S9x1_0_3 k, ← corner_col b 1 slices_S9x4_S9x1_0_1 k]
  rfl

theorem centreX_apply : centreX b (ix1 k) = b (ix2 k (0 : Fin 4)) + Ideal.ofBits .f32 0x3F000000#32 * (b (ix2 k (2 : Fin 4)) - b (ix2 k (0 : Fin 4))) := by
  rw [← sideX_apply, ← corner_col b 0 slices_S9x4_S9x1_0_0 k]
  rfl

theorem centreY_apply : centreY b (ix1 k) = b (ix2 k (1 : Fin 4)) + Ideal.ofBits .f32 0x3F000000#32 * (b (ix2 k (3 : Fin 4)) - b (ix2 k (1 : Fin 4))) := by
  rw [← sideY_apply, ← corner_col b 1 slices_S9x4_S9x1_0_1 k]
  rfl

end

/-! ## The outputs' rows -/

theorem pos_outputs (j : S22500x4.Idx) (a : Fin 2) :
    scatter_S23040x8_S2_S22500x4_01_n_01_0.start j (pair 0#32 0#32) a + (scatter_S23040x8_S2_S22500x4_01_n_01_0.window j a : Int) = ((![(j 0).val, (j 1).val] a : ℕ) : Int) := by
  fin_cases a
  · show (0 : Int) + (((j 0).val : ℕ) : Int) = _
    simp
  · show (0 : Int) + (((j 1).val : ℕ) : Int) = _
    simp

theorem pos_scores (j : S23040.Idx) (a : Fin 2) :
    scatter_S23040x8_S1_S23040_0_1_1_0.start j (word 4#32) a + (scatter_S23040x8_S1_S23040_0_1_1_0.window j a : Int) = ((![(j 0).val, 4] a : ℕ) : Int) := by
  fin_cases a
  · show (0 : Int) + (((j 0).val : ℕ) : Int) = _
    simp
  · show (4 : Int) + ((0 : ℕ) : Int) = _
    simp

section
variable (x : FVec Ideal S22500 .f32) (z : FVec Ideal S22500x4 .f32) (n : Fin 23040)

theorem outputRows_score : outputRows x z (ix2 n (4 : Fin 8)) = scoredAll x (ix1 n) := by
  refine scatter_block scatter_S23040x8_S1_S23040_0_1_1_0 _ (word 4#32) _ _ (ix1 n) (fun j => ![(j 0).val, 4]) pos_scores (fun a => ?_) (fun j h => ?_)
  · match a with
    | ⟨0, _⟩ => rfl
    | ⟨1, _⟩ => rfl
  · have h0 : (j 0).val = n.val := h 0
    rw [ValueIdx.eq_ix1 j]
    exact congrArg ix1 (Fin.ext h0)

theorem outputRows_left (l : Fin 8) (hl : l.val < 4) : outputRows x z (ix2 n l)
    = Host.scatter scatter_S23040x8_S2_S22500x4_01_n_01_0 (fun _ b => b) zeros (pair 0#32 0#32) z (ix2 n l) := by
  refine scatter_out scatter_S23040x8_S1_S23040_0_1_1_0 _ (word 4#32) _ _ (fun j => ![(j 0).val, 4]) pos_scores (fun j e => ?_)
  have e1 : 4 = l.val := e 1
  omega

theorem outputRows_top (l : Fin 8) (l' : Fin 4) (hl : l.val = l'.val) (hn : n.val < 22500) : outputRows x z (ix2 n l) = z (ix2 (⟨n.val, hn⟩ : Fin 22500) l') := by
  refine (outputRows_left x z n l (by omega)).trans ?_
  refine scatter_block scatter_S23040x8_S2_S22500x4_01_n_01_0 _ (pair 0#32 0#32) _ _ (ix2 (⟨n.val, hn⟩ : Fin 22500) l') (fun j => ![(j 0).val, (j 1).val]) pos_outputs (fun a => ?_) (fun j h => ?_)
  · match a with
    | ⟨0, _⟩ => rfl
    | ⟨1, _⟩ => exact hl.symm
  · have h0 : (j 0).val = n.val := h 0
    have h1 : (j 1).val = l.val := h 1
    rw [ValueIdx.eq_ix2 j]
    exact congrArg₂ ix2 (Fin.ext h0) (Fin.ext (h1.trans hl))

theorem outputRows_rest (l : Fin 8) (hl : l.val < 4) (hn : 22500 ≤ n.val) : outputRows x z (ix2 n l) = 0 := by
  refine (outputRows_left x z n l hl).trans ?_
  refine (scatter_out scatter_S23040x8_S2_S22500x4_01_n_01_0 _ (pair 0#32 0#32) _ _ (fun j => ![(j 0).val, (j 1).val]) pos_outputs (fun j e => ?_)).trans (zeros_apply n l)
  have e0 : (j 0).val = n.val := e 0
  have hj : (j 0).val < 22500 := (j 0).isLt
  omega

theorem scoredAll_top (hn : n.val < 22500) : scoredAll x (ix1 n) = scored x (ix1 (⟨n.val, hn⟩ : Fin 22500)) := by
  refine concatenate_pair_apply_left (t := S23040) (s₁ := S22500) (s₂ := S540) 0 _ _ concatenates_S22500_S540_S23040_d0 (ix1 n) rfl (ix1 (⟨n.val, hn⟩ : Fin 22500)) fun b => ?_
  fin_cases b; rfl

theorem scoredAll_rest (hn : 22500 ≤ n.val) : scoredAll x (ix1 n) = Ideal.ofBits .f32 0xBF800000#32 := by
  refine concatenate_pair_apply_right (t := S23040) (s₁ := S22500) (s₂ := S540) 0 _ _ concatenates_S22500_S540_S23040_d0 (ix1 n) rfl rfl
    (ix1 (⟨n.val - 22500, by omega⟩ : Fin 540)) (fun b hb => ?_) ?_
  · exact absurd (Subsingleton.elim (α := Fin 1) _ _) hb
  · show n.val - 22500 + 22500 = n.val
    omega

end

/-! ## All rows -/

/-- The row of an anchor, from its pixel, its box's corners, its four outputs and its score. -/
def anchorRow (x : FVec Ideal S22500 .f32) (z : FVec Ideal S22500x4 .f32) (b : FVec Ideal S9x4 .f32) (n : Fin 22500) : Fin 8 → EReal :=
  row (z (ix2 n (0 : Fin 4))) (z (ix2 n (1 : Fin 4))) (z (ix2 n (2 : Fin 4))) (z (ix2 n (3 : Fin 4))) (scored x (ix1 n))
    (b (ix2 (box n) (2 : Fin 4)) - b (ix2 (box n) (0 : Fin 4))) (b (ix2 (box n) (3 : Fin 4)) - b (ix2 (box n) (1 : Fin 4)))
    (pixelX (ix1 (pixel n)) + (b (ix2 (box n) (0 : Fin 4)) + Ideal.ofBits .f32 0x3F000000#32 * (b (ix2 (box n) (2 : Fin 4)) - b (ix2 (box n) (0 : Fin 4)))))
    (pixelY (ix1 (pixel n)) + (b (ix2 (box n) (1 : Fin 4)) + Ideal.ofBits .f32 0x3F000000#32 * (b (ix2 (box n) (3 : Fin 4)) - b (ix2 (box n) (1 : Fin 4)))))

theorem allRows_top (x : FVec Ideal S22500 .f32) (z : FVec Ideal S22500x4 .f32) (b : FVec Ideal S9x4 .f32) (n : Fin 23040) (hn : n.val < 22500) (l : Fin 8) :
    allRows (outputRows x z) (anchorRows b) (ix2 n l) = anchorRow x z b ⟨n.val, hn⟩ l := by
  show row (outputRows x z (ix2 n (0 : Fin 8))) (outputRows x z (ix2 n (1 : Fin 8))) (outputRows x z (ix2 n (2 : Fin 8))) (outputRows x z (ix2 n (3 : Fin 8))) (outputRows x z (ix2 n (4 : Fin 8)))
    (anchorRows b (ix2 n (0 : Fin 8))) (anchorRows b (ix2 n (1 : Fin 8))) (anchorRows b (ix2 n (2 : Fin 8))) (anchorRows b (ix2 n (3 : Fin 8))) l = _
  rw [outputRows_top x z n 0 0 rfl hn, outputRows_top x z n 1 1 rfl hn, outputRows_top x z n 2 2 rfl hn, outputRows_top x z n 3 3 rfl hn, outputRows_score, scoredAll_top x n hn,
    anchorRows_0 b n hn, anchorRows_1 b n hn, anchorRows_2 b n hn, anchorRows_3 b n hn, perBox_apply, perBox_apply, placed_apply, placed_apply,
    sideX_apply, sideY_apply, centreX_apply, centreY_apply]
  rfl

theorem allRows_rest (x : FVec Ideal S22500 .f32) (z : FVec Ideal S22500x4 .f32) (b : FVec Ideal S9x4 .f32) (n : Fin 23040) (hn : 22500 ≤ n.val) (l : Fin 8) :
    allRows (outputRows x z) (anchorRows b) (ix2 n l) = if l = 6 then Ideal.ofBits .f32 0xBF800000#32 else 0 := by
  show row (outputRows x z (ix2 n (0 : Fin 8))) (outputRows x z (ix2 n (1 : Fin 8))) (outputRows x z (ix2 n (2 : Fin 8))) (outputRows x z (ix2 n (3 : Fin 8))) (outputRows x z (ix2 n (4 : Fin 8)))
    (anchorRows b (ix2 n (0 : Fin 8))) (anchorRows b (ix2 n (1 : Fin 8))) (anchorRows b (ix2 n (2 : Fin 8))) (anchorRows b (ix2 n (3 : Fin 8))) l = _
  rw [outputRows_rest x z n 0 (by decide) hn, outputRows_rest x z n 1 (by decide) hn, outputRows_rest x z n 2 (by decide) hn, outputRows_rest x z n 3 (by decide) hn,
    outputRows_score, scoredAll_rest x n hn, anchorRows_rest b n hn, anchorRows_rest b n hn, anchorRows_rest b n hn, anchorRows_rest b n hn, row_zero]

variable (m : (ℓ : Loc nD τ sig) → Buf (Elt Ideal) ℓ) (c : Dev nD)

/-- The kernel's result. -/
theorem kernel_rows : ((dats m 0 c).arrAt 2 cfg0.N : Vec Ideal S23040x8 .f32)
    = allRows (outputRows (m ((c : Thread nD τ).loc main_arg0)) (m ((c : Thread nD τ).loc main_arg1))) (anchorRows (base ratios scales)) :=
  (rows_arr m c).trans (congrArg₂ allRows (outputs_at m c) (anchors_at m c))

end Cert.Proof.Decode

end
-- ==== Proof.DecodeRef.lean ====
module

public import proofs.«01_k».proof.Proof.DecodeVals
public import proofs.«01_k».proof.Proof.Gen.DecodeReferenceIdeal.Run
public import Idealize.ShloMosaic.Lib.ValueLayout

@[expose] public section

set_option maxRecDepth 16384

noncomputable section

namespace Cert.Proof.DecodeRef

open Cert.DecodeReferenceIdeal Cert.DecodeReferenceIdeal.Gen Cert.DecodeReferenceIdeal.Value
open Cert.Proof.Decode (IsReal base ratios scales widths heights pixelX pixelY pixel box row mid low high clip long anchorRow scored sub_shift base_real concatenate_forall)
open Idealize.ShloMosaic Idealize.ShloMosaic.TcCoe

/-! ## The ratios and the scales -/

theorem ratios_eq : (fun i => FloatOps.ofBits .f32 (lit0 (S3.rowMajor i)) : FVec Ideal S3 .f32) = ratios := by
  funext i
  show Ideal.ofBits .f32 (lit0 (S3.rowMajor i)) = Ideal.ofBits .f32 (Cert.DecodeIdeal.lit1 (S3.rowMajor i))
  have h : ∀ k : Fin 3, lit0 k = Cert.DecodeIdeal.lit1 k := by decide
  exact congrArg _ (h _)

theorem scales_eq : (fun i => FloatOps.ofBits .f32 (lit1 (S3.rowMajor i)) : FVec Ideal S3 .f32) = scales := by
  funext i
  show Ideal.ofBits .f32 (lit1 (S3.rowMajor i)) = Ideal.ofBits .f32 (Cert.DecodeIdeal.lit0 (S3.rowMajor i))
  have h : ∀ k : Fin 3, lit1 k = Cert.DecodeIdeal.lit0 k := by decide
  exact congrArg _ (h _)

theorem ratios_pos (i : S3.Idx) : ∃ r : ℝ, 0 < r ∧ ratios i = (r : EReal) := by
  show ∃ r : ℝ, 0 < r ∧ Ideal.ofBits .f32 (Cert.DecodeIdeal.lit1 (S3.rowMajor i)) = (r : EReal)
  have h : ∀ k : Fin 3, ∃ r : ℝ, 0 < r ∧ Ideal.ofBits .f32 (Cert.DecodeIdeal.lit1 k) = (r : EReal) := fun k => by
    match k with
    | 0 => exact ⟨0.5, by norm_num, Comp.ofBits_half⟩
    | 1 => exact ⟨1, by norm_num, Ideal.ofBits_one_f32⟩
    | 2 => exact ⟨2, by norm_num, Decode.ofBits_two⟩
  exact h _

theorem scales_real (i : S3.Idx) : IsReal (scales i) := by
  show IsReal (Ideal.ofBits .f32 (Cert.DecodeIdeal.lit0 (S3.rowMajor i)))
  have h : ∀ k : Fin 3, IsReal (Ideal.ofBits .f32 (Cert.DecodeIdeal.lit0 k)) := fun k => by
    match k with
    | 0 =>
      have e : Ideal.ofBits .f32 0x43000000#32 = ((128 : ℝ) : EReal) := by simp [Ideal.ofBits, Ideal.ieee, -EReal.coe_mul]; norm_num
      exact ⟨128, e⟩
    | 1 =>
      have e : Ideal.ofBits .f32 0x43800000#32 = ((256 : ℝ) : EReal) := by simp [Ideal.ofBits, Ideal.ieee, -EReal.coe_mul]; norm_num
      exact ⟨256, e⟩
    | 2 =>
      have e : Ideal.ofBits .f32 0x44000000#32 = ((512 : ℝ) : EReal) := by simp [Ideal.ofBits, Ideal.ieee, -EReal.coe_mul]; norm_num
      exact ⟨512, e⟩
  exact h _

theorem pixelX_real (i : S2500.Idx) : IsReal (pixelX i) := ⟨_, rfl⟩
theorem pixelY_real (i : S2500.Idx) : IsReal (pixelY i) := ⟨_, rfl⟩

/-! ## The anchors -/

variable (V0 : Valuation τ sig (Elt Ideal))

theorem widths_eq : res_main_v8 V0 = widths ratios scales := by
  rw [← ratios_eq, ← scales_eq]
  rfl

theorem heights_eq : res_main_v14 V0 = heights ratios scales := by
  rw [← ratios_eq, ← scales_eq]
  rfl

/-- The boxes at the origin from their widths and heights. -/
def baseOf (w h : FVec Ideal S9 .f32) : FVec Ideal S9x4 .f32 :=
  Host.roundeven (Host.divf (concatenate S9x4 1 [⟨S9x1, broadcastInDim S9x1 ![0] bcast_S9_S9x1_0 (Host.negf w)⟩, ⟨S9x1, broadcastInDim S9x1 ![0] bcast_S9_S9x1_0 (Host.negf h)⟩,
    ⟨S9x1, broadcastInDim S9x1 ![0] bcast_S9_S9x1_0 w⟩, ⟨S9x1, broadcastInDim S9x1 ![0] bcast_S9_S9x1_0 h⟩] concatenates_S9x1_S9x1_S9x1_S9x1_S9x4_d1)
    (broadcastInDim S9x4 ![] bcast_S_S9x4 (constant S_ .f32 0x40000000#32)))

/-- The pixels' shifts. -/
def shifts (u v : FVec Ideal S2500 .f32) : FVec Ideal S2500x4 .f32 :=
  concatenate S2500x4 1 [⟨S2500x1, broadcastInDim S2500x1 ![0] bcast_S2500_S2500x1_0 u⟩, ⟨S2500x1, broadcastInDim S2500x1 ![0] bcast_S2500_S2500x1_0 v⟩,
    ⟨S2500x1, broadcastInDim S2500x1 ![0] bcast_S2500_S2500x1_0 u⟩, ⟨S2500x1, broadcastInDim S2500x1 ![0] bcast_S2500_S2500x1_0 v⟩] concatenates_S2500x1_S2500x1_S2500x1_S2500x1_S2500x4_d1

theorem pixel_col (u : FVec Ideal S2500 .f32) (p : Fin 2500) : broadcastInDim S2500x1 ![0] bcast_S2500_S2500x1_0 u (ix2 p (0 : Fin 1)) = u (ix1 p) := by
  refine congrArg u (funext fun a => ?_)
  obtain rfl : a = (0 : Fin 1) := Subsingleton.elim (α := Fin 1) _ _
  rfl

theorem anchor_col (u : FVec Ideal S22500 .f32) (p : Fin 22500) : broadcastInDim S22500x1 ![0] bcast_S22500_S22500x1_0 u (ix2 p (0 : Fin 1)) = u (ix1 p) := by
  refine congrArg u (funext fun a => ?_)
  obtain rfl : a = (0 : Fin 1) := Subsingleton.elim (α := Fin 1) _ _
  rfl

theorem shifts_apply (u v : FVec Ideal S2500 .f32) (p : Fin 2500) (l : Fin 4) : shifts u v (ix2 p l) = (![u, v, u, v] l) (ix1 p) := by
  unfold shifts
  refine (concatenate_apply_piece (t := S2500x4) 1 _ _ (ix2 p l) l.val (by simp) S2500x1
    ((![broadcastInDim S2500x1 ![0] bcast_S2500_S2500x1_0 u, broadcastInDim S2500x1 ![0] bcast_S2500_S2500x1_0 v, broadcastInDim S2500x1 ![0] bcast_S2500_S2500x1_0 u,
      broadcastInDim S2500x1 ![0] bcast_S2500_S2500x1_0 v] : Fin 4 → FVec Ideal S2500x1 .f32) l) ?_ rfl l.val ?_ (ix2 p (0 : Fin 1)) ?_ ?_).trans ?_
  · fin_cases l <;> rfl
  · fin_cases l <;> rfl
  · intro b hb
    match b with
    | ⟨0, _⟩ => rfl
    | ⟨1, _⟩ => exact absurd rfl hb
  · show l.val + 0 = l.val
    rfl
  · match l with
    | 0 => exact pixel_col u p
    | 1 => exact pixel_col v p
    | 2 => exact pixel_col u p
    | 3 => exact pixel_col v p

/-- A corner of an anchor is its box's corner moved by its pixel's shift. -/
theorem anchors_apply (n : Fin 22500) (l : Fin 4) :
    res_main_v41 V0 (ix2 n l) = (![pixelX, pixelY, pixelX, pixelY] l) (ix1 (pixel n)) + base ratios scales (ix2 (box n) l) := by
  unfold res_main_v41
  refine (shapeCast_apply _ _ _ (ix3 (pixel n) (box n) l) ?_).trans ?_
  · show (S2500x9x4.rowMajor (ix3 _ _ _)).val = (S22500x4.rowMajor (ix2 _ _)).val
    rw [Shape.rowMajor_val_two, Shape.rowMajor_val_three]
    show (n.val / 9 * 9 + n.val % 9) * 4 + l.val = n.val * 4 + l.val
    omega
  show broadcastInDim S2500x9x4 ![0, 1, 2] bcast_S2500x1x4_S2500x9x4_0_1_2 (broadcastInDim S2500x1x4 ![0, 2] bcast_S2500x4_S2500x1x4_0_2 (shifts (res_main_v29 V0) (res_main_v30 V0))) (ix3 (pixel n) (box n) l)
    + broadcastInDim S2500x9x4 ![0, 1, 2] bcast_S1x9x4_S2500x9x4_0_1_2 (broadcastInDim S1x9x4 ![1, 2] bcast_S9x4_S1x9x4_1_2 (baseOf (res_main_v8 V0) (res_main_v14 V0))) (ix3 (pixel n) (box n) l) = _
  have e1 : ∀ w : FVec Ideal S2500x4 .f32, broadcastInDim S2500x9x4 ![0, 1, 2] bcast_S2500x1x4_S2500x9x4_0_1_2 (broadcastInDim S2500x1x4 ![0, 2] bcast_S2500x4_S2500x1x4_0_2 w) (ix3 (pixel n) (box n) l)
      = w (ix2 (pixel n) l) := fun w => by
    refine congrArg w (funext fun a => ?_)
    match a with
    | ⟨0, _⟩ => rfl
    | ⟨1, _⟩ => rfl
  have e2 : ∀ w : FVec Ideal S9x4 .f32, broadcastInDim S2500x9x4 ![0, 1, 2] bcast_S1x9x4_S2500x9x4_0_1_2 (broadcastInDim S1x9x4 ![1, 2] bcast_S9x4_S1x9x4_1_2 w) (ix3 (pixel n) (box n) l)
      = w (ix2 (box n) l) := fun w => by
    refine congrArg w (funext fun a => ?_)
    match a with
    | ⟨0, _⟩ => rfl
    | ⟨1, _⟩ => rfl
  rw [e1, e2, shifts_apply, widths_eq, heights_eq]
  rfl

theorem take_col (w : FVec Ideal S22500x4 .f32) (l : Fin 4) (h : S22500x4.Slices (![0, l.val] : Fin 2 → ℕ) S22500x1) (n : Fin 22500) :
    shapeCast S22500 (extractStridedSlice S22500x1 ![0, l.val] w h) shapeCasts_S22500x1_S22500 (ix1 n) = w (ix2 n l) := by
  refine (shapeCast_apply _ _ _ (ix2 n (0 : Fin 1)) ?_).trans ?_
  · show (S22500x1.rowMajor (ix2 _ _)).val = (S22500.rowMajor (ix1 _)).val
    rw [Shape.rowMajor_val_one, Shape.rowMajor_val_two]
    simp
  refine extractStridedSlice_apply _ _ _ _ _ fun a => ?_
  match a with
  | ⟨0, _⟩ => show n.val = 0 + n.val; omega
  | ⟨1, _⟩ => rfl

/-! ## The boxes -/

section
variable (n : Fin 22500)

/-- A corner of the anchor. -/
abbrev A (l : Fin 4) : EReal := (res_main_v41 V0 : FVec Ideal S22500x4 .f32) (ix2 n l)
/-- One of the anchor's regression outputs. -/
abbrev Z (l : Fin 4) : EReal := (V0 (Proc.devRef .tc main_arg1) : FVec Ideal S22500x4 .f32) (ix2 n l)

theorem width_at : (res_main_v46 V0 : FVec Ideal S22500 .f32) (ix1 n) = A V0 n 2 - A V0 n 0 := by
  unfold A
  rw [← take_col (res_main_v41 V0 : FVec Ideal S22500x4 .f32) 2 slices_S22500x4_S22500x1_0_2 n, ← take_col (res_main_v41 V0 : FVec Ideal S22500x4 .f32) 0 slices_S22500x4_S22500x1_0_0 n]
  rfl

theorem height_at : (res_main_v51 V0 : FVec Ideal S22500 .f32) (ix1 n) = A V0 n 3 - A V0 n 1 := by
  unfold A
  rw [← take_col (res_main_v41 V0 : FVec Ideal S22500x4 .f32) 3 slices_S22500x4_S22500x1_0_3 n, ← take_col (res_main_v41 V0 : FVec Ideal S22500x4 .f32) 1 slices_S22500x4_S22500x1_0_1 n]
  rfl

theorem midX_at : (res_main_v65 V0 : FVec Ideal S22500 .f32) (ix1 n)
    = mid (Z V0 n 0) (A V0 n 2 - A V0 n 0) (A V0 n 0 + Ideal.ofBits .f32 0x3F000000#32 * (A V0 n 2 - A V0 n 0)) := by
  rw [← width_at]
  unfold A Z mid
  rw [← take_col (V0 (Proc.devRef .tc main_arg1) : FVec Ideal S22500x4 .f32) 0 slices_S22500x4_S22500x1_0_0 n, ← take_col (res_main_v41 V0 : FVec Ideal S22500x4 .f32) 0 slices_S22500x4_S22500x1_0_0 n]
  rfl

theorem midY_at : (res_main_v69 V0 : FVec Ideal S22500 .f32) (ix1 n)
    = mid (Z V0 n 1) (A V0 n 3 - A V0 n 1) (A V0 n 1 + Ideal.ofBits .f32 0x3F000000#32 * (A V0 n 3 - A V0 n 1)) := by
  rw [← height_at]
  unfold A Z mid
  rw [← take_col (V0 (Proc.devRef .tc main_arg1) : FVec Ideal S22500x4 .f32) 1 slices_S22500x4_S22500x1_0_1 n, ← take_col (res_main_v41 V0 : FVec Ideal S22500x4 .f32) 1 slices_S22500x4_S22500x1_0_1 n]
  rfl

theorem spanX_at : (res_main_v73 V0 : FVec Ideal S22500 .f32) (ix1 n) = Ideal.exp (Z V0 n 2) * (A V0 n 2 - A V0 n 0) := by
  rw [← width_at]
  unfold Z
  rw [← take_col (V0 (Proc.devRef .tc main_arg1) : FVec Ideal S22500x4 .f32) 2 slices_S22500x4_S22500x1_0_2 n]
  rfl

theorem spanY_at : (res_main_v77 V0 : FVec Ideal S22500 .f32) (ix1 n) = Ideal.exp (Z V0 n 3) * (A V0 n 3 - A V0 n 1) := by
  rw [← height_at]
  unfold Z
  rw [← take_col (V0 (Proc.devRef .tc main_arg1) : FVec Ideal S22500x4 .f32) 3 slices_S22500x4_S22500x1_0_3 n]
  rfl

theorem lowX_at : (res_main_v81 V0 : FVec Ideal S22500 .f32) (ix1 n)
    = low (Z V0 n 0) (Z V0 n 2) (A V0 n 2 - A V0 n 0) (A V0 n 0 + Ideal.ofBits .f32 0x3F000000#32 * (A V0 n 2 - A V0 n 0)) := by
  unfold low
  rw [← midX_at, ← spanX_at]
  rfl

theorem lowY_at : (res_main_v85 V0 : FVec Ideal S22500 .f32) (ix1 n)
    = low (Z V0 n 1) (Z V0 n 3) (A V0 n 3 - A V0 n 1) (A V0 n 1 + Ideal.ofBits .f32 0x3F000000#32 * (A V0 n 3 - A V0 n 1)) := by
  unfold low
  rw [← midY_at, ← spanY_at]
  rfl

theorem highX_at : (res_main_v89 V0 : FVec Ideal S22500 .f32) (ix1 n)
    = high (Z V0 n 0) (Z V0 n 2) (A V0 n 2 - A V0 n 0) (A V0 n 0 + Ideal.ofBits .f32 0x3F000000#32 * (A V0 n 2 - A V0 n 0)) := by
  unfold high
  rw [← midX_at, ← spanX_at]
  rfl

theorem highY_at : (res_main_v93 V0 : FVec Ideal S22500 .f32) (ix1 n)
    = high (Z V0 n 1) (Z V0 n 3) (A V0 n 3 - A V0 n 1) (A V0 n 1 + Ideal.ofBits .f32 0x3F000000#32 * (A V0 n 3 - A V0 n 1)) := by
  unfold high
  rw [← midY_at, ← spanY_at]
  rfl

end

/-! ## The result -/

/-- Eight columns side by side. -/
def eight (u0 u1 u2 u3 u4 u5 u6 u7 : FVec Ideal S22500 .f32) : FVec Ideal S22500x8 .f32 :=
  concatenate S22500x8 1 [⟨S22500x1, broadcastInDim S22500x1 ![0] bcast_S22500_S22500x1_0 u0⟩, ⟨S22500x1, broadcastInDim S22500x1 ![0] bcast_S22500_S22500x1_0 u1⟩,
    ⟨S22500x1, broadcastInDim S22500x1 ![0] bcast_S22500_S22500x1_0 u2⟩, ⟨S22500x1, broadcastInDim S22500x1 ![0] bcast_S22500_S22500x1_0 u3⟩,
    ⟨S22500x1, broadcastInDim S22500x1 ![0] bcast_S22500_S22500x1_0 u4⟩, ⟨S22500x1, broadcastInDim S22500x1 ![0] bcast_S22500_S22500x1_0 u5⟩,
    ⟨S22500x1, broadcastInDim S22500x1 ![0] bcast_S22500_S22500x1_0 u6⟩, ⟨S22500x1, broadcastInDim S22500x1 ![0] bcast_S22500_S22500x1_0 u7⟩]
    concatenates_S22500x1_S22500x1_S22500x1_S22500x1_S22500x1_S22500x1_S22500x1_S22500x1_S22500x8_d1

theorem eight_apply (u0 u1 u2 u3 u4 u5 u6 u7 : FVec Ideal S22500 .f32) (n : Fin 22500) (l : Fin 8) :
    eight u0 u1 u2 u3 u4 u5 u6 u7 (ix2 n l) = (![u0, u1, u2, u3, u4, u5, u6, u7] l) (ix1 n) := by
  unfold eight
  refine (concatenate_apply_piece (t := S22500x8) 1 _ _ (ix2 n l) l.val (by simp) S22500x1
    (broadcastInDim S22500x1 ![0] bcast_S22500_S22500x1_0 (![u0, u1, u2, u3, u4, u5, u6, u7] l)) ?_ rfl l.val ?_ (ix2 n (0 : Fin 1)) ?_ ?_).trans (anchor_col _ n)
  · fin_cases l <;> rfl
  · fin_cases l <;> rfl
  · intro b hb
    match b with
    | ⟨0, _⟩ => rfl
    | ⟨1, _⟩ => exact absurd rfl hb
  · show l.val + 0 = l.val
    rfl

/-- Whether a side is long enough, for every anchor. -/
def longs (u : FVec Ideal S22500 .f32) : IVec S22500 1 := cmpf .oge u (broadcastInDim S22500 ![] bcast_S_S22500 (constant S_ .f32 0x41800000#32))

/-- The rows of the anchors. -/
def topRows : FVec Ideal S22500x8 .f32 :=
  eight (res_main_v81 V0) (res_main_v85 V0) (res_main_v89 V0) (res_main_v93 V0)
    (mulf (F := Ideal) (φ := .f32) (s := S22500) (subf (res_main_v89 V0) (res_main_v81 V0)) (subf (res_main_v93 V0) (res_main_v85 V0)))
    (uitofp .f32 (andi (longs (subf (F := Ideal) (φ := .f32) (s := S22500) (res_main_v89 V0) (res_main_v81 V0))) (longs (subf (F := Ideal) (φ := .f32) (s := S22500) (res_main_v93 V0) (res_main_v85 V0)))))
    (scored (V0 (Proc.devRef .tc main_arg0))) (broadcastInDim S22500 ![] bcast_S_S22500 (constant S_ .f32 0x00000000#32))

theorem topRows_row (n : Fin 22500) (l : Fin 8) : topRows V0 (ix2 n l)
    = row (Z V0 n 0) (Z V0 n 1) (Z V0 n 2) (Z V0 n 3) (scored (V0 (Proc.devRef .tc main_arg0)) (ix1 n)) (A V0 n 2 - A V0 n 0) (A V0 n 3 - A V0 n 1)
        (A V0 n 0 + Ideal.ofBits .f32 0x3F000000#32 * (A V0 n 2 - A V0 n 0)) (A V0 n 1 + Ideal.ofBits .f32 0x3F000000#32 * (A V0 n 3 - A V0 n 1)) l := by
  unfold topRows
  rw [eight_apply]
  match l with
  | 0 => exact lowX_at V0 n
  | 1 => exact lowY_at V0 n
  | 2 => exact highX_at V0 n
  | 3 => exact highY_at V0 n
  | 4 =>
    unfold row
    rw [← lowX_at, ← lowY_at, ← highX_at, ← highY_at]
    rfl
  | 5 =>
    unfold row
    rw [← lowX_at, ← lowY_at, ← highX_at, ← highY_at]
    rfl
  | 6 => rfl
  | 7 => rfl

/-- The row of an anchor in the reference is the kernel's: the pixel's shift drops out of a side, and moves the centre. -/
theorem topRows_apply (n : Fin 22500) (l : Fin 8) : topRows V0 (ix2 n l)
    = anchorRow (V0 (Proc.devRef .tc main_arg0)) (V0 (Proc.devRef .tc main_arg1)) (base ratios scales) n l := by
  have hb := base_real ratios scales ratios_pos scales_real
  rw [topRows_row]
  unfold A anchorRow
  rw [anchors_apply, anchors_apply, anchors_apply, anchors_apply]
  show row _ _ _ _ _ ((pixelX (ix1 (pixel n)) + base ratios scales (ix2 (box n) (2 : Fin 4))) - (pixelX (ix1 (pixel n)) + base ratios scales (ix2 (box n) (0 : Fin 4))))
    ((pixelY (ix1 (pixel n)) + base ratios scales (ix2 (box n) (3 : Fin 4))) - (pixelY (ix1 (pixel n)) + base ratios scales (ix2 (box n) (1 : Fin 4))))
    ((pixelX (ix1 (pixel n)) + base ratios scales (ix2 (box n) (0 : Fin 4))) + Ideal.ofBits .f32 0x3F000000#32
      * ((pixelX (ix1 (pixel n)) + base ratios scales (ix2 (box n) (2 : Fin 4))) - (pixelX (ix1 (pixel n)) + base ratios scales (ix2 (box n) (0 : Fin 4)))))
    ((pixelY (ix1 (pixel n)) + base ratios scales (ix2 (box n) (1 : Fin 4))) + Ideal.ofBits .f32 0x3F000000#32
      * ((pixelY (ix1 (pixel n)) + base ratios scales (ix2 (box n) (3 : Fin 4))) - (pixelY (ix1 (pixel n)) + base ratios scales (ix2 (box n) (1 : Fin 4))))) l = _
  rw [sub_shift (pixelX_real _) (hb _) (hb _), sub_shift (pixelY_real _) (hb _) (hb _), add_assoc, add_assoc]

/-- The reference's result. -/
def refRows : FVec Ideal S23040x8 .f32 :=
  concatenate S23040x8 0 [⟨S22500x8, topRows V0⟩, ⟨S540x8, broadcastInDim S540x8 ![1] bcast_S8_S540x8_1 (fun i => FloatOps.ofBits .f32 (lit2 (S8.rowMajor i)) : FVec Ideal S8 .f32)⟩]
    concatenates_S22500x8_S540x8_S23040x8_d0

theorem refRows_top (n : Fin 23040) (hn : n.val < 22500) (l : Fin 8) : refRows V0 (ix2 n l) = topRows V0 (ix2 (⟨n.val, hn⟩ : Fin 22500) l) := by
  refine concatenate_pair_apply_left (t := S23040x8) (s₁ := S22500x8) (s₂ := S540x8) 0 _ _ concatenates_S22500x8_S540x8_S23040x8_d0 (ix2 n l) rfl (ix2 (⟨n.val, hn⟩ : Fin 22500) l) fun b => ?_
  match b with
  | ⟨0, _⟩ => rfl
  | ⟨1, _⟩ => rfl

theorem refRows_rest (n : Fin 23040) (hn : 22500 ≤ n.val) (l : Fin 8) : refRows V0 (ix2 n l) = if l = 6 then Ideal.ofBits .f32 0xBF800000#32 else 0 := by
  refine (concatenate_pair_apply_right (t := S23040x8) (s₁ := S22500x8) (s₂ := S540x8) 0 _ _ concatenates_S22500x8_S540x8_S23040x8_d0 (ix2 n l) rfl rfl
    (ix2 (⟨n.val - 22500, by omega⟩ : Fin 540) l) (fun b hb => ?_) ?_).trans ?_
  · match b with
    | ⟨0, _⟩ => exact absurd rfl hb
    | ⟨1, _⟩ => rfl
  · show n.val - 22500 + 22500 = n.val
    omega
  · have e : ∀ u : FVec Ideal S8 .f32, broadcastInDim S540x8 ![1] bcast_S8_S540x8_1 u (ix2 (⟨n.val - 22500, by omega⟩ : Fin 540) l) = u (ix1 l) := fun u => by
      refine congrArg u (funext fun a => ?_)
      obtain rfl : a = (0 : Fin 1) := Subsingleton.elim (α := Fin 1) _ _
      rfl
    rw [e]
    show Ideal.ofBits .f32 (lit2 (S8.rowMajor (ix1 l))) = _
    have h : ∀ k : Fin 8, lit2 (S8.rowMajor (ix1 k)) = if k = 6 then 0xBF800000#32 else 0x00000000#32 := by decide
    rw [h]
    by_cases h6 : l = 6
    · rw [if_pos h6, if_pos h6]
    · rw [if_neg h6, if_neg h6, Ideal.ofBits_zero_f32]

/-- Every row of the reference is the kernel's. -/
theorem rows_eq : Decode.allRows (Decode.outputRows (V0 (Proc.devRef .tc main_arg0)) (V0 (Proc.devRef .tc main_arg1))) (Decode.anchorRows (base ratios scales)) = refRows V0 := by
  funext i
  rw [ValueIdx.eq_ix2 i]
  by_cases hn : (i 0).val < 22500
  · exact (Decode.allRows_top _ _ _ (i 0) hn (i 1)).trans ((refRows_top V0 (i 0) hn (i 1)).trans (topRows_apply V0 _ _)).symm
  · exact (Decode.allRows_rest _ _ _ (i 0) (by omega) (i 1)).trans (refRows_rest V0 (i 0) (by omega) (i 1)).symm

end Cert.Proof.DecodeRef

end
-- ==== Proof.lean ====
module

public import proofs.«01_k».proof.Defs
public import proofs.«01_k».proof.Proof.HostVals
public import proofs.«01_k».proof.Proof.RefVals
public import proofs.«01_k».proof.Proof.Same
public import proofs.«01_k».proof.Proof.HeadsTail
public import proofs.«01_k».proof.Proof.HeadsRef
public import proofs.«01_k».proof.Proof.CompactHost
public import proofs.«01_k».proof.Proof.CompactPre
public import proofs.«01_k».proof.Proof.CompactRef
public import proofs.«01_k».proof.Proof.DecodeVals
public import proofs.«01_k».proof.Proof.DecodeRef
public import proofs.«01_k».proof.Proof.Gen.Kernel
public import proofs.«01_k».proof.Proof.Gen.KernelIdeal
public import proofs.«01_k».proof.Proof.Gen.ReferenceIdeal
public import proofs.«01_k».proof.Proof.Gen.Heads
public import proofs.«01_k».proof.Proof.Gen.HeadsIdeal
public import proofs.«01_k».proof.Proof.Gen.HeadsIdeal.Frame
public import proofs.«01_k».proof.Proof.Gen.Heads.Frame
public import proofs.«01_k».proof.Proof.Gen.HeadsReferenceIdeal
public import proofs.«01_k».proof.Proof.Gen.HeadsReferenceIdeal.Run
public import proofs.«01_k».proof.Proof.Gen.Compact
public import proofs.«01_k».proof.Proof.Gen.CompactIdeal
public import proofs.«01_k».proof.Proof.Gen.CompactIdeal.Frame
public import proofs.«01_k».proof.Proof.Gen.Compact.Frame
public import proofs.«01_k».proof.Proof.Gen.CompactReferenceIdeal
public import proofs.«01_k».proof.Proof.Gen.CompactReferenceIdeal.Run
public import proofs.«01_k».proof.Proof.Gen.Pre_in_order
public import proofs.«01_k».proof.Proof.Gen.Decode
public import proofs.«01_k».proof.Proof.Gen.DecodeIdeal
public import proofs.«01_k».proof.Proof.Gen.DecodeIdeal.Frame
public import proofs.«01_k».proof.Proof.Gen.Decode.Frame
public import proofs.«01_k».proof.Proof.Gen.DecodeReferenceIdeal
public import proofs.«01_k».proof.Proof.Gen.DecodeReferenceIdeal.Run

@[expose] public section

noncomputable section

namespace Cert.Proof

open Idealize.ShloMosaic Idealize.ShloMosaic.TcCoe Idealize.SL.Sem

/-- The kernel as printed runs to its end, leaves its arguments as they were and every semaphore at zero. -/
theorem frame_kernel : Cert.quiescent_Kernel := fun m ρ _ =>
  Sel.run_same m ρ _
    ((θ_run Cert.KernelIdeal.defs _ _).mono (fun _ h => ⟨fun c => ⟨(h.1 c).1, (h.1 c).2.1, (h.1 c).2.2.1⟩, h.2⟩) (Sel.run_main (F := Bits) m ρ))

/-- So does the kernel over the extended reals. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (Sel.run_main (F := Ideal) m ρ)

/-- So does the reference over the extended reals, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's rows are the reference's, index by index. -/
theorem rows_eq (x0 : FVec Ideal Cert.KernelIdeal.S23040x8 .f32) (cls : FVec Ideal Cert.ReferenceIdeal.S22500 .f32) :
    (fun i => Sel.selRow x0 (Sel.cnt (Sel.score cls) 23040) (i 0).val (i 1) : FVec Ideal Cert.KernelIdeal.S10240x8 .f32) = Sel.refRows x0 cls := by
  funext i
  rw [ValueIdx.eq_ix2 i]
  obtain ⟨n, hn, h⟩ := Sel.refRows_apply x0 cls (i 0) (i 1)
  exact (Sel.selRow_eq x0 (Sel.score cls) (i 0).val n.val (by omega) hn (i 1)).trans h.symm

/-- The kernel and the reference compute the same rows over the extended reals. -/
theorem algebraic : Cert.algebraic_KernelIdeal_ReferenceIdeal := by
  intro m ρ m' ρ' _ hag
  refine ⟨fun c => Sel.refRows (m ((c.tc : Thread _ _).loc Cert.KernelIdeal.main_arg0)) (m ((c.tc : Thread _ _).loc Cert.KernelIdeal.main_arg2)), ?_, ?_⟩
  · exact (θ_run Cert.KernelIdeal.defs _ _).mono (fun _ h c => ⟨((h.1 c).2.2.2.trans (Sel.kernel_rows m ρ c)).trans (rows_eq _ _),
      (h.1 c).1, (h.1 c).2.1, (h.1 c).2.2.1⟩) (Sel.run_main (F := Ideal) m ρ)
  · refine (θ_run Cert.ReferenceIdeal.defs _ _).mono (fun _ h c => ⟨?_, (h c).2⟩) (Cert.ReferenceIdeal.Value.run (F := Ideal) m' ρ')
    have e := (h c).1
    rw [(hag c).1, (hag c).2.2] at e
    exact e

/-- The convolution heads run to their end, leave their arguments as they were and every semaphore at zero. -/
theorem frame_heads : Cert.quiescent_Heads := fun m ρ _ => Cert.Heads.Gen.frame m ρ

/-- So do they over the extended reals. -/
theorem frame_heads_ideal : Cert.quiescent_HeadsIdeal := fun m ρ _ => Cert.HeadsIdeal.Gen.frame m ρ

/-- So does their reference over the extended reals. -/
theorem frame_heads_reference : Cert.quiescent_HeadsReferenceIdeal := fun m ρ _ =>
  (θ_run Cert.HeadsReferenceIdeal.defs _ _).mono (fun r h => ⟨fun c => (h c).2.2, sem_eq_zero_of_no_sems (by decide) r.2⟩)
    (Cert.HeadsReferenceIdeal.Value.run (F := Ideal) m ρ)

/-- The convolution heads and their reference compute the same class scores and box shifts over the extended reals. -/
theorem algebraic_heads : Cert.algebraic_HeadsIdeal_HeadsReferenceIdeal := by
  intro m ρ m' ρ' _ hag
  refine ⟨fun c => Heads.clsAll (m ((c.tc : Thread _ _).loc Cert.HeadsIdeal.main_arg0)) (m ((c.tc : Thread _ _).loc Cert.HeadsIdeal.main_arg1)) (m ((c.tc : Thread _ _).loc Cert.HeadsIdeal.main_arg2)) (m ((c.tc : Thread _ _).loc Cert.HeadsIdeal.main_arg3)) (m ((c.tc : Thread _ _).loc Cert.HeadsIdeal.main_arg4)),
    fun c => Heads.regAll (m ((c.tc : Thread _ _).loc Cert.HeadsIdeal.main_arg0)) (m ((c.tc : Thread _ _).loc Cert.HeadsIdeal.main_arg1)) (m ((c.tc : Thread _ _).loc Cert.HeadsIdeal.main_arg2)) (m ((c.tc : Thread _ _).loc Cert.HeadsIdeal.main_arg5)) (m ((c.tc : Thread _ _).loc Cert.HeadsIdeal.main_arg6)), ?_, ?_⟩
  · refine (θ_run Cert.HeadsIdeal.defs _ _).mono (fun _ h c => ⟨?_, ?_, h.2 c⟩)
      (θ_run_and (Cert.HeadsIdeal.Gen.run_main (F := Ideal) m ρ) (Cert.HeadsIdeal.Gen.unchanged (F := Ideal) m ρ))
    · exact ((h.1 c).2 Cert.HeadsIdeal.main_v43 (Pipeline.mem_restRefs_of Cert.HeadsIdeal.main_v43 (by decide) (by decide))).trans (Heads.kernel_cls m c)
    · exact ((h.1 c).2 Cert.HeadsIdeal.main_v45 (Pipeline.mem_restRefs_of Cert.HeadsIdeal.main_v45 (by decide) (by decide))).trans (Heads.kernel_reg m c)
  · refine (θ_run Cert.HeadsReferenceIdeal.defs _ _).mono (fun _ h c => ⟨?_, ?_, (h c).2.2⟩) (Cert.HeadsReferenceIdeal.Value.run (F := Ideal) m' ρ')
    · have e := (h c).1.trans (HeadsRef.ref_cls m' c)
      rw [(hag c).1, (hag c).2.1, (hag c).2.2.1, (hag c).2.2.2.1, (hag c).2.2.2.2.1] at e
      exact e
    · have e := (h c).2.1.trans (HeadsRef.ref_reg m' c)
      rw [(hag c).1, (hag c).2.1, (hag c).2.2.1, (hag c).2.2.2.2.2.1, (hag c).2.2.2.2.2.2] at e
      exact e

/-- The compaction runs to its end, leaves its arguments as they were and every semaphore at zero. -/
theorem frame_compact : Cert.quiescent_Compact := fun m ρ _ => Cert.Compact.Gen.frame m ρ

/-- So does it over the extended reals. -/
theorem frame_compact_ideal : Cert.quiescent_CompactIdeal := fun m ρ _ => Cert.CompactIdeal.Gen.frame m ρ

/-- So does it from the memories whose rows are in order. -/
theorem frame_compact_ideal_in_order : Cert.quiescent_CompactIdeal_pre_in_order := fun m ρ _ => Cert.CompactIdeal.Gen.frame m ρ

/-- So does its reference over the extended reals. -/
theorem frame_compact_reference : Cert.quiescent_CompactReferenceIdeal := fun m ρ _ =>
  (θ_run Cert.CompactReferenceIdeal.defs _ _).mono (fun r h => ⟨fun c => (h c).2.2, sem_eq_zero_of_no_sems (by decide) r.2⟩)
    (Cert.CompactReferenceIdeal.Value.run (F := Ideal) m ρ)

/-- So does the reference from the memories whose rows are in order. -/
theorem frame_compact_reference_in_order : Cert.quiescent_CompactReferenceIdeal_pre_in_order := fun m ρ _ => frame_compact_reference m ρ trivial

/-- From rows in order the boxes the compaction leaves are the reference's. -/
theorem boxes_eq (x0 : FVec Ideal Cert.CompactIdeal.S10240x8 .f32) (x1 : FVec Ideal Cert.CompactIdeal.S80x1x128 .f32)
    (h : Cert.Pre_in_order.fn (F := Ideal) x0 x1 = fun _ => 1#1) : Comp.boxesOf (Comp.movedRows x0 x1) = CompRef.refBoxes x0 x1 := by
  classical
  obtain ⟨_, hs, h0⟩ := CompPre.in_order x0 x1 h
  funext i
  rw [ValueIdx.eq_ix2 i]
  obtain ⟨n, hn, hb, _⟩ := CompRef.ref_apply x0 x1 (i 0)
  exact (Comp.boxesOf_apply _ (i 0) (i 1)).trans ((Comp.sum_slot (Comp.kept x1) (Comp.col x0 6) 10240 (i 0).val n.val n.isLt hn hs h0 (Comp.col x0 _)).trans (hb (i 1)).symm)

/-- And so are the scores. -/
theorem scores_eq (x0 : FVec Ideal Cert.CompactIdeal.S10240x8 .f32) (x1 : FVec Ideal Cert.CompactIdeal.S80x1x128 .f32)
    (h : Cert.Pre_in_order.fn (F := Ideal) x0 x1 = fun _ => 1#1) : Comp.scoresOf (Comp.movedRows x0 x1) = CompRef.refScores x0 x1 := by
  classical
  obtain ⟨_, hs, h0⟩ := CompPre.in_order x0 x1 h
  funext i
  rw [ValueIdx.eq_ix1 i]
  obtain ⟨n, hn, _, hb⟩ := CompRef.ref_apply x0 x1 (i 0)
  exact (Comp.scoresOf_apply _ (i 0)).trans ((Comp.sum_slot (Comp.kept x1) (Comp.col x0 6) 10240 (i 0).val n.val n.isLt hn hs h0 (Comp.col x0 6)).trans hb.symm)

/-- From rows in order the compaction and its reference compute the same boxes and scores over the extended reals. -/
theorem algebraic_compact : Cert.algebraic_CompactIdeal_CompactReferenceIdeal_pre_in_order := by
  intro m ρ m' ρ' hpre hag
  refine ⟨fun c => CompRef.refBoxes (m ((c.tc : Thread _ _).loc Cert.CompactIdeal.main_arg0)) (m ((c.tc : Thread _ _).loc Cert.CompactIdeal.main_arg1)),
    fun c => CompRef.refScores (m ((c.tc : Thread _ _).loc Cert.CompactIdeal.main_arg0)) (m ((c.tc : Thread _ _).loc Cert.CompactIdeal.main_arg1)), ?_, ?_⟩
  · refine (θ_run Cert.CompactIdeal.defs _ _).mono (fun _ h c => ⟨?_, ?_, h.2 c⟩)
      (θ_run_and (Cert.CompactIdeal.Gen.run_main (F := Ideal) m ρ) (Cert.CompactIdeal.Gen.unchanged (F := Ideal) m ρ))
    · exact ((h.1 c).2 Cert.CompactIdeal.main_v5 (Pipeline.mem_restRefs_of Cert.CompactIdeal.main_v5 (by decide) (by decide))).trans
        ((Comp.kernel_boxes m c (CompPre.in_order _ _ (hpre c)).1).trans (boxes_eq _ _ (hpre c)))
    · exact ((h.1 c).2 Cert.CompactIdeal.main_v7 (Pipeline.mem_restRefs_of Cert.CompactIdeal.main_v7 (by decide) (by decide))).trans
        ((Comp.kernel_scores m c (CompPre.in_order _ _ (hpre c)).1).trans (scores_eq _ _ (hpre c)))
  · refine (θ_run Cert.CompactReferenceIdeal.defs _ _).mono (fun _ h c => ⟨?_, ?_, (h c).2.2⟩) (Cert.CompactReferenceIdeal.Value.run (F := Ideal) m' ρ')
    · have e := (h c).1
      rw [(hag c).1, (hag c).2] at e
      exact e
    · have e := (h c).2.1
      rw [(hag c).1, (hag c).2] at e
      exact e

/-- The decoding runs to its end, leaves its arguments as they were and every semaphore at zero. -/
theorem frame_decode : Cert.quiescent_Decode := fun m ρ _ => Cert.Decode.Gen.frame m ρ

/-- So does it over the extended reals. -/
theorem frame_decode_ideal : Cert.quiescent_DecodeIdeal := fun m ρ _ => Cert.DecodeIdeal.Gen.frame m ρ

/-- So does its reference over the extended reals. -/
theorem frame_decode_reference : Cert.quiescent_DecodeReferenceIdeal := fun m ρ _ =>
  (θ_run Cert.DecodeReferenceIdeal.defs _ _).mono (fun r h => ⟨fun c => (h c).2, sem_eq_zero_of_no_sems (by decide) r.2⟩)
    (Cert.DecodeReferenceIdeal.Value.run (F := Ideal) m ρ)

/-- The decoding and its reference compute the same rows over the extended reals. -/
theorem algebraic_decode : Cert.algebraic_DecodeIdeal_DecodeReferenceIdeal := by
  intro m ρ m' ρ' _ hag
  refine ⟨fun c => Decode.allRows (Decode.outputRows (m ((c.tc : Thread _ _).loc Cert.DecodeIdeal.main_arg0)) (m ((c.tc : Thread _ _).loc Cert.DecodeIdeal.main_arg1)))
    (Decode.anchorRows (Decode.base Decode.ratios Decode.scales)), ?_, ?_⟩
  · exact (θ_run Cert.DecodeIdeal.defs _ _).mono (fun _ h c => ⟨((h.1 c).1 2).trans (Decode.kernel_rows m c), h.2 c⟩)
      (θ_run_and (Cert.DecodeIdeal.Gen.run_main (F := Ideal) m ρ) (Cert.DecodeIdeal.Gen.unchanged (F := Ideal) m ρ))
  · refine (θ_run Cert.DecodeReferenceIdeal.defs _ _).mono (fun _ h c => ⟨?_, (h c).2⟩) (Cert.DecodeReferenceIdeal.Value.run (F := Ideal) m' ρ')
    have e := (h c).1.trans (DecodeRef.rows_eq (StableHlo.launchContents m' c)).symm
    have a0 : StableHlo.launchContents m' c (Proc.devRef .tc Cert.DecodeReferenceIdeal.main_arg0) = m ((c.tc : Thread _ _).loc Cert.DecodeIdeal.main_arg0) := (hag c).1
    have a1 : StableHlo.launchContents m' c (Proc.devRef .tc Cert.DecodeReferenceIdeal.main_arg1) = m ((c.tc : Thread _ _).loc Cert.DecodeIdeal.main_arg1) := (hag c).2
    rw [a0, a1] at e
    exact e

theorem claim : Cert.Claim := ⟨Cert.Kernel.Gen.facts, Cert.KernelIdeal.Gen.facts, Cert.ReferenceIdeal.Gen.facts,
  Cert.Heads.Gen.facts, Cert.HeadsIdeal.Gen.facts, Cert.HeadsReferenceIdeal.Gen.facts,
  Cert.Compact.Gen.facts, Cert.CompactIdeal.Gen.facts, Cert.CompactReferenceIdeal.Gen.facts,
  Cert.Decode.Gen.facts, Cert.DecodeIdeal.Gen.facts, Cert.DecodeReferenceIdeal.Gen.facts, Cert.Pre_in_order.Gen.facts,
  frame_kernel, frame_ideal, frame_reference, frame_heads, frame_heads_ideal, frame_heads_reference,
  frame_compact, frame_compact_ideal, frame_compact_ideal_in_order, frame_compact_reference, frame_compact_reference_in_order,
  frame_decode, frame_decode_ideal, frame_decode_reference,
  trivial, algebraic, trivial, algebraic_heads, trivial, algebraic_compact, trivial, algebraic_decode⟩

end Cert.Proof

end
